-- ==== Defs.lean ====
def Pre_Kernel [hPre_distinct_rows : Cert.Pre_distinct_rows.Facts] (m : (ℓ : Loc Cert.Kernel.nD Cert.Kernel.τ Cert.Kernel.sig) → Buf (Elt Bits) ℓ) : Prop :=
  ∀ c : Dev Cert.Kernel.nD,
    (Cert.Pre_distinct_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_distinct_rows : Cert.Pre_distinct_rows.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_rows [hPre_distinct_rows : Cert.Pre_distinct_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_distinct_rows : Cert.Pre_distinct_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_distinct_rows : Cert.Pre_distinct_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_distinct_rows [hReferenceIdeal : Cert.ReferenceIdeal.Facts] [hPre_distinct_rows : Cert.Pre_distinct_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct_rows : Cert.Pre_distinct_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_distinct_rows : Cert.Pre_distinct_rows.Facts),
    quiescent_Kernel (hKernel := hKernel) (hPre_distinct_rows := hPre_distinct_rows)
    ∧ quiescent_KernelIdeal (hKernelIdeal := hKernelIdeal) (hPre_distinct_rows := hPre_distinct_rows)
    ∧ quiescent_ReferenceIdeal (hReferenceIdeal := hReferenceIdeal)
    ∧ quiescent_ReferenceIdeal_pre_distinct_rows (hReferenceIdeal := hReferenceIdeal) (hPre_distinct_rows := hPre_distinct_rows)
    ∧ preserves_Kernel_KernelIdeal
    ∧ algebraic_KernelIdeal_ReferenceIdeal (hKernelIdeal := hKernelIdeal) (hReferenceIdeal := hReferenceIdeal) (hPre_distinct_rows := hPre_distinct_rows)
-- ==== Pre_distinct_rows.lean ====
abbrev S32768x128 : Shape := ⟨2, ![32768, 128]⟩
abbrev S16x4096 : Shape := ⟨2, ![16, 4096]⟩
abbrev S16 : Shape := ⟨1, ![16]⟩
abbrev S384x128 : Shape := ⟨2, ![384, 128]⟩
abbrev S384 : Shape := ⟨1, ![384]⟩
abbrev S16x2048 : Shape := ⟨2, ![16, 2048]⟩
abbrev S32768 : Shape := ⟨1, ![32768]⟩
abbrev S_ : Shape := ⟨0, ![]⟩
abbrev S32768x1 : Shape := ⟨2, ![32768, 1]⟩
abbrev S1x32768 : Shape := ⟨2, ![1, 32768]⟩
abbrev S32768x32768 : Shape := ⟨2, ![32768, 32768]⟩

class Facts : Prop where
  slices_S16x4096_S16x2048_0_0 : S16x4096.Slices ![0, 0] S16x2048
  shapeCasts_S16x2048_S32768 : S16x2048.ShapeCasts S32768
  slices_S16x4096_S16x2048_0_2048 : S16x4096.Slices ![0, 2048] S16x2048
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)

variable [Facts]

def fn_part1 {F : FTy → Type} [FloatOps F] (main_v14 : IVec S32768 1) (main_v19 : IVec S32768x32768 1) (main_v20 : IVec S32768x1 32) (main_v21 : IVec S1x32768 32) : IVec S32768x32768 1 :=
  let main_v22 : IVec S32768x32768 32 := broadcastInDim S32768x32768 ![0, 1] bcast_S32768x1_S32768x32768_0_1 main_v20
  let main_v23 : IVec S32768x32768 32 := broadcastInDim S32768x32768 ![0, 1] bcast_S1x32768_S32768x32768_0_1 main_v21
  let main_v24 : IVec S32768x32768 1 := cmpi .eq main_v22 main_v23
  let main_v25 : IVec S32768x32768 1 := ori main_v19 main_v24
  let main_v26 : IVec S32768x1 1 := broadcastInDim S32768x1 ![0] bcast_S32768_S32768x1_0 main_v14
  let main_v27 : IVec S32768x32768 1 := broadcastInDim S32768x32768 ![0, 1] bcast_S32768x1_S32768x32768_0_1 main_v26
  let main_v28 : IVec S32768x32768 1 := andi main_v25 main_v27
  main_v28

def fn {F : FTy → Type} [FloatOps F] (main_arg0 : FVec F S32768x128 .f32) (main_arg1 : IVec S16x4096 32) (main_arg2 : IVec S16x4096 1) (main_arg3 : IVec S16 32) (main_arg4 : FVec F S384x128 .f32) (main_arg5 : FVec F S384x128 .f32) (main_arg6 : FVec F S384 .f32) (main_arg7 : FVec F S384 .f32) : IVec S32768x32768 1 :=
  let main_v0 : IVec S16x2048 32 := (extractStridedSlice S16x2048 ![0, 0] · slices_S16x4096_S16x2048_0_0) main_arg1
  let main_v1 : IVec S32768 32 := shapeCast S32768 main_v0 shapeCasts_S16x2048_S32768
  let main_v2 : IVec S16x2048 1 := (extractStridedSlice S16x2048 ![0, 0] · slices_S16x4096_S16x2048_0_0) main_arg2
  let main_v3 : IVec S32768 1 := shapeCast S32768 main_v2 shapeCasts_S16x2048_S32768
  let main_v4 : IVec S16x2048 1 := (extractStridedSlice S16x2048 ![0, 2048] · slices_S16x4096_S16x2048_0_2048) main_arg2
  let main_v5 : IVec S32768 1 := shapeCast S32768 main_v4 shapeCasts_S16x2048_S32768
  let main_v6 : IVec S32768 1 := noti main_v5
  let main_v7 : IVec S32768 1 := andi main_v3 main_v6
  let main_v8 : IVec S32768 32 := iotaInDim S32768 32 0
  let main_c : IVec S_ 32 := constantI S_ 32 0#32
  let main_v9 : IVec S32768 32 := broadcastInDim S32768 ![] bcast_S_S32768 main_c
  let main_v10 : IVec S32768 1 := cmpi .sge main_v1 main_v9
  let main_v11 : IVec S32768 1 := andi main_v7 main_v10
  let main_c_0 : IVec S_ 32 := constantI S_ 32 32768#32
  let main_v12 : IVec S32768 32 := broadcastInDim S32768 ![] bcast_S_S32768 main_c_0
  let main_v13 : IVec S32768 1 := cmpi .slt main_v1 main_v12
  let main_v14 : IVec S32768 1 := andi main_v11 main_v13
  let main_v15 : IVec S32768x1 32 := broadcastInDim S32768x1 ![0] bcast_S32768_S32768x1_0 main_v1
  let main_v16 : IVec S1x32768 32 := broadcastInDim S1x32768 ![1] bcast_S32768_S1x32768_1 main_v1
  let main_v17 : IVec S32768x32768 32 := broadcastInDim S32768x32768 ![0, 1] bcast_S32768x1_S32768x32768_0_1 main_v15
  let main_v18 : IVec S32768x32768 32 := broadcastInDim S32768x32768 ![0, 1] bcast_S1x32768_S32768x32768_0_1 main_v16
  let main_v19 : IVec S32768x32768 1 := cmpi .ne main_v17 main_v18
  let main_v20 : IVec S32768x1 32 := broadcastInDim S32768x1 ![0] bcast_S32768_S32768x1_0 main_v8
  let main_v21 : IVec S1x32768 32 := broadcastInDim S1x32768 ![1] bcast_S32768_S1x32768_1 main_v8
  fn_part1 (F := F) main_v14 main_v19 main_v20 main_v21
-- ==== Kernel.lean ====
abbrev S32768x128 : Shape := ⟨2, ![32768, 128]⟩
abbrev S16x4096 : Shape := ⟨2, ![16, 4096]⟩
abbrev S16 : Shape := ⟨1, ![16]⟩
abbrev S384x128 : Shape := ⟨2, ![384, 128]⟩
abbrev S384 : Shape := ⟨1, ![384]⟩
abbrev S16x2048 : Shape := ⟨2, ![16, 2048]⟩
abbrev S2048x16 : Shape := ⟨2, ![2048, 16]⟩
abbrev S32768 : Shape := ⟨1, ![32768]⟩
abbrev S16384 : Shape := ⟨1, ![16384]⟩
abbrev S32x4x128 : Shape := ⟨3, ![32, 4, 128]⟩
abbrev S256 : Shape := ⟨1, ![256]⟩
abbrev S_ : Shape := ⟨0, ![]⟩
abbrev S128 : Shape := ⟨1, ![128]⟩
abbrev S8x384 : Shape := ⟨2, ![8, 384]⟩
abbrev S8x128 : Shape := ⟨2, ![8, 128]⟩
abbrev S128x384 : Shape := ⟨2, ![128, 384]⟩
abbrev S16384x128 : Shape := ⟨2, ![16384, 128]⟩
abbrev S4x128 : Shape := ⟨2, ![4, 128]⟩
abbrev S128x128 : Shape := ⟨2, ![128, 128]⟩
abbrev S1x4x128 : Shape := ⟨3, ![1, 4, 128]⟩
abbrev S1x128 : Shape := ⟨2, ![1, 128]⟩
abbrev S1024x16x128 : Shape := ⟨3, ![1024, 16, 128]⟩
abbrev S16x128 : Shape := ⟨2, ![16, 128]⟩
abbrev S512x16x128 : Shape := ⟨3, ![512, 16, 128]⟩
abbrev S512x16x384 : Shape := ⟨3, ![512, 16, 384]⟩
abbrev S8192x128 : Shape := ⟨2, ![8192, 128]⟩
abbrev S8192x384 : Shape := ⟨2, ![8192, 384]⟩
abbrev S1x384 : Shape := ⟨2, ![1, 384]⟩
abbrev S16x384 : Shape := ⟨2, ![16, 384]⟩
abbrev S1x16x384 : Shape := ⟨3, ![1, 16, 384]⟩
abbrev S1x16x128 : Shape := ⟨3, ![1, 16, 128]⟩

abbrev nBuf : Table → Nat
  | .hbm => 41
  | .local .tc .vmem => 24
  | .local .scVector .vmem => 8
  | _ => 0

abbrev bufTy : (tb : Table) → Fin (nBuf tb) → BufTy
  | .hbm, ⟨0, _⟩ => ⟨S32768x128, .f32⟩
  | .hbm, ⟨1, _⟩ => ⟨S16x4096, .i32⟩
  | .hbm, ⟨2, _⟩ => ⟨S16x4096, .i1⟩
  | .hbm, ⟨3, _⟩ => ⟨S16, .i32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S16x2048, .i32⟩
  | .hbm, ⟨9, _⟩ => ⟨S2048x16, .i32⟩
  | .hbm, ⟨10, _⟩ => ⟨S32768, .i32⟩
  | .hbm, ⟨11, _⟩ => ⟨S16384, .i32⟩
  | .hbm, ⟨12, _⟩ => ⟨S32x4x128, .i32⟩
  | .hbm, ⟨13, _⟩ => ⟨S16384, .i32⟩
  | .hbm, ⟨14, _⟩ => ⟨S32x4x128, .i32⟩
  | .hbm, ⟨15, _⟩ => ⟨S256, .f32⟩
  | .hbm, ⟨16, _⟩ => ⟨S_, .f32⟩
  | .hbm, ⟨17, _⟩ => ⟨S128, .f32⟩
  | .hbm, ⟨18, _⟩ => ⟨S384, .f32⟩
  | .hbm, ⟨19, _⟩ => ⟨S384, .f32⟩
  | .hbm, ⟨20, _⟩ => ⟨S8x384, .f32⟩
  | .hbm, ⟨21, _⟩ => ⟨S128, .f32⟩
  | .hbm, ⟨22, _⟩ => ⟨S8x128, .f32⟩
  | .hbm, ⟨23, _⟩ => ⟨S128x384, .f32⟩
  | .hbm, ⟨24, _⟩ => ⟨S128x384, .bf16⟩
  | .hbm, ⟨25, _⟩ => ⟨S128x384, .f32⟩
  | .hbm, ⟨26, _⟩ => ⟨S128x384, .bf16⟩
  | .hbm, ⟨27, _⟩ => ⟨S16384x128, .f32⟩
  | .hbm, ⟨28, _⟩ => ⟨S1024x16x128, .f32⟩
  | .hbm, ⟨29, _⟩ => ⟨S16384x128, .f32⟩
  | .hbm, ⟨30, _⟩ => ⟨S1024x16x128, .f32⟩
  | .hbm, ⟨31, _⟩ => ⟨S_, .f32⟩
  | .hbm, ⟨32, _⟩ => ⟨S16x128, .f32⟩
  | .hbm, ⟨33, _⟩ => ⟨S_, .f32⟩
  | .hbm, ⟨34, _⟩ => ⟨S32768x128, .f32⟩
  | .hbm, ⟨35, _⟩ => ⟨S1024x16x128, .f32⟩
  | .hbm, ⟨36, _⟩ => ⟨S16x128, .f32⟩
  | .hbm, ⟨37, _⟩ => ⟨S16384x128, .f32⟩
  | .hbm, ⟨38, _⟩ => ⟨S1024x16x128, .f32⟩
  | .hbm, ⟨39, _⟩ => ⟨S16x128, .f32⟩
  | .hbm, ⟨40, _⟩ => ⟨S16384x128, .f32⟩
  | .local .tc .vmem, ⟨0, _⟩ => ⟨S512x16x128, .f32⟩
  | .local .tc .vmem, ⟨1, _⟩ => ⟨S512x16x128, .f32⟩
  | .local .tc .vmem, ⟨2, _⟩ => ⟨S128x384, .bf16⟩
  | .local .tc .vmem, ⟨3, _⟩ => ⟨S128x384, .bf16⟩
  | .local .tc .vmem, ⟨4, _⟩ => ⟨S8x384, .f32⟩
  | .local .tc .vmem, ⟨5, _⟩ => ⟨S8x128, .f32⟩
  | .local .tc .vmem, ⟨6, _⟩ => ⟨S16x128, .f32⟩
  | .local .tc .vmem, ⟨7, _⟩ => ⟨S512x16x128, .f32⟩
  | .local .tc .vmem, ⟨8, _⟩ => ⟨S512x16x128, .f32⟩
  | .local .tc .vmem, ⟨9, _⟩ => ⟨S16x128, .f32⟩
  | .local .tc .vmem, ⟨10, _⟩ => ⟨S16x128, .f32⟩
  | .local .tc .vmem, ⟨11, _⟩ => ⟨S512x16x384, .f32⟩
  | .local .tc .vmem, ⟨12, _⟩ => ⟨S512x16x128, .f32⟩
  | .local .tc .vmem, ⟨13, _⟩ => ⟨S512x16x128, .f32⟩
  | .local .tc .vmem, ⟨14, _⟩ => ⟨S128x384, .bf16⟩
  | .local .tc .vmem, ⟨15, _⟩ => ⟨S128x384, .bf16⟩
  | .local .tc .vmem, ⟨16, _⟩ => ⟨S8x384, .f32⟩
  | .local .tc .vmem, ⟨17, _⟩ => ⟨S8x128, .f32⟩
  | .local .tc .vmem, ⟨18, _⟩ => ⟨S16x128, .f32⟩
  | .local .tc .vmem, ⟨19, _⟩ => ⟨S512x16x128, .f32⟩
  | .local .tc .vmem, ⟨20, _⟩ => ⟨S512x16x128, .f32⟩
  | .local .tc .vmem, ⟨21, _⟩ => ⟨S16x128, .f32⟩
  | .local .tc .vmem, ⟨22, _⟩ => ⟨S16x128, .f32⟩
  | .local .tc .vmem, ⟨23, _⟩ => ⟨S512x16x384, .f32⟩
  | .local .scVector .vmem, ⟨0, _⟩ => ⟨S4x128, .i32⟩
  | .local .scVector .vmem, ⟨1, _⟩ => ⟨S128x128, .f32⟩
  | .local .scVector .vmem, ⟨2, _⟩ => ⟨S4x128, .i32⟩
  | .local .scVector .vmem, ⟨3, _⟩ => ⟨S128x128, .f32⟩
  | .local .scVector .vmem, ⟨4, _⟩ => ⟨S4x128, .i32⟩
  | .local .scVector .vmem, ⟨5, _⟩ => ⟨S128x128, .f32⟩
  | .local .scVector .vmem, ⟨6, _⟩ => ⟨S4x128, .i32⟩
  | .local .scVector .vmem, ⟨7, _⟩ => ⟨S128x128, .f32⟩
  | _, _ => ⟨S32768x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => false
  | ⟨39, _⟩ => false
  | ⟨40, _⟩ => false
  | ⟨41, _⟩ => false
  | ⟨42, _⟩ => false
  | ⟨43, _⟩ => false
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v25 : Ref sig .tc := ⟨.hbm, 37, rfl⟩
abbrev main_v27_0 : Ref sig .tc := ⟨.hbm, 38, rfl⟩
abbrev main_v27_1 : Ref sig .tc := ⟨.hbm, 39, rfl⟩
abbrev main_v28 : Ref sig .tc := ⟨.hbm, 40, rfl⟩
abbrev main_arg0_scv : Ref sig .scVector := ⟨.hbm, 0, rfl⟩
abbrev main_v4_scv : Ref sig .scVector := ⟨.hbm, 12, rfl⟩
abbrev main_v18_scv : Ref sig .scVector := ⟨.hbm, 27, rfl⟩
abbrev main_v6_scv : Ref sig .scVector := ⟨.hbm, 14, rfl⟩
abbrev main_v20_scv : Ref sig .scVector := ⟨.hbm, 29, rfl⟩
abbrev main_v25_scv : Ref sig .scVector := ⟨.hbm, 37, rfl⟩
abbrev main_v23_scv : Ref sig .scVector := ⟨.hbm, 34, rfl⟩
abbrev main_v28_scv : Ref sig .scVector := ⟨.hbm, 40, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg4_0 : Ref sig .tc := ⟨.vmem, 5, rfl⟩
abbrev cc2_stg5_0 : Ref sig .tc := ⟨.vmem, 6, rfl⟩
abbrev cc2_stg6_0 : Ref sig .tc := ⟨.vmem, 7, rfl⟩
abbrev cc2_stg6_1 : Ref sig .tc := ⟨.vmem, 8, rfl⟩
abbrev cc2_stg7_0 : Ref sig .tc := ⟨.vmem, 9, rfl⟩
abbrev cc2_scratch0 : Ref sig .tc := ⟨.vmem, 10, rfl⟩
abbrev cc2_scratch1 : Ref sig .tc := ⟨.vmem, 11, rfl⟩
abbrev cc4_stg0_0 : Ref sig .tc := ⟨.vmem, 12, rfl⟩
abbrev cc4_stg0_1 : Ref sig .tc := ⟨.vmem, 13, rfl⟩
abbrev cc4_stg1_0 : Ref sig .tc := ⟨.vmem, 14, rfl⟩
abbrev cc4_stg2_0 : Ref sig .tc := ⟨.vmem, 15, rfl⟩
abbrev cc4_stg3_0 : Ref sig .tc := ⟨.vmem, 16, rfl⟩
abbrev cc4_stg4_0 : Ref sig .tc := ⟨.vmem, 17, rfl⟩
abbrev cc4_stg5_0 : Ref sig .tc := ⟨.vmem, 18, rfl⟩
abbrev cc4_stg6_0 : Ref sig .tc := ⟨.vmem, 19, rfl⟩
abbrev cc4_stg6_1 : Ref sig .tc := ⟨.vmem, 20, rfl⟩
abbrev cc4_stg7_0 : Ref sig .tc := ⟨.vmem, 21, rfl⟩
abbrev cc4_scratch0 : Ref sig .tc := ⟨.vmem, 22, rfl⟩
abbrev cc4_scratch1 : Ref sig .tc := ⟨.vmem, 23, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc3_scratch0 : Ref sig .scVector := ⟨.vmem, 4, rfl⟩
abbrev cc3_scratch1 : Ref sig .scVector := ⟨.vmem, 5, rfl⟩
abbrev cc5_scratch0 : Ref sig .scVector := ⟨.vmem, 6, rfl⟩
abbrev cc5_scratch1 : Ref sig .scVector := ⟨.vmem, 7, rfl⟩
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc2_sem7_0 : DmaSem sig := 21
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem6_1 : DmaSem sig := 36
abbrev cc4_sem7_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r0 : BitVec 32 := 0#32
  let c0_i32_31_r0 : BitVec 32 := 0#32
  ![v1.toNat, 0, 0]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c0_i32_7
  let c0_i32_30_r1 : BitVec 32 := 0#32
  ![v9.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r0 : BitVec 32 := 0#32
  let c0_i32_31_r0 : BitVec 32 := 0#32
  ![v1.toNat, 0, 0]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v9 : BitVec 32 := Scalar.addi v2 c0_i32_7
  let c0_i32_30_r1 : BitVec 32 := 0#32
  ![v9.toNat, 0]
abbrev grid2 : Pipeline.Grid := ⟨1, ![2], ![false]⟩

@[reducible] def k2_t1_loop : Scf.Loop 32 :=
  let c0_i32_16 : BitVec 32 := 0#32
  let c512_i32 : BitVec 32 := 512#32
  let v23 : BitVec 32 := Scalar.addi c0_i32_16 c512_i32
  let c1_i32 : BitVec 32 := 1#32
  ⟨c0_i32_16, v23, c1_i32⟩
def k2_off1 (k2_t1 : Fin k2_t1_loop.trips) : Fin 3 → Nat :=
  let c0_i32_16 : BitVec 32 := 0#32
  let c1_i32 : BitVec 32 := 1#32
  let arg11 : BitVec 32 := Scf.iv c0_i32_16 c1_i32 k2_t1
  let v31 : Index := Scalar.indexCast arg11
  let c0_23 : Index := 0#32
  let c0_24 : Index := 0#32
  ![v31.toNat, 0, 0]
def k2_off2 (k2_t1 : Fin k2_t1_loop.trips) : Fin 3 → Nat :=
  let c0_i32_16 : BitVec 32 := 0#32
  let c1_i32 : BitVec 32 := 1#32
  let arg11 : BitVec 32 := Scf.iv c0_i32_16 c1_i32 k2_t1
  let v64 : Index := Scalar.indexCast arg11
  let c0_31 : Index := 0#32
  let c0_32 : Index := 0#32
  ![v64.toNat, 0, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x384 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x16x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S16x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r0 : BitVec 32 := 0#32
  let c0_i32_31_r0 : BitVec 32 := 0#32
  ![v1.toNat, 0, 0]
def k3_off2 (i : grid3.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_30_r1 : BitVec 32 := 0#32
  ![v3.toNat, 0]
abbrev grid4 : Pipeline.Grid := ⟨1, ![2], ![false]⟩

@[reducible] def k4_t1_loop : Scf.Loop 32 :=
  let c0_i32_16 : BitVec 32 := 0#32
  let c512_i32 : BitVec 32 := 512#32
  let v23 : BitVec 32 := Scalar.addi c0_i32_16 c512_i32
  let c1_i32 : BitVec 32 := 1#32
  ⟨c0_i32_16, v23, c1_i32⟩
def k4_off1 (k4_t1 : Fin k4_t1_loop.trips) : Fin 3 → Nat :=
  let c0_i32_16 : BitVec 32 := 0#32
  let c1_i32 : BitVec 32 := 1#32
  let arg11 : BitVec 32 := Scf.iv c0_i32_16 c1_i32 k4_t1
  let v31 : Index := Scalar.indexCast arg11
  let c0_23 : Index := 0#32
  let c0_24 : Index := 0#32
  ![v31.toNat, 0, 0]
def k4_off2 (k4_t1 : Fin k4_t1_loop.trips) : Fin 3 → Nat :=
  let c0_i32_16 : BitVec 32 := 0#32
  let c1_i32 : BitVec 32 := 1#32
  let arg11 : BitVec 32 := Scf.iv c0_i32_16 c1_i32 k4_t1
  let v64 : Index := Scalar.indexCast arg11
  let c0_31 : Index := 0#32
  let c0_32 : Index := 0#32
  ![v64.toNat, 0, 0]
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x16x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x384 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x384 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x16x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S16x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨2, ![2, 16], ![false, false]⟩

def k5_off1 (i : grid5.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r0 : BitVec 32 := 0#32
  let c0_i32_31_r0 : BitVec 32 := 0#32
  ![v1.toNat, 0, 0]
def k5_off2 (i : grid5.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_30_r1 : BitVec 32 := 0#32
  ![v3.toNat, 0]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S32768x128 : Shape := ⟨2, ![32768, 128]⟩
abbrev S16x4096 : Shape := ⟨2, ![16, 4096]⟩
abbrev S16 : Shape := ⟨1, ![16]⟩
abbrev S384x128 : Shape := ⟨2, ![384, 128]⟩
abbrev S384 : Shape := ⟨1, ![384]⟩
abbrev S_ : Shape := ⟨0, ![]⟩
abbrev S16x4096x1 : Shape := ⟨3, ![16, 4096, 1]⟩
abbrev S16x4096x128 : Shape := ⟨3, ![16, 4096, 128]⟩
abbrev S4096x16x128 : Shape := ⟨3, ![4096, 16, 128]⟩
abbrev S4096x16 : Shape := ⟨2, ![4096, 16]⟩
abbrev S16x128 : Shape := ⟨2, ![16, 128]⟩
abbrev S1x16x128 : Shape := ⟨3, ![1, 16, 128]⟩
abbrev S1x16 : Shape := ⟨2, ![1, 16]⟩
abbrev S128x384 : Shape := ⟨2, ![128, 384]⟩
abbrev S16x384 : Shape := ⟨2, ![16, 384]⟩
abbrev S1x384 : Shape := ⟨2, ![1, 384]⟩
abbrev S16x1 : Shape := ⟨2, ![16, 1]⟩
abbrev S65536x128 : Shape := ⟨2, ![65536, 128]⟩
abbrev S65536 : Shape := ⟨1, ![65536]⟩
abbrev S32769x128 : Shape := ⟨2, ![32769, 128]⟩
abbrev S65536x1 : Shape := ⟨2, ![65536, 1]⟩

abbrev nBuf : Space → Nat
  | .hbm => 123
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16x4096, .i32⟩
  | .hbm, ⟨2, _⟩ => ⟨S16x4096, .i1⟩
  | .hbm, ⟨3, _⟩ => ⟨S16, .i32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S_, .i32⟩
  | .hbm, ⟨9, _⟩ => ⟨S16x4096, .i32⟩
  | .hbm, ⟨10, _⟩ => ⟨S16x4096, .i1⟩
  | .hbm, ⟨11, _⟩ => ⟨S_, .i32⟩
  | .hbm, ⟨12, _⟩ => ⟨S16x4096, .i32⟩
  | .hbm, ⟨13, _⟩ => ⟨S16x4096, .i32⟩
  | .hbm, ⟨14, _⟩ => ⟨S16x4096, .i32⟩
  | .hbm, ⟨15, _⟩ => ⟨S16x4096x1, .i32⟩
  | .hbm, ⟨16, _⟩ => ⟨S16x4096x128, .f32⟩
  | .hbm, ⟨17, _⟩ => ⟨S16x4096x1, .i1⟩
  | .hbm, ⟨18, _⟩ => ⟨S_, .f32⟩
  | .hbm, ⟨19, _⟩ => ⟨S_, .f32⟩
  | .hbm, ⟨20, _⟩ => ⟨S16x4096x128, .i1⟩
  | .hbm, ⟨21, _⟩ => ⟨S16x4096x128, .f32⟩
  | .hbm, ⟨22, _⟩ => ⟨S16x4096x128, .f32⟩
  | .hbm, ⟨23, _⟩ => ⟨S4096x16x128, .f32⟩
  | .hbm, ⟨24, _⟩ => ⟨S4096x16, .i1⟩
  | .hbm, ⟨25, _⟩ => ⟨S_, .f32⟩
  | .hbm, ⟨26, _⟩ => ⟨S16x128, .f32⟩
  | .hbm, ⟨27, _⟩ => ⟨S_, .f32⟩
  | .hbm, ⟨28, _⟩ => ⟨S4096x16x128, .f32⟩
  | .hbm, ⟨29, _⟩ => ⟨S_, .i32⟩
  | .hbm, ⟨30, _⟩ => ⟨S4096x16x128, .f32⟩
  | .hbm, ⟨31, _⟩ => ⟨S4096x16, .i1⟩
  | .hbm, ⟨32, _⟩ => ⟨S384x128, .f32⟩
  | .hbm, ⟨33, _⟩ => ⟨S384, .f32⟩
  | .hbm, ⟨34, _⟩ => ⟨S384x128, .f32⟩
  | .hbm, ⟨35, _⟩ => ⟨S384, .f32⟩
  | .hbm, ⟨36, _⟩ => ⟨S_, .i32⟩
  | .hbm, ⟨37, _⟩ => ⟨S16x128, .f32⟩
  | .hbm, ⟨38, _⟩ => ⟨S4096x16x128, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S1x16x128, .f32⟩
  | .hbm, ⟨44, _⟩ => ⟨S16x128, .f32⟩
  | .hbm, ⟨45, _⟩ => ⟨S_, .i32⟩
  | .hbm, ⟨46, _⟩ => ⟨S1x16, .i1⟩
  | .hbm, ⟨47, _⟩ => ⟨S16, .i1⟩
  | .hbm, ⟨48, _⟩ => ⟨S128x384, .f32⟩
  | .hbm, ⟨49, _⟩ => ⟨S16x384, .f32⟩
  | .hbm, ⟨50, _⟩ => ⟨S1x384, .f32⟩
  | .hbm, ⟨51, _⟩ => ⟨S16x384, .f32⟩
  | .hbm, ⟨52, _⟩ => ⟨S16x384, .f32⟩
  | .hbm, ⟨53, _⟩ => ⟨S128x384, .f32⟩
  | .hbm, ⟨54, _⟩ => ⟨S16x384, .f32⟩
  | .hbm, ⟨55, _⟩ => ⟨S1x384, .f32⟩
  | .hbm, ⟨56, _⟩ => ⟨S16x384, .f32⟩
  | .hbm, ⟨57, _⟩ => ⟨S16x384, .f32⟩
  | .hbm, ⟨58, _⟩ => ⟨S16x128, .f32⟩
  | .hbm, ⟨59, _⟩ => ⟨S16x128, .f32⟩
  | .hbm, ⟨60, _⟩ => ⟨S16x128, .f32⟩
  | .hbm, ⟨61, _⟩ => ⟨S16x128, .f32⟩
  | .hbm, ⟨62, _⟩ => ⟨S16x128, .f32⟩
  | .hbm, ⟨63, _⟩ => ⟨S16x128, .f32⟩
  | .hbm, ⟨64, _⟩ => ⟨S16x128, .f32⟩
  | .hbm, ⟨65, _⟩ => ⟨S16x128, .f32⟩
  | .hbm, ⟨66, _⟩ => ⟨S16x128, .f32⟩
  | .hbm, ⟨67, _⟩ => ⟨S_, .f32⟩
  | .hbm, ⟨68, _⟩ => ⟨S16x128, .f32⟩
  | .hbm, ⟨69, _⟩ => ⟨S16x128, .f32⟩
  | .hbm, ⟨70, _⟩ => ⟨S_, .f32⟩
  | .hbm, ⟨71, _⟩ => ⟨S16x128, .f32⟩
  | .hbm, ⟨72, _⟩ => ⟨S16x128, .f32⟩
  | .hbm, ⟨73, _⟩ => ⟨S16x128, .f32⟩
  | .hbm, ⟨74, _⟩ => ⟨S16x128, .f32⟩
  | .hbm, ⟨75, _⟩ => ⟨S16x128, .f32⟩
  | .hbm, ⟨76, _⟩ => ⟨S_, .f32⟩
  | .hbm, ⟨77, _⟩ => ⟨S16x128, .f32⟩
  | .hbm, ⟨78, _⟩ => ⟨S16x128, .f32⟩
  | .hbm, ⟨79, _⟩ => ⟨S_, .f32⟩
  | .hbm, ⟨80, _⟩ => ⟨S16x128, .f32⟩
  | .hbm, ⟨81, _⟩ => ⟨S16x128, .f32⟩
  | .hbm, ⟨82, _⟩ => ⟨S16x128, .f32⟩
  | .hbm, ⟨83, _⟩ => ⟨S16x128, .f32⟩
  | .hbm, ⟨84, _⟩ => ⟨S16x128, .f32⟩
  | .hbm, ⟨85, _⟩ => ⟨S_, .f32⟩
  | .hbm, ⟨86, _⟩ => ⟨S16x128, .f32⟩
  | .hbm, ⟨87, _⟩ => ⟨S16x128, .f32⟩
  | .hbm, ⟨88, _⟩ => ⟨S16x128, .f32⟩
  | .hbm, ⟨89, _⟩ => ⟨S16x128, .f32⟩
  | .hbm, ⟨90, _⟩ => ⟨S16x128, .f32⟩
  | .hbm, ⟨91, _⟩ => ⟨S16x1, .i1⟩
  | .hbm, ⟨92, _⟩ => ⟨S16x128, .i1⟩
  | .hbm, ⟨93, _⟩ => ⟨S16x128, .f32⟩
  | .hbm, ⟨94, _⟩ => ⟨S1x16x128, .f32⟩
  | .hbm, ⟨95, _⟩ => ⟨S_, .i32⟩
  | .hbm, ⟨96, _⟩ => ⟨S_, .i32⟩
  | .hbm, ⟨97, _⟩ => ⟨S4096x16x128, .f32⟩
  | .hbm, ⟨98, _⟩ => ⟨S_, .i32⟩
  | .hbm, ⟨99, _⟩ => ⟨S_, .i32⟩
  | .hbm, ⟨100, _⟩ => ⟨S16x4096x128, .f32⟩
  | .hbm, ⟨101, _⟩ => ⟨S16x4096x1, .i1⟩
  | .hbm, ⟨102, _⟩ => ⟨S16x4096x1, .f32⟩
  | .hbm, ⟨103, _⟩ => ⟨S16x4096x128, .f32⟩
  | .hbm, ⟨104, _⟩ => ⟨S16x4096x128, .f32⟩
  | .hbm, ⟨105, _⟩ => ⟨S_, .i32⟩
  | .hbm, ⟨106, _⟩ => ⟨S_, .i32⟩
  | .hbm, ⟨107, _⟩ => ⟨S16x4096, .i32⟩
  | .hbm, ⟨108, _⟩ => ⟨S16x4096, .i32⟩
  | .hbm, ⟨109, _⟩ => ⟨S65536x128, .f32⟩
  | .hbm, ⟨110, _⟩ => ⟨S65536, .i32⟩
  | .hbm, ⟨111, _⟩ => ⟨S_, .f32⟩
  | .hbm, ⟨112, _⟩ => ⟨S32769x128, .f32⟩
  | .hbm, ⟨113, _⟩ => ⟨S_, .i32⟩
  | .hbm, ⟨114, _⟩ => ⟨S65536, .i32⟩
  | .hbm, ⟨115, _⟩ => ⟨S65536, .i1⟩
  | .hbm, ⟨116, _⟩ => ⟨S_, .i32⟩
  | .hbm, ⟨117, _⟩ => ⟨S65536, .i32⟩
  | .hbm, ⟨118, _⟩ => ⟨S65536, .i32⟩
  | .hbm, ⟨119, _⟩ => ⟨S65536, .i32⟩
  | .hbm, ⟨120, _⟩ => ⟨S65536x1, .i32⟩
  | .hbm, ⟨121, _⟩ => ⟨S32769x128, .f32⟩
  | .hbm, ⟨122, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_c_3 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev main_v13_6 : Ref sig .tc := ⟨.hbm, 36, rfl⟩
abbrev main_v13_7 : Ref sig .tc := ⟨.hbm, 37, rfl⟩
abbrev main_v13_8 : Ref sig .tc := ⟨.hbm, 38, rfl⟩
abbrev main_while0c_c_16 : Ref sig .tc := ⟨.hbm, 39, rfl⟩
abbrev main_while0c_v31 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_v0 : Ref sig .tc := ⟨.hbm, 43, rfl⟩
abbrev main_while0b_v31 : Ref sig .tc := ⟨.hbm, 44, rfl⟩
abbrev main_while0b_call2_c : Ref sig .tc := ⟨.hbm, 45, rfl⟩
abbrev main_while0b_call2_v0 : Ref sig .tc := ⟨.hbm, 46, rfl⟩
abbrev main_while0b_v32 : Ref sig .tc := ⟨.hbm, 47, rfl⟩
abbrev main_while0b_v33 : Ref sig .tc := ⟨.hbm, 48, rfl⟩
abbrev main_while0b_v34 : Ref sig .tc := ⟨.hbm, 49, rfl⟩
abbrev main_while0b_v35 : Ref sig .tc := ⟨.hbm, 50, rfl⟩
abbrev main_while0b_v36 : Ref sig .tc := ⟨.hbm, 51, rfl⟩
abbrev main_while0b_v37 : Ref sig .tc := ⟨.hbm, 52, rfl⟩
abbrev main_while0b_v38 : Ref sig .tc := ⟨.hbm, 53, rfl⟩
abbrev main_while0b_v39 : Ref sig .tc := ⟨.hbm, 54, rfl⟩
abbrev main_while0b_v40 : Ref sig .tc := ⟨.hbm, 55, rfl⟩
abbrev main_while0b_v41 : Ref sig .tc := ⟨.hbm, 56, rfl⟩
abbrev main_while0b_v42 : Ref sig .tc := ⟨.hbm, 57, rfl⟩
abbrev main_while0b_v43 : Ref sig .tc := ⟨.hbm, 58, rfl⟩
abbrev main_while0b_v44 : Ref sig .tc := ⟨.hbm, 59, rfl⟩
abbrev main_while0b_v45 : Ref sig .tc := ⟨.hbm, 60, rfl⟩
abbrev main_while0b_v46 : Ref sig .tc := ⟨.hbm, 61, rfl⟩
abbrev main_while0b_v47 : Ref sig .tc := ⟨.hbm, 62, rfl⟩
abbrev main_while0b_v48 : Ref sig .tc := ⟨.hbm, 63, rfl⟩
abbrev main_while0b_v49 : Ref sig .tc := ⟨.hbm, 64, rfl⟩
abbrev main_while0b_v50 : Ref sig .tc := ⟨.hbm, 65, rfl⟩
abbrev main_while0b_v51 : Ref sig .tc := ⟨.hbm, 66, rfl⟩
abbrev main_while0b_cst_16 : Ref sig .tc := ⟨.hbm, 67, rfl⟩
abbrev main_while0b_v52 : Ref sig .tc := ⟨.hbm, 68, rfl⟩
abbrev main_while0b_v53 : Ref sig .tc := ⟨.hbm, 69, rfl⟩
abbrev main_while0b_cst_17 : Ref sig .tc := ⟨.hbm, 70, rfl⟩
abbrev main_while0b_v54 : Ref sig .tc := ⟨.hbm, 71, rfl⟩
abbrev main_while0b_v55 : Ref sig .tc := ⟨.hbm, 72, rfl⟩
abbrev main_while0b_v56 : Ref sig .tc := ⟨.hbm, 73, rfl⟩
abbrev main_while0b_v57 : Ref sig .tc := ⟨.hbm, 74, rfl⟩
abbrev main_while0b_v58 : Ref sig .tc := ⟨.hbm, 75, rfl⟩
abbrev main_while0b_cst_18 : Ref sig .tc := ⟨.hbm, 76, rfl⟩
abbrev main_while0b_v59 : Ref sig .tc := ⟨.hbm, 77, rfl⟩
abbrev main_while0b_v60 : Ref sig .tc := ⟨.hbm, 78, rfl⟩
abbrev main_while0b_cst_19 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_cst_20 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_call3_v0 : Ref sig .tc := ⟨.hbm, 92, rfl⟩
abbrev main_while0b_v72 : Ref sig .tc := ⟨.hbm, 93, rfl⟩
abbrev main_while0b_call4_v0 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_v73 : Ref sig .tc := ⟨.hbm, 97, rfl⟩
abbrev main_while0b_c_21 : Ref sig .tc := ⟨.hbm, 98, rfl⟩
abbrev main_while0b_v74 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_c_4 : Ref sig .tc := ⟨.hbm, 105, rfl⟩
abbrev main_call5_v0 : Ref sig .tc := ⟨.hbm, 106, rfl⟩
abbrev main_call5_v1 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_cst_5 : Ref sig .tc := ⟨.hbm, 111, rfl⟩
abbrev main_v22 : Ref sig .tc := ⟨.hbm, 112, rfl⟩
abbrev main_c_6 : Ref sig .tc := ⟨.hbm, 113, rfl⟩
abbrev main_v23 : Ref sig .tc := ⟨.hbm, 114, rfl⟩
abbrev main_v24 : Ref sig .tc := ⟨.hbm, 115, rfl⟩
abbrev main_c_7 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩

abbrev nD : Nat := 1
abbrev τ : Topo := Topo.v7x

variable {F : FTy → Type} [FloatOps F]

abbrev main_while0_count : Scf.Loop 32 := ⟨0#32, 4096#32, 1#32⟩
-- ==== Proof.Pre.lean ====
/-
  What the precondition says, in numbers: the rows named by the valid slots lie in the table and differ, the first 2048
  slots of every example are valid and the others are not.
-/
module

public import proofs.«01_k».proof.Proof.Gen.Pre_distinct_rows
public import Idealize.ShloMosaic.Lib.Pointwise
public import Idealize.ShloMosaic.Lib.ValueLayout

@[expose] public section

set_option maxRecDepth 16384

noncomputable section

namespace Cert.Proof

open Idealize.ShloMosaic Cert.Pre_distinct_rows

variable {F : FTy → Type} [FloatOps F]

section Fn

variable [Cert.Pre_distinct_rows.Facts] (a0 : FVec F S32768x128 .f32) (a1 : IVec S16x4096 32) (a2 : IVec S16x4096 1) (a3 : IVec S16 32)
  (a4 a5 : FVec F S384x128 .f32) (a6 a7 : FVec F S384 .f32)

/-- The valid slot of number `n`: slot `n % 2048` of example `n / 2048`. -/
abbrev slotIx (n : Fin 32768) : S16x4096.Idx := ix2 (⟨n.val / 2048, by omega⟩ : Fin 16) (⟨n.val % 2048, by omega⟩ : Fin 4096)
/-- The slot of the same place in the other half. -/
abbrev restIx (n : Fin 32768) : S16x4096.Idx := ix2 (⟨n.val / 2048, by omega⟩ : Fin 16) (⟨2048 + n.val % 2048, by omega⟩ : Fin 4096)

theorem slotIx_eq (b : Fin 16) (i : Fin 4096) (hi : i.val < 2048) : slotIx ⟨2048 * b.val + i.val, by omega⟩ = ix2 b i := funext fun a => match a with
  | 0 => Fin.ext (show (2048 * b.val + i.val) / 2048 = b.val by omega)
  | 1 => Fin.ext (show (2048 * b.val + i.val) % 2048 = i.val by omega)

theorem fn_apply (r c : Fin 32768) : fn (F := F) a0 a1 a2 a3 a4 a5 a6 a7 (ix2 r c)
    = IntOp.andi (IntOp.ori (IntOp.cmpi .ne (a1 (slotIx r)) (a1 (slotIx c))) (IntOp.cmpi .eq (BitVec.ofNat 32 r.val) (BitVec.ofNat 32 c.val)))
        (IntOp.andi (IntOp.andi (IntOp.andi (a2 (slotIx r)) (~~~ a2 (restIx r))) (IntOp.cmpi .sge (a1 (slotIx r)) 0#32)) (IntOp.cmpi .slt (a1 (slotIx r)) 32768#32)) := by
  unfold fn fn_part1
  pointwise

variable {a0 a1 a2 a3 a4 a5 a6 a7}

theorem andi_eq_one (p q : BitVec 1) : IntOp.andi p q = 1#1 ↔ p = 1#1 ∧ q = 1#1 := by revert p q; decide
theorem ori_eq_one (p q : BitVec 1) : IntOp.ori p q = 1#1 ↔ p = 1#1 ∨ q = 1#1 := by revert p q; decide
theorem ofBool_eq_one (p : Bool) : (BitVec.ofBool p = 1#1) ↔ p = true := by cases p <;> decide

variable (h : fn (F := F) a0 a1 a2 a3 a4 a5 a6 a7 = fun _ => 1#1)
include h

theorem pre_parts (r c : Fin 32768) : (a1 (slotIx r) = a1 (slotIx c) → r = c) ∧ a2 (slotIx r) = 1#1 ∧ a2 (restIx r) = 0#1
    ∧ (a1 (slotIx r)).toNat < 32768 := by
  have e := (fn_apply a0 a1 a2 a3 a4 a5 a6 a7 r c).symm.trans (congrFun h (ix2 r c))
  simp only [andi_eq_one, ori_eq_one, IntOp.cmpi, ofBool_eq_one, BitVec.sle_eq_decide, BitVec.slt_eq_decide, decide_eq_true_eq,
    BitVec.toInt_eq_toNat_cond, BitVec.toNat_ofNat, Nat.reducePow, Nat.reduceMod] at e
  obtain ⟨e1, ⟨⟨e2, e3⟩, e4⟩, e5⟩ := e
  refine ⟨fun hrc => ?_, e2, ?_, by omega⟩
  · rcases e1 with e1 | e1
    · exact absurd hrc (by simpa using e1)
    · have : BitVec.ofNat 32 r.val = BitVec.ofNat 32 c.val := by simpa using e1
      have := congrArg BitVec.toNat this
      simp only [BitVec.toNat_ofNat] at this
      exact Fin.ext (by omega)
  · have key : ∀ b : BitVec 1, ~~~ b = 1#1 → b = 0#1 := by decide
    exact key _ e3

/-- Every valid slot names a row of the table, -/
theorem pre_range (b : Fin 16) (i : Fin 4096) (hi : i.val < 2048) : (a1 (ix2 b i)).toNat < 32768 := by
  have := (pre_parts h ⟨2048 * b.val + i.val, by omega⟩ 0).2.2.2
  rwa [slotIx_eq b i hi] at this

/-- the valid slots are the first 2048 of each example, -/
theorem pre_mask (b : Fin 16) (i : Fin 4096) : a2 (ix2 b i) = if i.val < 2048 then 1#1 else 0#1 := by
  split
  next hi =>
    have := (pre_parts h ⟨2048 * b.val + i.val, by omega⟩ 0).2.1
    rwa [slotIx_eq b i hi] at this
  next hi =>
    have := (pre_parts h ⟨2048 * b.val + (i.val - 2048), by omega⟩ 0).2.2.1
    rwa [show restIx ⟨2048 * b.val + (i.val - 2048), by omega⟩ = ix2 b i from funext fun a => match a with
      | 0 => Fin.ext (show (2048 * b.val + (i.val - 2048)) / 2048 = b.val by omega)
      | 1 => Fin.ext (show 2048 + (2048 * b.val + (i.val - 2048)) % 2048 = i.val by omega)] at this

/-- and no two of them name the same row. -/
theorem pre_inj (b b' : Fin 16) (i i' : Fin 4096) (hi : i.val < 2048) (hi' : i'.val < 2048) (e : (a1 (ix2 b i)).toNat = (a1 (ix2 b' i')).toNat) : b = b' ∧ i = i' := by
  have := (pre_parts h ⟨2048 * b.val + i.val, by omega⟩ ⟨2048 * b'.val + i'.val, by omega⟩).1 (by rw [slotIx_eq b i hi, slotIx_eq b' i' hi']; exact BitVec.eq_of_toNat_eq e)
  have := Fin.mk.inj this
  exact ⟨Fin.ext (by omega), Fin.ext (by omega)⟩

end Fn

end Cert.Proof

end
-- ==== Proof.KernelIdeal.Common.lean ====
/-
  What every module of the kernel's run shares: the program as its launch reads it, the resource algebra of the
  proof (the calls' handshakes, the two pipelines' rounds, the transfers' counters), the thread of a tile, and the
  fact that the two calls of one kernel function are calls of one text.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Loops

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 2) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The calls' handshakes; -/
abbrev UH : Type := URounds (GSem nD τ sig) ℕ
/-- the pipelines' staging cells; -/
abbrev UP : Type := URounds (GSem nD τ sig) Unit
/-- and, beside them, the transfers' counters. -/
abbrev UU : Type := UH × UP × Counters

/-- The proof's algebra. -/
abbrev MM (F : FTy → Type) : Type := MT nD τ sig (HIx 4) (Elt F) ℕ UU ℕ

local notation "𝕄" => MM F

abbrev EH : Emb UH (MM F) := embL
abbrev EP : Emb UP (MM F) := (Emb.inl : Emb UP (UP × Counters)).trans embR

/-! ## The tiles -/

abbrev cV (L : grid0.Coords) : Fin τ.nSC := (L 0).castLE hcore0
abbrev jV (L : grid0.Coords) : Fin τ.nSub := (L 1).castLE hsub0
/-- The tile at SparseCore `L 0`, subcore `L 1`, of device `d`. -/
abbrev tV (d : Dev nD) (L : grid0.Coords) : Thread nD τ := V d (cV L) (jV L)

/-- The grid point of SparseCore `c`, subcore `s`. -/
def coordsV (c : Fin 2) (s : Fin 16) : grid0.Coords :=
  fun | 0 => c | 1 => s | ⟨_ + 2, h⟩ => absurd h (Nat.not_lt.2 (Nat.le_add_left _ _))

/-! ## The two calls of one kernel function are one text -/

theorem gather_text [FloatOps F] : cc1_gk (F := F) = cc0_gk (F := F) := rfl
theorem scatter_text [FloatOps F] : cc5_sk (F := F) = cc3_sk (F := F) := rfl
theorem gru_text [FloatOps F] : cc4_body (F := F) = cc2_body (F := F) := rfl

end Cert.Proof.KernelIdeal
-- ==== Proof.KernelIdeal.TileSteps.lean ====
/-
  What one tile of a SparseCore does in the two kernels, transfer by transfer: a copy and its wait; the gather of 128
  rows named by a row of the tile's index list, and its wait; the scatter of 128 rows onto the rows so named, and its
  wait. Each is a triple over the transfer's own buffers, and says what the destination reads afterwards.
-/
module

public import proofs.«01_k».proof.Proof.KernelIdeal.Common
public import Idealize.ShloMosaic.Lib.Memref

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## Indices -/

/-- The index `(r, c)` of a matrix. -/
def ix2 {a b : ℕ} (r : Fin a) (c : Fin b) : (⟨2, ![a, b]⟩ : Shape).Idx := fun | 0 => r | 1 => c

theorem ix2_eta {a b : ℕ} (x : (⟨2, ![a, b]⟩ : Shape).Idx) : ix2 (a := a) (b := b) (x 0) (x 1) = x := by
  funext i; match i with | 0 => rfl | 1 => rfl

theorem cast_inj_of {α β : Type} (h : α = β) {x y : α} (e : cast h x = cast h y) : x = y := by subst h; exact e

/-- Two contents that read alike through a view agree on its elements. -/
theorem agree_of_read {κ : Kind} {sp : Space} {s : Shape} {e : EltTy} {v : View sig κ sp s e} {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact cast_inj_of _ this

/-! ## A copy and its wait -/

variable (d : Dev nD) (L : grid0.Coords)

/-- What a tile that owes `O` and has waited at `W` still holds: the same debt, and only waits on its own transfers since. -/
abbrev paid (O : CellTallies nD τ sig (HIx 4)) (W : Waits sig (HIx 4)) : sProp 𝕄 :=
  iprop(∃ W', ⌜∀ p ∈ W', p ∈ W ∨ p.2 = none⌝ ∗ owes (tV d L) O W')

theorem paid_step {O : CellTallies nD τ sig (HIx 4)} {W W' : Waits sig (HIx 4)} (sm : SemLoc sig) (h : ∀ p ∈ W', p ∈ W ∨ p.2 = none) :
    (owes (tV d L) O (insert (sm, (none : HIx 4)) W') : sProp 𝕄) ⊢ paid d L O W := by
  iintro HO
  iexists _; isplitr
  swap; · iexact HO
  ipureintro; intro p hp
  rcases Finset.mem_insert.mp hp with hp | hp
  · exact .inr (hp ▸ rfl)
  · exact h p hp

/-- A copy, then its wait. -/
def copyProg {sp sp' : Space} {s : Shape} {e : EltTy} (src : Memref sig .scVector sp s e) (dst : Memref sig .scVector sp' s e) (sem : DmaSem sig)
    (hs : src.view.WordExact) (hd : dst.view.WordExact) (ht : DmaTarget.Typed (nD := nD) (τ := τ) (p := .scVector (cV L) (jV L)) sp (.dma sem) (.here dst)) :
    Prog (TpuEff nD τ sig (Elt F) Λ₀ (.scVector (cV L) (jV L))) PUnit := do
  Prog.lift (.enqueueDma src (.here dst) (.dma sem) hs hd ht)
  Prog.lift (.waitDma2 sem src dst hs hd)

/-- After a copy the destination reads what the source does. -/
theorem wp_copy {sp sp' : Space} {s : Shape} {e : EltTy} (src : Memref sig .scVector sp s e) (dst : Memref sig .scVector sp' s e) (sem : DmaSem sig)
    (hs : src.view.WordExact) (hd : dst.view.WordExact) (ht : DmaTarget.Typed (nD := nD) (τ := τ) (p := .scVector (cV L) (jV L)) sp (.dma sem) (.here dst))
    (hpos : 0 < s.numel) (O : CellTallies nD τ sig (HIx 4)) (W : Waits sig (HIx 4)) (q : PosShare TreeShare)
    (fs : Buf (Elt F) (src.view.loc (tV d L))) (fd : Buf (Elt F) (dst.view.loc (tV d L))) :
    iprop(Transfers.MayWaits (tV d L) (default : HIx 4) O
        ∗ (src.view.loc (tV d L) ↦[src.view.set]{q} fs) ∗ (dst.view.loc (tV d L) ↦[dst.view.set]{fullShare} fd)
        ∗ semVal (tV d L, SemLoc.dma sem) 0 ∗ paid d L O W)
      ⊢ (wp frame (wpE (defs₀ (F := F)) 𝒱₀ (tV d L) none) Set.univ (copyProg (F := F) L src dst sem hs hd ht)
          fun _ => iprop((src.view.loc (tV d L) ↦[src.view.set]{q} fs)
            ∗ (∃ f' : Buf (Elt F) (dst.view.loc (tV d L)), ⌜dst.view.read (Elt F) f' = src.view.read (Elt F) fs⌝ ∗ (dst.view.loc (tV d L) ↦[dst.view.set]{fullShare} f'))
            ∗ semVal (tV d L, SemLoc.dma sem) 0 ∗ paid d L O W) : sProp 𝕄) := by
  unfold copyProg
  iintro ⟨#Hmw, Hs, Hd, Hv, %W', %hW, HO⟩
  iapply (Transfers.wp_dmaLocal countersEmb 𝒱₀ (tV d L) none (default : HIx 4) dst.view.dmaCredit rfl (View.dmaCredit_pos _ hpos) (Finset.Subset.refl _)) $$ [Hs Hd Hv]
  · isplitl [Hs]; · iexact Hs
    isplitl [Hd]; · iexact Hd
    iexact Hv
  iintro Hfl
  iapply (Transfers.wp_waitLocalO countersEmb 𝒱₀ (tV d L) none (default : HIx 4) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  sl_step
  isplitl [Hs]; · iexact Hs
  isplitl [Hd]
  · iexists _; isplitr
    swap; · iexact Hd
    ipureintro; rw [View.read_write_univ]
  isplitl [Hv]; · iexact Hv
  iapply (paid_step d L _ hW); iexact HO

/-- A copy into elements that are to read the source: they then hold any contents that read so. -/
theorem wp_copyTo {sp sp' : Space} {s : Shape} {e : EltTy} (src : Memref sig .scVector sp s e) (dst : Memref sig .scVector sp' s e) (sem : DmaSem sig)
    (hs : src.view.WordExact) (hd : dst.view.WordExact) (ht : DmaTarget.Typed (nD := nD) (τ := τ) (p := .scVector (cV L) (jV L)) sp (.dma sem) (.here dst))
    (hpos : 0 < s.numel) (O : CellTallies nD τ sig (HIx 4)) (W : Waits sig (HIx 4)) (q : PosShare TreeShare)
    (fs : Buf (Elt F) (src.view.loc (tV d L))) (fd G : Buf (Elt F) (dst.view.loc (tV d L))) (hG : dst.view.read (Elt F) G = src.view.read (Elt F) fs) :
    iprop(Transfers.MayWaits (tV d L) (default : HIx 4) O
        ∗ (src.view.loc (tV d L) ↦[src.view.set]{q} fs) ∗ (dst.view.loc (tV d L) ↦[dst.view.set]{fullShare} fd)
        ∗ semVal (tV d L, SemLoc.dma sem) 0 ∗ paid d L O W)
      ⊢ (wp frame (wpE (defs₀ (F := F)) 𝒱₀ (tV d L) none) Set.univ (copyProg (F := F) L src dst sem hs hd ht)
          fun _ => iprop((src.view.loc (tV d L) ↦[src.view.set]{q} fs) ∗ (dst.view.loc (tV d L) ↦[dst.view.set]{fullShare} G)
            ∗ semVal (tV d L, SemLoc.dma sem) 0 ∗ paid d L O W) : sProp 𝕄) := by
  refine (wp_copy d L src dst sem hs hd ht hpos O W q fs fd).trans (wp_mono _ _ _ fun _ => ?_)
  iintro ⟨Hs, ⟨%f', %hf, Hd⟩, Hv, HO⟩
  ihave Hd := (Entails.of_eq (pointsTo_congr (agree_of_read (hf.trans hG.symm)))) $$ Hd
  isplitl [Hs]; · iexact Hs
  isplitl [Hd]; · iexact Hd
  isplitl [Hv]; · iexact Hv
  iexact HO

/-! ## The tile's blocks of the arrays -/

/-- The tile's block of the index array. -/
abbrev listK (arg3 : Memref sig .scVector .hbm S32x4x128 .i32) : Memref sig .scVector .hbm S4x128 .i32 :=
  (arg3.slice (Rect.unit (s := S32x4x128) (k0_off1 L) S1x4x128.size (k0_off1_inb L)) (fun _ => rfl)).squeeze S4x128 squeezes_S1x4x128_S4x128

/-- The tile's `k`-th chunk of 128 rows. -/
abbrev chunkK (arg4 : Memref sig .scVector .hbm S16384x128 .f32) (k : Fin 4) : Memref sig .scVector .hbm S128x128 .f32 :=
  arg4.slice (Rect.unit (s := S16384x128) (k0_off2 L (BitVec.ofNat 32 (128 * k.val))) S128x128.size (k0_off2_inb L k)) (fun _ => rfl)

/-! ## The index list's rows -/

/-- Row `k` of the tile's index list, as the streams read it. -/
abbrev rowL (arg5 : Memref sig .scVector .vmem S4x128 .i32) (off : Fin 2 → ℕ) (h : ∀ a, off a + S1x128.size a ≤ S4x128.size a) :
    Memref sig .scVector .vmem S128 .i32 :=
  (arg5.slice (Rect.unit (s := S4x128) off S1x128.size h) (fun _ => rfl)).squeeze S128 squeezes_S1x128_S128

theorem read_rowL (arg5 : Memref sig .scVector .vmem S4x128 .i32) (k : Fin 4) (h : ∀ a, ![k.val, 0] a + S1x128.size a ≤ S4x128.size a)
    (fl : Buf (Elt F) (arg5.view.loc (tV d L))) (x : S128.Idx) :
    (rowL arg5 ![k.val, 0] h).view.read (Elt F) fl x = arg5.view.read (Elt F) fl (ix2 k (x 0)) := by
  have e : Shape.reshapeEquiv (s := S1x128) (s' := S128) squeezes_S1x128_S128.numel_eq x = (fun | 0 => (0 : Fin 1) | 1 => x 0) := by
    apply Shape.reshapeEquiv_eq_of_rowMajor
    rw [Shape.rowMajor_val_two, Shape.rowMajor_val_one]
    simp
  show arg5.view.read (Elt F) fl ((Rect.unit (s := S4x128) ![k.val, 0] S1x128.size h).emb (Shape.reshapeEquiv _ x)) = _
  rw [e]
  congr 1
  funext a
  apply Fin.ext
  match a with
  | 0 => simp [ix2]
  | 1 => simp [ix2]

theorem rowL_subset (arg5 : Memref sig .scVector .vmem S4x128 .i32) (k : Fin 4) (h : ∀ a, ![k.val, 0] a + S1x128.size a ≤ S4x128.size a) :
    (rowL arg5 ![k.val, 0] h).view.set ⊆ arg5.view.set := by
  rw [show (rowL arg5 ![k.val, 0] h).view.set = (arg5.view.slice (Rect.unit (s := S4x128) ![k.val, 0] S1x128.size h)).set from View.set_reshape _ _]
  exact View.set_slice_subset _ _

/-- All of a 32768-row array, as the streams address it. -/
abbrev allK (arg2 : Memref sig .scVector .hbm S32768x128 .f32) : Memref sig .scVector .hbm S32768x128 .f32 :=
  arg2.slice (Rect.unit (s := S32768x128) ![0, 0] S32768x128.size inb_S32768x128_S32768x128_0_0) (fun _ => rfl)

theorem read_allK (arg2 : Memref sig .scVector .hbm S32768x128 .f32) (fx : Buf (Elt F) (arg2.view.loc (tV d L))) :
    (allK arg2).view.read (Elt F) fx = arg2.view.read (Elt F) fx := by
  funext y
  show arg2.view.read (Elt F) fx ((Rect.unit (s := S32768x128) ![0, 0] S32768x128.size inb_S32768x128_S32768x128_0_0).emb y) = _
  congr 1
  funext a
  apply Fin.ext
  match a with
  | 0 => simp
  | 1 => simp

/-- The row-major position in a list of 128. -/
theorem rowMajor_S128_symm (x : Fin 128) : (S128.rowMajor.symm (x.cast (by decide))) 0 = x := by
  have h := Shape.rowMajor_val_one (d := ![128]) (S128.rowMajor.symm (x.cast (by decide)))
  rw [Equiv.apply_symm_apply] at h
  exact Fin.ext h.symm

/-- The gathered rows: at `(r, c)`, the table at column `c` of the row that the list's word `r` names. -/
theorem gatherPayload_ix2 (g : S32768x128.Idx → Elt F .f32) (w : S128.Idx → Elt F .i32) {hn : S128.numel = 128}
    (hin : ∀ x, (w x).toNat < S32768x128.size (gathers_S32768x128_S128x128).axis)
    {u : Fin 128 → ℕ} {hu : ∀ r, u r < 32768} (hw : ∀ x, (w x).toNat = u (x 0)) (y : S128x128.Idx) :
    SparseCore.gatherPayload gathers_S32768x128_S128x128 g (SparseCore.rows w hn hin) y = g (ix2 ⟨u (y 0), hu _⟩ (y 1)) := by
  show g _ = g _
  congr 1
  funext a
  match a with
  | 0 =>
    refine (Shape.Gathers.idx_axis gathers_S32768x128_S128x128 _ y).trans (Fin.ext ?_)
    show (w (S128.rowMajor.symm _)).toNat = u (y 0)
    rw [hw]; exact congrArg u (rowMajor_S128_symm _)
  | 1 => exact Fin.ext (Shape.Gathers.idx_of_ne gathers_S32768x128_S128x128 _ y 1 (by decide))

variable (arg2 : Memref sig .scVector .hbm S32768x128 .f32)
  (arg5 : Memref sig .scVector .vmem S4x128 .i32) (harg5 : arg5.IsWhole)
  (arg6 : Memref sig .scVector .vmem S128x128 .f32) (harg6 : arg6.IsWhole)

/-- A gather of the rows that row `off` of the index list names, then its wait. -/
def gatherProg (sem : DmaSem sig) (off : Fin 2 → ℕ) (h : ∀ a, off a + S1x128.size a ≤ S4x128.size a) :
    Prog (TpuEff nD τ sig (Elt F) Λ₀ (.scVector (cV L) (jV L))) PUnit := do
  SparseCore.enqueueIndirectGather rfl (allK arg2) arg6 gathers_S32768x128_S128x128 (rowL arg5 off h) rfl sem (View.wordExact_bits rfl) rfl (Or.inl rfl)
  SparseCore.waitIndirectGather sem (allK arg2) arg6 (View.wordExact_bits rfl) harg6.wordExact

theorem wp_gather (sem : DmaSem sig) (k : Fin 4) (h : ∀ a, ![k.val, 0] a + S1x128.size a ≤ S4x128.size a)
    (O : CellTallies nD τ sig (HIx 4)) (W : Waits sig (HIx 4)) (q : PosShare TreeShare)
    (fx : Buf (Elt F) ((allK arg2).view.loc (tV d L))) (fl : Buf (Elt F) (arg5.view.loc (tV d L))) (fr : Buf (Elt F) (arg6.view.loc (tV d L)))
    (hin : ∀ j, (arg5.view.read (Elt F) fl j).toNat < 32768) :
    iprop(Transfers.MayWaits (tV d L) (default : HIx 4) O
        ∗ ((allK arg2).view.loc (tV d L) ↦[(allK arg2).view.set]{q} fx) ∗ (arg5.view.loc (tV d L) ↦[arg5.view.set]{fullShare} fl)
        ∗ (arg6.view.loc (tV d L) ↦[arg6.view.set]{fullShare} fr)
        ∗ semVal (tV d L, SemLoc.dma sem) 0 ∗ paid d L O W)
      ⊢ (wp frame (wpE (defs₀ (F := F)) 𝒱₀ (tV d L) none) Set.univ (gatherProg (F := F) L arg2 arg5 arg6 harg6 sem ![k.val, 0] h)
          fun _ => iprop(((allK arg2).view.loc (tV d L) ↦[(allK arg2).view.set]{q} fx) ∗ (arg5.view.loc (tV d L) ↦[arg5.view.set]{fullShare} fl)
            ∗ (∃ f' : Buf (Elt F) (arg6.view.loc (tV d L)),
                ⌜∀ y, arg6.view.read (Elt F) f' y
                  = arg2.view.read (Elt F) fx (ix2 ⟨(arg5.view.read (Elt F) fl (ix2 k (y 0))).toNat, hin _⟩ (y 1))⌝
                ∗ (arg6.view.loc (tV d L) ↦[arg6.view.set]{fullShare} f'))
            ∗ semVal (tV d L, SemLoc.dma sem) 0 ∗ paid d L O W) : sProp 𝕄) := by
  have hin' : ∀ x, ((rowL arg5 ![k.val, 0] h).view.read (Elt F) fl x).toNat < S32768x128.size (gathers_S32768x128_S128x128).axis := by
    intro x; rw [read_rowL]; exact hin _
  have hN : ∑ j, (arg6.slice (S128x128.rowRect (gathers_S32768x128_S128x128).axis' j) (S128x128.stride_rowRect (gathers_S32768x128_S128x128).axis' j)).view.dmaCredit
      = arg6.view.dmaCredit := SparseCore.sum_rowCredit_eq_dmaCredit arg6 _ fun _ => rfl
  unfold gatherProg
  iintro ⟨#Hmw, Hx, Hl, Hr, Hv, %W', %hW, HO⟩
  ihave Hls := (pointsTo_split_subset (q := fullShare) (f := fl) (S := arg5.view.set) (rowL_subset arg5 k h)).1 $$ Hl
  icases Hls with ⟨Hl, Hlr⟩
  iapply (SparseCore.wp_indirectGatherLocal countersEmb 𝒱₀ (tV d L) none (hg := gathers_S32768x128_S128x128) (default : HIx 4)
      arg6.view.dmaCredit hN (by decide) hin') $$ [Hx Hr Hl Hv]
  · isplitl [Hx]; · iexact Hx
    isplitl [Hr]; · iexact Hr
    isplitl [Hl]; · iexact Hl
    iexact Hv
  iintro Hfl
  unfold SparseCore.waitIndirectGather
  iapply (Transfers.wp_waitLocalO countersEmb 𝒱₀ (tV d L) none (default : HIx 4) (rfl : arg6.view.dmaCredit = _)) $$ [Hfl HO]
  · isplitl [Hfl]; · iexact Hfl
    isplitl [HO]; · iexact HO
    iapply (Transfers.MayWaits.elim (SemLoc.dma sem)) $$ Hmw
  iintro ⟨⟨Hr, Hx, Hl⟩, Hv, HO⟩
  ihave Hl := (pointsTo_split_subset (q := fullShare) (f := fl) (S := arg5.view.set) (rowL_subset arg5 k h)).2 $$ [Hl Hlr]
  · isplitl [Hl] <;> iassumption
  sl_step
  isplitl [Hx]; · iexact Hx
  isplitl [Hl]; · iexact Hl
  isplitl [Hr]
  · iexists _; isplitr
    swap; · iexact Hr
    ipureintro; intro y; rw [View.read_write_univ, read_allK d L arg2 fx]
    exact gatherPayload_ix2 (u := fun r => (arg5.view.read (Elt F) fl (ix2 k r)).toNat) (arg2.view.read (Elt F) fx)
      ((rowL arg5 ![k.val, 0] h).view.read (Elt F) fl) (hn := rfl) hin' (hu := fun _ => hin _) (fun x => congrArg BitVec.toNat (read_rowL d L arg5 k h fl x)) y
  isplitl [Hv]; · iexact Hv
  iapply (paid_step d L _ hW); iexact HO

/-! ## A scatter and its wait -/

/-- The elements of a 32768-row array on the rows a predicate names. -/
abbrev namedK (p : ℕ → Prop) : Finset (allK arg2).view.ty.Idx :=
  SparseCore.rowsWhere (allK arg2).view (gathers_S32768x128_S128x128).axis p

/-- A scatter onto the rows that row `off` of the index list names, then its wait. -/
def scatterProg (sem : DmaSem sig) (off : Fin 2 → ℕ) (h : ∀ a, off a + S1x128.size a ≤ S4x128.size a) :
    Prog (TpuEff nD τ sig (Elt F) Λ₀ (.scVector (cV L) (jV L))) PUnit := do
  SparseCore.enqueueIndirectScatter rfl arg6 (allK arg2) gathers_S32768x128_S128x128 (rowL arg5 off h) rfl sem rfl (Or.inl rfl)
  SparseCore.waitIndirectScatter sem arg6 (allK arg2) harg6.wordExact (View.wordExact_bits rfl)

theorem numel_S128 : S128.numel = S128x128.size (gathers_S32768x128_S128x128).axis' := rfl

theorem namedRows_eq_namedK (r : Fin (S128x128.size (gathers_S32768x128_S128x128).axis') → Fin (S32768x128.size (gathers_S32768x128_S128x128).axis))
    (p : ℕ → Prop) (hp : ∀ n, p n ↔ ∃ j, (r j).val = n) :
    SparseCore.namedRows (tV d L) (allK arg2).view (gathers_S32768x128_S128x128).axis r = namedK arg2 p := by
  ext i
  rw [SparseCore.mem_rowsWhere, SparseCore.namedRows_eq, Finset.mem_biUnion]
  constructor
  · rintro ⟨j, -, hi⟩
    exact ⟨_, (hp _).mpr ⟨j, rfl⟩, hi⟩
  · rintro ⟨n, hn, hi⟩
    obtain ⟨j, hj⟩ := (hp _).mp hn
    obtain rfl : r j = n := Fin.ext hj
    exact ⟨j, Finset.mem_univ _, hi⟩

theorem scatter_credit (r : Fin (S128x128.size (gathers_S32768x128_S128x128).axis') → Fin (S32768x128.size (gathers_S32768x128_S128x128).axis)) :
    ∑ j, ((allK arg2).slice (S32768x128.rowRect (gathers_S32768x128_S128x128).axis (r j)) (S32768x128.stride_rowRect _ _)).view.dmaCredit
      = arg6.view.dmaCredit :=
  SparseCore.sum_rowCredit_eq (n := 128) (K := 4096) _ (fun _ => rfl) rfl

theorem scatter_payload (r : Fin (S128x128.size (gathers_S32768x128_S128x128).axis') → Fin (S32768x128.size (gathers_S32768x128_S128x128).axis))
    (G : Buf (Elt F) ((allK arg2).view.loc (tV d L))) (fr : Buf (Elt F) (arg6.view.loc (tV d L)))
    (hG : ∀ y : S128x128.Idx, arg2.view.read (Elt F) G (ix2 (r (y 0)) (y 1)) = arg6.view.read (Elt F) fr y) (j) :
    SparseCore.scatterRowPayload (tV d L) arg6 gathers_S32768x128_S128x128 fr j
      = ((allK arg2).view.slice (S32768x128.rowRect (gathers_S32768x128_S128x128).axis (r j))).read (Elt F) G := by
  funext y
  let y1 : Fin 128 := ⟨(y (1 : Fin S32768x128.rank)).val, (y (1 : Fin S32768x128.rank)).isLt⟩
  have hd := hG (ix2 j y1)
  show arg6.view.read (Elt F) fr ((S128x128.rowRect (gathers_S32768x128_S128x128).axis' j).emb _) = (allK arg2).view.read (Elt F) G ((S32768x128.rowRect _ (r j)).emb y)
  rw [read_allK d L arg2 G]
  refine Eq.trans ?_ (hd.symm.trans ?_)
  · congr 1
    funext a; apply Fin.ext
    refine (Shape.rowRect_emb_val (s := S128x128) _ j _ a).trans ?_
    match a with
    | 0 => rfl
    | 1 => exact Shape.idxEquiv_symm_apply_val (Shape.Gathers.rowShape_eq gathers_S32768x128_S128x128) y (1 : Fin S128x128.rank)
  · congr 1
    funext a; apply Fin.ext
    refine Eq.symm ((Shape.rowRect_emb_val (s := S32768x128) _ (r j) y a).trans ?_)
    match a with
    | 0 => rfl
    | 1 => rfl

/-- The scattered buffer is, on the named rows, any contents that read as the source at the rows sent there. -/
theorem scatter_back (r : Fin (S128x128.size (gathers_S32768x128_S128x128).axis') → Fin (S32768x128.size (gathers_S32768x128_S128x128).axis))
    (hr : Function.Injective r) (f0 G : Buf (Elt F) ((allK arg2).view.loc (tV d L))) (fr : Buf (Elt F) (arg6.view.loc (tV d L)))
    (hG : ∀ y : S128x128.Idx, arg2.view.read (Elt F) G (ix2 (r (y 0)) (y 1)) = arg6.view.read (Elt F) fr y) :
    ((allK arg2).view.loc (tV d L) ↦[SparseCore.namedRows (tV d L) (allK arg2).view (gathers_S32768x128_S128x128).axis r]{fullShare}
      (SparseCore.scatterBuf (tV d L) (allK arg2).view (gathers_S32768x128_S128x128).axis r
        (SparseCore.scatterRowPayload (tV d L) arg6 gathers_S32768x128_S128x128 fr) f0) : sProp 𝕄)
      = ((allK arg2).view.loc (tV d L) ↦[SparseCore.namedRows (tV d L) (allK arg2).view (gathers_S32768x128_S128x128).axis r]{fullShare} G) := by
  refine pointsTo_congr fun i hi => ?_
  rw [SparseCore.namedRows_eq, Finset.mem_biUnion] at hi
  obtain ⟨j, -, hi⟩ := hi
  rw [SparseCore.scatterBuf_of_mem (tV d L) (allK arg2).view _ _ hr _ _ hi]
  refine agree_of_read (F := F) (v := (allK arg2).view.slice (S32768x128.rowRect (gathers_S32768x128_S128x128).axis (r j))) ?_ i hi
  exact (View.read_write_univ (v := (allK arg2).view.slice (S32768x128.rowRect (gathers_S32768x128_S128x128).axis (r j))) f0 _).trans
    (scatter_payload d L arg2 arg6 r G fr hG j)

/-- After the scatter each named row reads the row of the source it was sent. -/
theorem wp_scatter (sem : DmaSem sig) (k : Fin 4) (h : ∀ a, ![k.val, 0] a + S1x128.size a ≤ S4x128.size a)
    (O : CellTallies nD τ sig (HIx 4)) (W : Waits sig (HIx 4))
    (f0 G : Buf (Elt F) ((allK arg2).view.loc (tV d L))) (fl : Buf (Elt F) (arg5.view.loc (tV d L))) (fr : Buf (Elt F) (arg6.view.loc (tV d L)))
    (hin : ∀ j, (arg5.view.read (Elt F) fl j).toNat < 32768)
    (hinj : Function.Injective fun r : Fin 128 => (arg5.view.read (Elt F) fl (ix2 k r)).toNat)
    (hG : ∀ y : S128x128.Idx, arg2.view.read (Elt F) G (ix2 ⟨(arg5.view.read (Elt F) fl (ix2 k (y 0))).toNat, hin _⟩ (y 1)) = arg6.view.read (Elt F) fr y)
    (p : ℕ → Prop) (hp : ∀ n, p n ↔ ∃ r : Fin 128, (arg5.view.read (Elt F) fl (ix2 k r)).toNat = n) :
    iprop(Transfers.MayWaits (tV d L) (default : HIx 4) O
        ∗ ((allK arg2).view.loc (tV d L) ↦[namedK arg2 p]{fullShare} f0) ∗ (arg5.view.loc (tV d L) ↦[arg5.view.set]{fullShare} fl)
        ∗ (arg6.view.loc (tV d L) ↦[arg6.view.set]{fullShare} fr)
        ∗ semVal (tV d L, SemLoc.dma sem) 0 ∗ paid d L O W)
      ⊢ (wp frame (wpE (defs₀ (F := F)) 𝒱₀ (tV d L) none) Set.univ (scatterProg (F := F) L arg2 arg5 arg6 harg6 sem ![k.val, 0] h)
          fun _ => iprop(((allK arg2).view.loc (tV d L) ↦[namedK arg2 p]{fullShare} G) ∗ (arg5.view.loc (tV d L) ↦[arg5.view.set]{fullShare} fl)
            ∗ (arg6.view.loc (tV d L) ↦[arg6.view.set]{fullShare} fr)
            ∗ semVal (tV d L, SemLoc.dma sem) 0 ∗ paid d L O W) : sProp 𝕄) := by
  have hin' : ∀ x, ((rowL arg5 ![k.val, 0] h).view.read (Elt F) fl x).toNat < S32768x128.size (gathers_S32768x128_S128x128).axis := by
    intro x; rw [read_rowL]; exact hin _
  have hinj' : Function.Injective (SparseCore.rows ((rowL arg5 ![k.val, 0] h).view.read (Elt F) fl) numel_S128 hin') :=
    SparseCore.rows_injective (fun x x' e => by
      have e : (arg5.view.read (Elt F) fl (ix2 k (x 0))).toNat = (arg5.view.read (Elt F) fl (ix2 k (x' 0))).toNat := by
        rw [← read_rowL d L arg5 k h fl x, ← read_rowL d L arg5 k h fl x']; exact e
      have := @hinj (x 0) (x' 0) e
      funext a; match a with | 0 => exact this)
  have hw : ∀ j : Fin 128, (SparseCore.rows ((rowL arg5 ![k.val, 0] h).view.read (Elt F) fl) numel_S128 hin' j).val
      = (arg5.view.read (Elt F) fl (ix2 k j)).toNat := by
    intro j
    show ((rowL arg5 ![k.val, 0] h).view.read (Elt F) fl (S128.rowMajor.symm _)).toNat = _
    rw [read_rowL]; exact congrArg (fun r => (arg5.view.read (Elt F) fl (ix2 k r)).toNat) (rowMajor_S128_symm j)
  have hset := namedRows_eq_namedK d L arg2 (SparseCore.rows ((rowL arg5 ![k.val, 0] h).view.read (Elt F) fl) numel_S128 hin') p
    fun n => (hp n).trans ⟨fun ⟨j, hj⟩ => ⟨j, (hw j).trans hj⟩, fun ⟨j, hj⟩ => ⟨j, (hw j).symm.trans hj⟩⟩
  have hback := (scatter_back d L arg2 arg6 (SparseCore.rows ((rowL arg5 ![k.val, 0] h).view.read (Elt F) fl) numel_S128 hin') hinj' f0 G fr
    (fun y => by rw [← hG y]; congr 2; exact Fin.ext (hw _))).trans
      (congrArg (fun S => ((allK arg2).view.loc (tV d L) ↦[S]{fullShare} G : sProp 𝕄)) hset)
  have hN := scatter_credit arg2 arg6 (SparseCore.rows ((rowL arg5 ![k.val, 0] h).view.read (Elt F) fl) numel_S128 hin')
  unfold scatterProg
  iintro ⟨#Hmw, Hx, Hl, Hr, Hv, %W', %hW, HO⟩
  ihave Hls := (pointsTo_split_subset (q := fullShare) (f := fl) (S := arg5.view.set) (rowL_subset arg5 k h)).1 $$ Hl
  icases Hls with ⟨Hl, Hlr⟩
  ihave Hx := (Entails.of_eq (congrArg (fun S => ((allK arg2).view.loc (tV d L) ↦[S]{fullShare} f0 : sProp 𝕄)) hset.symm)) $$ Hx
  iapply (SparseCore.wp_indirectScatterLocal countersEmb 𝒱₀ (tV d L) none (hg := gathers_S32768x128_S128x128) (default : HIx 4)
      arg6.view.dmaCredit (by decide) hin' hinj' hN) $$ [Hx Hr Hl Hv]
  · isplitl [Hr]; · iexact Hr
    isplitl [Hx]; · iexact Hx
    isplitl [Hl]; · iexact Hl
    iexact Hv
  iintro Hfl
  unfold SparseCore.waitIndirectScatter
  iapply (Transfers.wp_waitLocalO countersEmb 𝒱₀ (tV d L) none (default : HIx 4) (rfl : arg6.view.dmaCredit = _)) $$ [Hfl HO]
  · isplitl [Hfl]; · iexact Hfl
    isplitl [HO]; · iexact HO
    iapply (Transfers.MayWaits.elim (SemLoc.dma sem)) $$ Hmw
  iintro ⟨⟨Hx, Hr, Hl⟩, Hv, HO⟩
  ihave Hl := (pointsTo_split_subset (q := fullShare) (f := fl) (S := arg5.view.set) (rowL_subset arg5 k h)).2 $$ [Hl Hlr]
  · isplitl [Hl] <;> iassumption
  ihave Hx := (Entails.of_eq hback) $$ Hx
  sl_step
  isplitl [Hx]; · iexact Hx
  isplitl [Hl]; · iexact Hl
  isplitl [Hr]; · iexact Hr
  isplitl [Hv]; · iexact Hv
  iapply (paid_step d L _ hW); iexact HO

end Cert.Proof.KernelIdeal
-- ==== Proof.KernelIdeal.Scatter.lean ====
/-
  The scatter kernel on one tile: it fetches its block of 4 × 128 row numbers, then, four times, copies in its chunk of
  128 rows and scatters them onto the rows of the target that one row of the block names.
-/
module

public import proofs.«01_k».proof.Proof.KernelIdeal.TileSteps
public import Idealize.ShloMosaic.Lib.Ring.AtN

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (L : grid0.Coords)
  (arg2 : Memref sig .scVector .hbm S16384x128 .f32) (harg2 : arg2.IsWhole)
  (arg3 : Memref sig .scVector .hbm S32x4x128 .i32) (harg3 : arg3.IsWhole)
  (arg4 : Memref sig .scVector .hbm S32768x128 .f32) (harg4 : arg4.IsWhole)
  (arg5 : Memref sig .scVector .hbm S32768x128 .f32) (harg5 : arg5.IsWhole)
  (arg6 : Memref sig .scVector .vmem S4x128 .i32) (harg6 : arg6.IsWhole)
  (arg7 : Memref sig .scVector .vmem S128x128 .f32) (harg7 : arg7.IsWhole)
  (arg8 r0 r1 r2 r3 r4 : DmaSems sig S_)

/-- One of the four rounds: copy chunk `k` in, scatter it onto the rows that row `k` of the list names. -/
def scatterTrip (sem rk : DmaSem sig) (k : Fin 4) (h : ∀ a, ![k.val, 0] a + S1x128.size a ≤ S4x128.size a) :
    Prog (TpuEff nD τ sig (Elt F) Λ₀ (.scVector (cV L) (jV L))) PUnit := do
  copyProg (F := F) L (chunkK L arg2 k) arg7 rk (View.wordExact_bits rfl) harg7.wordExact ⟨Or.inl rfl, trivial⟩
  scatterProg (F := F) L arg4 arg6 arg7 harg7 sem ![k.val, 0] h

set_option maxRecDepth 65536 in
/-- The kernel is the fetch of the list and the four rounds. -/
theorem scatter_eq : cc3_sk (F := F) L arg2 harg2 arg3 harg3 arg4 harg4 arg5 harg5 arg6 harg6 arg7 harg7 arg8 r0 r1 r2 r3 r4
    = (do
      copyProg (F := F) L (listK L arg3) arg6 r0.sem ((View.wordExact_bits rfl).reshape _ _) harg6.wordExact ⟨Or.inl rfl, trivial⟩
      scatterTrip (F := F) L arg2 arg4 arg6 arg7 harg7 arg8.sem r1.sem 0 inb_S4x128_S1x128_0_0
      scatterTrip (F := F) L arg2 arg4 arg6 arg7 harg7 arg8.sem r2.sem 1 inb_S4x128_S1x128_1_0
      scatterTrip (F := F) L arg2 arg4 arg6 arg7 harg7 arg8.sem r3.sem 2 inb_S4x128_S1x128_2_0
      scatterTrip (F := F) L arg2 arg4 arg6 arg7 harg7 arg8.sem r4.sem 3 inb_S4x128_S1x128_3_0) := rfl

/-- The target reads, on the rows that list row `k` names, the rows of chunk `k`. -/
def Scattered (k : Fin 4) (I : S4x128.Idx → Elt F .i32) (y : S128x128.Idx → Elt F .f32) (G : S32768x128.Idx → Elt F .f32) : Prop :=
  ∀ (x : S128x128.Idx) (h : (I (ix2 k (x 0))).toNat < 32768), G (ix2 ⟨(I (ix2 k (x 0))).toNat, h⟩ (x 1)) = y x

theorem wp_scatterTrip (sem rk : DmaSem sig) (k : Fin 4) (h : ∀ a, ![k.val, 0] a + S1x128.size a ≤ S4x128.size a)
    (O : CellTallies nD τ sig (HIx 4)) (W : Waits sig (HIx 4))
    (fy : Buf (Elt F) ((chunkK L arg2 k).view.loc (tV d L))) (fl : Buf (Elt F) (arg6.view.loc (tV d L)))
    (g G : Buf (Elt F) ((allK arg4).view.loc (tV d L)))
    (hin : ∀ j, (arg6.view.read (Elt F) fl j).toNat < 32768)
    (hinj : Function.Injective fun r : Fin 128 => (arg6.view.read (Elt F) fl (ix2 k r)).toNat)
    (hG : Scattered k (arg6.view.read (Elt F) fl) ((chunkK L arg2 k).view.read (Elt F) fy) (arg4.view.read (Elt F) G))
    (p : ℕ → Prop) (hp : ∀ n, p n ↔ ∃ r : Fin 128, (arg6.view.read (Elt F) fl (ix2 k r)).toNat = n) :
    iprop(Transfers.MayWaits (tV d L) (default : HIx 4) O
        ∗ ((chunkK L arg2 k).view.loc (tV d L) ↦[(chunkK L arg2 k).view.set]{fullShare} fy) ∗ (arg6.view.loc (tV d L) ↦[arg6.view.set]{fullShare} fl)
            ∗ (∃ fr, arg7.view.loc (tV d L) ↦[arg7.view.set]{fullShare} fr)
            ∗ ((allK arg4).view.loc (tV d L) ↦[namedK arg4 p]{fullShare} g)
            ∗ semVal (tV d L, SemLoc.dma sem) 0 ∗ semVal (tV d L, SemLoc.dma rk) 0 ∗ paid d L O W)
      ⊢ (wp frame (wpE (defs₀ (F := F)) 𝒱₀ (tV d L) none) Set.univ (scatterTrip (F := F) L arg2 arg4 arg6 arg7 harg7 sem rk k h)
          fun _ => iprop(((chunkK L arg2 k).view.loc (tV d L) ↦[(chunkK L arg2 k).view.set]{fullShare} fy) ∗ (arg6.view.loc (tV d L) ↦[arg6.view.set]{fullShare} fl)
            ∗ (∃ fr, arg7.view.loc (tV d L) ↦[arg7.view.set]{fullShare} fr)
            ∗ ((allK arg4).view.loc (tV d L) ↦[namedK arg4 p]{fullShare} G)
            ∗ semVal (tV d L, SemLoc.dma sem) 0 ∗ semVal (tV d L, SemLoc.dma rk) 0 ∗ paid d L O W) : sProp 𝕄) := by
  unfold scatterTrip
  iintro ⟨#Hmw, Hy, Hl, ⟨%fr, Hr⟩, Hg, Hs, Hk, HO⟩
  rw [wp_bind]
  iapply (wp_wand_r _ _ _)
  isplitl [Hy Hr Hk HO]
  · iapply (wp_copy d L (chunkK L arg2 k) arg7 rk (View.wordExact_bits rfl) harg7.wordExact ⟨Or.inl rfl, trivial⟩ (by decide) O W fullShare fy fr)
    isplitr; · iexact Hmw
    isplitl [Hy]; · iexact Hy
    isplitl [Hr]; · iexact Hr
    isplitl [Hk]; · iexact Hk
    iexact HO
  iintro %_ ⟨Hy, ⟨%f', %hf, Hr⟩, Hk, HO⟩
  iapply (wp_wand_r _ _ _)
  isplitl [Hg Hl Hr Hs HO]
  · iapply (wp_scatter d L arg4 arg6 arg7 harg7 sem k h O W g G fl f' hin hinj (fun y => (hG y (hin _)).trans (congrFun hf y).symm) p hp)
    isplitr; · iexact Hmw
    isplitl [Hg]; · iexact Hg
    isplitl [Hl]; · iexact Hl
    isplitl [Hr]; · iexact Hr
    isplitl [Hs]; · iexact Hs
    iexact HO
  iintro %_ ⟨Hg, Hl, Hr, Hs, HO⟩
  isplitl [Hy]; · iexact Hy
  isplitl [Hl]; · iexact Hl
  isplitl [Hr]; · iexists _; iexact Hr
  isplitl [Hg]; · iexact Hg
  isplitl [Hs]; · iexact Hs
  isplitl [Hk]; · iexact Hk
  iexact HO

/-- The whole kernel on one tile: the rows its block names end at the rows of its chunks. -/
theorem wp_scatterTile (O : CellTallies nD τ sig (HIx 4)) (W : Waits sig (HIx 4))
    (fy : Buf (Elt F) (arg2.view.loc (tV d L))) (fi : Buf (Elt F) ((listK L arg3).view.loc (tV d L)))
    (g : Fin 4 → Buf (Elt F) ((allK arg4).view.loc (tV d L))) (G : Buf (Elt F) ((allK arg4).view.loc (tV d L)))
    (hin : ∀ j, ((listK L arg3).view.read (Elt F) fi j).toNat < 32768)
    (hinj : ∀ k : Fin 4, Function.Injective fun r : Fin 128 => ((listK L arg3).view.read (Elt F) fi (ix2 k r)).toNat)
    (hG : ∀ k, Scattered k ((listK L arg3).view.read (Elt F) fi) ((chunkK L arg2 k).view.read (Elt F) fy) (arg4.view.read (Elt F) G))
    (p : Fin 4 → ℕ → Prop) (hp : ∀ k n, p k n ↔ ∃ r : Fin 128, ((listK L arg3).view.read (Elt F) fi (ix2 k r)).toNat = n) :
    iprop(Transfers.MayWaits (tV d L) (default : HIx 4) O
        ∗ ((listK L arg3).view.loc (tV d L) ↦[(listK L arg3).view.set]{fullShare} fi)
            ∗ (bigSep Finset.univ fun k : Fin 4 => (chunkK L arg2 k).view.loc (tV d L) ↦[(chunkK L arg2 k).view.set]{fullShare} fy)
            ∗ (bigSep Finset.univ fun k : Fin 4 => (allK arg4).view.loc (tV d L) ↦[namedK arg4 (p k)]{fullShare} (g k))
            ∗ (∃ fl, arg6.view.loc (tV d L) ↦[arg6.view.set]{fullShare} fl) ∗ (∃ fr, arg7.view.loc (tV d L) ↦[arg7.view.set]{fullShare} fr)
            ∗ semVal (tV d L, SemLoc.dma arg8.sem) 0 ∗ semVal (tV d L, SemLoc.dma r0.sem) 0 ∗ semVal (tV d L, SemLoc.dma r1.sem) 0
            ∗ semVal (tV d L, SemLoc.dma r2.sem) 0 ∗ semVal (tV d L, SemLoc.dma r3.sem) 0 ∗ semVal (tV d L, SemLoc.dma r4.sem) 0
            ∗ paid d L O W)
      ⊢ (wp frame (wpE (defs₀ (F := F)) 𝒱₀ (tV d L) none) Set.univ
          (cc3_sk (F := F) L arg2 harg2 arg3 harg3 arg4 harg4 arg5 harg5 arg6 harg6 arg7 harg7 arg8 r0 r1 r2 r3 r4)
          fun _ => iprop(((listK L arg3).view.loc (tV d L) ↦[(listK L arg3).view.set]{fullShare} fi)
            ∗ (bigSep Finset.univ fun k : Fin 4 => (chunkK L arg2 k).view.loc (tV d L) ↦[(chunkK L arg2 k).view.set]{fullShare} fy)
            ∗ (bigSep Finset.univ fun k : Fin 4 => (allK arg4).view.loc (tV d L) ↦[namedK arg4 (p k)]{fullShare} G)
            ∗ (∃ fl, arg6.view.loc (tV d L) ↦[arg6.view.set]{fullShare} fl) ∗ (∃ fr, arg7.view.loc (tV d L) ↦[arg7.view.set]{fullShare} fr)
            ∗ semVal (tV d L, SemLoc.dma arg8.sem) 0 ∗ semVal (tV d L, SemLoc.dma r0.sem) 0 ∗ semVal (tV d L, SemLoc.dma r1.sem) 0
            ∗ semVal (tV d L, SemLoc.dma r2.sem) 0 ∗ semVal (tV d L, SemLoc.dma r3.sem) 0 ∗ semVal (tV d L, SemLoc.dma r4.sem) 0
            ∗ paid d L O W) : sProp 𝕄) := by
  rw [scatter_eq, Ring.bigSep_fin4, Ring.bigSep_fin4, Ring.bigSep_fin4]
  iintro ⟨#Hmw, Hi, ⟨Hy0, Hy1, Hy2, Hy3⟩, ⟨H0, H1, H2, H3⟩, ⟨%fl0, Hl⟩, Hr, Hs, Hs0, Hs1, Hs2, Hs3, Hs4, HO⟩
  rw [wp_bind]
  iapply (wp_wand_r _ _ _)
  isplitl [Hi Hl Hs0 HO]
  · iapply (wp_copy d L (listK L arg3) arg6 r0.sem ((View.wordExact_bits rfl).reshape _ _) harg6.wordExact ⟨Or.inl rfl, trivial⟩ (by decide) O W fullShare fi fl0)
    isplitr; · iexact Hmw
    isplitl [Hi]; · iexact Hi
    isplitl [Hl]; · iexact Hl
    isplitl [Hs0]; · iexact Hs0
    iexact HO
  iintro %_ ⟨Hi, ⟨%fl, %hfl, Hl⟩, Hs0, HO⟩
  have hin' : ∀ j, (arg6.view.read (Elt F) fl j).toNat < 32768 := by rw [hfl]; exact hin
  have hinj' : ∀ k : Fin 4, Function.Injective fun r : Fin 128 => (arg6.view.read (Elt F) fl (ix2 k r)).toNat := by rw [hfl]; exact hinj
  have hG' : ∀ k, Scattered k (arg6.view.read (Elt F) fl) ((chunkK L arg2 k).view.read (Elt F) fy) (arg4.view.read (Elt F) G) := by rw [hfl]; exact hG
  have hp' : ∀ k n, p k n ↔ ∃ r : Fin 128, (arg6.view.read (Elt F) fl (ix2 k r)).toNat = n := by rw [hfl]; exact hp
  rw [wp_bind]
  iapply (wp_wand_r _ _ _)
  isplitl [Hy0 Hl Hr H0 Hs Hs1 HO]
  · iapply (wp_scatterTrip d L arg2 arg4 arg6 arg7 harg7 arg8.sem r1.sem 0 inb_S4x128_S1x128_0_0 O W fy fl (g 0) G hin' (hinj' 0) (hG' 0) (p 0) (hp' 0))
    isplitr; · iexact Hmw
    isplitl [Hy0]; · iexact Hy0
    isplitl [Hl]; · iexact Hl
    isplitl [Hr]; · iexact Hr
    isplitl [H0]; · iexact H0
    isplitl [Hs]; · iexact Hs
    isplitl [Hs1]; · iexact Hs1
    iexact HO
  iintro %_ ⟨Hy0, Hl, Hr, H0, Hs, Hs1, HO⟩
  rw [wp_bind]
  iapply (wp_wand_r _ _ _)
  isplitl [Hy1 Hl Hr H1 Hs Hs2 HO]
  · iapply (wp_scatterTrip d L arg2 arg4 arg6 arg7 harg7 arg8.sem r2.sem 1 inb_S4x128_S1x128_1_0 O W fy fl (g 1) G hin' (hinj' 1) (hG' 1) (p 1) (hp' 1))
    isplitr; · iexact Hmw
    isplitl [Hy1]; · iexact Hy1
    isplitl [Hl]; · iexact Hl
    isplitl [Hr]; · iexact Hr
    isplitl [H1]; · iexact H1
    isplitl [Hs]; · iexact Hs
    isplitl [Hs2]; · iexact Hs2
    iexact HO
  iintro %_ ⟨Hy1, Hl, Hr, H1, Hs, Hs2, HO⟩
  rw [wp_bind]
  iapply (wp_wand_r _ _ _)
  isplitl [Hy2 Hl Hr H2 Hs Hs3 HO]
  · iapply (wp_scatterTrip d L arg2 arg4 arg6 arg7 harg7 arg8.sem r3.sem 2 inb_S4x128_S1x128_2_0 O W fy fl (g 2) G hin' (hinj' 2) (hG' 2) (p 2) (hp' 2))
    isplitr; · iexact Hmw
    isplitl [Hy2]; · iexact Hy2
    isplitl [Hl]; · iexact Hl
    isplitl [Hr]; · iexact Hr
    isplitl [H2]; · iexact H2
    isplitl [Hs]; · iexact Hs
    isplitl [Hs3]; · iexact Hs3
    iexact HO
  iintro %_ ⟨Hy2, Hl, Hr, H2, Hs, Hs3, HO⟩

  iapply (wp_wand_r _ _ _)
  isplitl [Hy3 Hl Hr H3 Hs Hs4 HO]
  · iapply (wp_scatterTrip d L arg2 arg4 arg6 arg7 harg7 arg8.sem r4.sem 3 inb_S4x128_S1x128_3_0 O W fy fl (g 3) G hin' (hinj' 3) (hG' 3) (p 3) (hp' 3))
    isplitr; · iexact Hmw
    isplitl [Hy3]; · iexact Hy3
    isplitl [Hl]; · iexact Hl
    isplitl [Hr]; · iexact Hr
    isplitl [H3]; · iexact H3
    isplitl [Hs]; · iexact Hs
    isplitl [Hs4]; · iexact Hs4
    iexact HO
  iintro %_ ⟨Hy3, Hl, Hr, H3, Hs, Hs4, HO⟩
  isplitl [Hi]; · iexact Hi
  isplitl [Hy0 Hy1 Hy2 Hy3]
  · isplitl [Hy0]; · iexact Hy0
    isplitl [Hy1]; · iexact Hy1
    isplitl [Hy2]; · iexact Hy2
    iexact Hy3
  isplitl [H0 H1 H2 H3]
  · isplitl [H0]; · iexact H0
    isplitl [H1]; · iexact H1
    isplitl [H2]; · iexact H2
    iexact H3
  isplitl [Hl]; · iexists _; iexact Hl
  isplitl [Hr]; · iexact Hr
  isplitl [Hs]; · iexact Hs
  isplitl [Hs0]; · iexact Hs0
  isplitl [Hs1]; · iexact Hs1
  isplitl [Hs2]; · iexact Hs2
  isplitl [Hs3]; · iexact Hs3
  isplitl [Hs4]; · iexact Hs4
  iexact HO

end Cert.Proof.KernelIdeal
-- ==== Proof.KernelIdeal.Gather.lean ====
/-
  The gather kernel on one tile: it fetches its block of 4 × 128 row numbers, then, four times, gathers the 128 rows of
  the table that one row of the block names and copies them out to its chunk of the result.
-/
module

public import proofs.«01_k».proof.Proof.KernelIdeal.TileSteps
public import Idealize.ShloMosaic.Lib.Ring.AtN

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (L : grid0.Coords)
  (arg2 : Memref sig .scVector .hbm S32768x128 .f32) (harg2 : arg2.IsWhole)
  (arg3 : Memref sig .scVector .hbm S32x4x128 .i32) (harg3 : arg3.IsWhole)
  (arg4 : Memref sig .scVector .hbm S16384x128 .f32) (harg4 : arg4.IsWhole)
  (arg5 : Memref sig .scVector .vmem S4x128 .i32) (harg5 : arg5.IsWhole)
  (arg6 : Memref sig .scVector .vmem S128x128 .f32) (harg6 : arg6.IsWhole)
  (arg7 r0 r1 r2 r3 r4 : DmaSems sig S_)

/-- One of the four rounds: gather the rows that row `k` of the list names, copy them out to chunk `k`. -/
def gatherTrip (sem rk : DmaSem sig) (k : Fin 4) (h : ∀ a, ![k.val, 0] a + S1x128.size a ≤ S4x128.size a) :
    Prog (TpuEff nD τ sig (Elt F) Λ₀ (.scVector (cV L) (jV L))) PUnit := do
  gatherProg (F := F) L arg2 arg5 arg6 harg6 sem ![k.val, 0] h
  copyProg (F := F) L arg6 (chunkK L arg4 k) rk harg6.wordExact (View.wordExact_bits rfl) ⟨Or.inl rfl, trivial⟩

set_option maxRecDepth 65536 in
/-- The kernel is the fetch of the list and the four rounds. -/
theorem gather_eq : cc0_gk (F := F) L arg2 harg2 arg3 harg3 arg4 harg4 arg5 harg5 arg6 harg6 arg7 r0 r1 r2 r3 r4
    = (do
      copyProg (F := F) L (listK L arg3) arg5 r0.sem ((View.wordExact_bits rfl).reshape _ _) harg5.wordExact ⟨Or.inl rfl, trivial⟩
      gatherTrip (F := F) L arg2 arg4 arg5 arg6 harg6 arg7.sem r1.sem 0 inb_S4x128_S1x128_0_0
      gatherTrip (F := F) L arg2 arg4 arg5 arg6 harg6 arg7.sem r2.sem 1 inb_S4x128_S1x128_1_0
      gatherTrip (F := F) L arg2 arg4 arg5 arg6 harg6 arg7.sem r3.sem 2 inb_S4x128_S1x128_2_0
      gatherTrip (F := F) L arg2 arg4 arg5 arg6 harg6 arg7.sem r4.sem 3 inb_S4x128_S1x128_3_0) := rfl

/-- The chunk holds the rows its list row names. -/
def Gathered (k : Fin 4) (fx : S32768x128.Idx → Elt F .f32) (I : S4x128.Idx → Elt F .i32) (g : S128x128.Idx → Elt F .f32) : Prop :=
  ∀ (y : S128x128.Idx) (h : (I (ix2 k (y 0))).toNat < 32768), g y = fx (ix2 ⟨(I (ix2 k (y 0))).toNat, h⟩ (y 1))

theorem wp_gatherTrip (sem rk : DmaSem sig) (k : Fin 4) (h : ∀ a, ![k.val, 0] a + S1x128.size a ≤ S4x128.size a)
    (O : CellTallies nD τ sig (HIx 4)) (W : Waits sig (HIx 4)) (q : PosShare TreeShare)
    (fx : Buf (Elt F) ((allK arg2).view.loc (tV d L))) (fl : Buf (Elt F) (arg5.view.loc (tV d L)))
    (g G : Buf (Elt F) ((chunkK L arg4 k).view.loc (tV d L)))
    (hin : ∀ j, (arg5.view.read (Elt F) fl j).toNat < 32768)
    (hG : Gathered k (arg2.view.read (Elt F) fx) (arg5.view.read (Elt F) fl) ((chunkK L arg4 k).view.read (Elt F) G)) :
    iprop(Transfers.MayWaits (tV d L) (default : HIx 4) O
        ∗ ((allK arg2).view.loc (tV d L) ↦[(allK arg2).view.set]{q} fx) ∗ (arg5.view.loc (tV d L) ↦[arg5.view.set]{fullShare} fl)
        ∗ (∃ fr, arg6.view.loc (tV d L) ↦[arg6.view.set]{fullShare} fr)
        ∗ ((chunkK L arg4 k).view.loc (tV d L) ↦[(chunkK L arg4 k).view.set]{fullShare} g)
        ∗ semVal (tV d L, SemLoc.dma sem) 0 ∗ semVal (tV d L, SemLoc.dma rk) 0 ∗ paid d L O W)
      ⊢ (wp frame (wpE (defs₀ (F := F)) 𝒱₀ (tV d L) none) Set.univ (gatherTrip (F := F) L arg2 arg4 arg5 arg6 harg6 sem rk k h)
          fun _ => iprop(((allK arg2).view.loc (tV d L) ↦[(allK arg2).view.set]{q} fx) ∗ (arg5.view.loc (tV d L) ↦[arg5.view.set]{fullShare} fl)
            ∗ (∃ fr, arg6.view.loc (tV d L) ↦[arg6.view.set]{fullShare} fr)
            ∗ ((chunkK L arg4 k).view.loc (tV d L) ↦[(chunkK L arg4 k).view.set]{fullShare} G)
            ∗ semVal (tV d L, SemLoc.dma sem) 0 ∗ semVal (tV d L, SemLoc.dma rk) 0 ∗ paid d L O W) : sProp 𝕄) := by
  unfold gatherTrip
  iintro ⟨#Hmw, Hx, Hl, ⟨%fr, Hr⟩, Hg, Hs, Hk, HO⟩
  rw [wp_bind]
  iapply (wp_wand_r _ _ _)
  isplitl [Hx Hl Hr Hs HO]
  · iapply (wp_gather d L arg2 arg5 arg6 harg6 sem k h O W q fx fl fr hin)
    isplitr; · iexact Hmw
    isplitl [Hx]; · iexact Hx
    isplitl [Hl]; · iexact Hl
    isplitl [Hr]; · iexact Hr
    isplitl [Hs]; · iexact Hs
    iexact HO
  iintro %_ ⟨Hx, Hl, ⟨%f', %hf, Hr⟩, Hs, HO⟩
  iapply (wp_wand_r _ _ _)
  isplitl [Hr Hg Hk HO]
  · iapply (wp_copyTo d L arg6 (chunkK L arg4 k) rk harg6.wordExact (View.wordExact_bits rfl) ⟨Or.inl rfl, trivial⟩ (by decide) O W fullShare f' g G
      (funext fun y => (hG y (hin _)).trans (hf y).symm))
    isplitr; · iexact Hmw
    isplitl [Hr]; · iexact Hr
    isplitl [Hg]; · iexact Hg
    isplitl [Hk]; · iexact Hk
    iexact HO
  iintro %_ ⟨Hr, Hg, Hk, HO⟩
  isplitl [Hx]; · iexact Hx
  isplitl [Hl]; · iexact Hl
  isplitl [Hr]; · iexists _; iexact Hr
  isplitl [Hg]; · iexact Hg
  isplitl [Hs]; · iexact Hs
  isplitl [Hk]; · iexact Hk
  iexact HO

/-- The whole kernel on one tile: each chunk ends at the rows the tile's block of row numbers names. -/
theorem wp_gatherTile (O : CellTallies nD τ sig (HIx 4)) (W : Waits sig (HIx 4)) (q : PosShare TreeShare)
    (fx : Buf (Elt F) ((allK arg2).view.loc (tV d L))) (fi : Buf (Elt F) ((listK L arg3).view.loc (tV d L)))
    (g : Fin 4 → Buf (Elt F) (arg4.view.loc (tV d L))) (G : Buf (Elt F) (arg4.view.loc (tV d L)))
    (hin : ∀ j, ((listK L arg3).view.read (Elt F) fi j).toNat < 32768)
    (hG : ∀ k, Gathered k (arg2.view.read (Elt F) fx) ((listK L arg3).view.read (Elt F) fi) ((chunkK L arg4 k).view.read (Elt F) G)) :
    iprop(Transfers.MayWaits (tV d L) (default : HIx 4) O
        ∗ ((allK arg2).view.loc (tV d L) ↦[(allK arg2).view.set]{q} fx)
        ∗ ((listK L arg3).view.loc (tV d L) ↦[(listK L arg3).view.set]{fullShare} fi)
        ∗ (bigSep Finset.univ fun k : Fin 4 => (chunkK L arg4 k).view.loc (tV d L) ↦[(chunkK L arg4 k).view.set]{fullShare} (g k))
        ∗ (∃ fl, arg5.view.loc (tV d L) ↦[arg5.view.set]{fullShare} fl) ∗ (∃ fr, arg6.view.loc (tV d L) ↦[arg6.view.set]{fullShare} fr)
        ∗ semVal (tV d L, SemLoc.dma arg7.sem) 0 ∗ semVal (tV d L, SemLoc.dma r0.sem) 0 ∗ semVal (tV d L, SemLoc.dma r1.sem) 0
        ∗ semVal (tV d L, SemLoc.dma r2.sem) 0 ∗ semVal (tV d L, SemLoc.dma r3.sem) 0 ∗ semVal (tV d L, SemLoc.dma r4.sem) 0
        ∗ paid d L O W)
      ⊢ (wp frame (wpE (defs₀ (F := F)) 𝒱₀ (tV d L) none) Set.univ
          (cc0_gk (F := F) L arg2 harg2 arg3 harg3 arg4 harg4 arg5 harg5 arg6 harg6 arg7 r0 r1 r2 r3 r4)
          fun _ => iprop(((allK arg2).view.loc (tV d L) ↦[(allK arg2).view.set]{q} fx)
            ∗ ((listK L arg3).view.loc (tV d L) ↦[(listK L arg3).view.set]{fullShare} fi)
            ∗ (bigSep Finset.univ fun k : Fin 4 => (chunkK L arg4 k).view.loc (tV d L) ↦[(chunkK L arg4 k).view.set]{fullShare} G)
            ∗ (∃ fl, arg5.view.loc (tV d L) ↦[arg5.view.set]{fullShare} fl) ∗ (∃ fr, arg6.view.loc (tV d L) ↦[arg6.view.set]{fullShare} fr)
            ∗ semVal (tV d L, SemLoc.dma arg7.sem) 0 ∗ semVal (tV d L, SemLoc.dma r0.sem) 0 ∗ semVal (tV d L, SemLoc.dma r1.sem) 0
            ∗ semVal (tV d L, SemLoc.dma r2.sem) 0 ∗ semVal (tV d L, SemLoc.dma r3.sem) 0 ∗ semVal (tV d L, SemLoc.dma r4.sem) 0
            ∗ paid d L O W) : sProp 𝕄) := by
  rw [gather_eq, Ring.bigSep_fin4, Ring.bigSep_fin4]
  iintro ⟨#Hmw, Hx, Hi, ⟨H0, H1, H2, H3⟩, ⟨%fl0, Hl⟩, Hr, Hs, Hs0, Hs1, Hs2, Hs3, Hs4, HO⟩
  rw [wp_bind]
  iapply (wp_wand_r _ _ _)
  isplitl [Hi Hl Hs0 HO]
  · iapply (wp_copy d L (listK L arg3) arg5 r0.sem ((View.wordExact_bits rfl).reshape _ _) harg5.wordExact ⟨Or.inl rfl, trivial⟩ (by decide) O W fullShare fi fl0)
    isplitr; · iexact Hmw
    isplitl [Hi]; · iexact Hi
    isplitl [Hl]; · iexact Hl
    isplitl [Hs0]; · iexact Hs0
    iexact HO
  iintro %_ ⟨Hi, ⟨%fl, %hfl, Hl⟩, Hs0, HO⟩
  have hin' : ∀ j, (arg5.view.read (Elt F) fl j).toNat < 32768 := by rw [hfl]; exact hin
  have hG' : ∀ k, Gathered k (arg2.view.read (Elt F) fx) (arg5.view.read (Elt F) fl) ((chunkK L arg4 k).view.read (Elt F) G) := by rw [hfl]; exact hG
  rw [wp_bind]
  iapply (wp_wand_r _ _ _)
  isplitl [Hx Hl Hr H0 Hs Hs1 HO]
  · iapply (wp_gatherTrip d L arg2 arg4 arg5 arg6 harg6 arg7.sem r1.sem 0 inb_S4x128_S1x128_0_0 O W q fx fl (g 0) G hin' (hG' 0))
    isplitr; · iexact Hmw
    isplitl [Hx]; · iexact Hx
    isplitl [Hl]; · iexact Hl
    isplitl [Hr]; · iexact Hr
    isplitl [H0]; · iexact H0
    isplitl [Hs]; · iexact Hs
    isplitl [Hs1]; · iexact Hs1
    iexact HO
  iintro %_ ⟨Hx, Hl, Hr, H0, Hs, Hs1, HO⟩
  rw [wp_bind]
  iapply (wp_wand_r _ _ _)
  isplitl [Hx Hl Hr H1 Hs Hs2 HO]
  · iapply (wp_gatherTrip d L arg2 arg4 arg5 arg6 harg6 arg7.sem r2.sem 1 inb_S4x128_S1x128_1_0 O W q fx fl (g 1) G hin' (hG' 1))
    isplitr; · iexact Hmw
    isplitl [Hx]; · iexact Hx
    isplitl [Hl]; · iexact Hl
    isplitl [Hr]; · iexact Hr
    isplitl [H1]; · iexact H1
    isplitl [Hs]; · iexact Hs
    isplitl [Hs2]; · iexact Hs2
    iexact HO
  iintro %_ ⟨Hx, Hl, Hr, H1, Hs, Hs2, HO⟩
  rw [wp_bind]
  iapply (wp_wand_r _ _ _)
  isplitl [Hx Hl Hr H2 Hs Hs3 HO]
  · iapply (wp_gatherTrip d L arg2 arg4 arg5 arg6 harg6 arg7.sem r3.sem 2 inb_S4x128_S1x128_2_0 O W q fx fl (g 2) G hin' (hG' 2))
    isplitr; · iexact Hmw
    isplitl [Hx]; · iexact Hx
    isplitl [Hl]; · iexact Hl
    isplitl [Hr]; · iexact Hr
    isplitl [H2]; · iexact H2
    isplitl [Hs]; · iexact Hs
    isplitl [Hs3]; · iexact Hs3
    iexact HO
  iintro %_ ⟨Hx, Hl, Hr, H2, Hs, Hs3, HO⟩

  iapply (wp_wand_r _ _ _)
  isplitl [Hx Hl Hr H3 Hs Hs4 HO]
  · iapply (wp_gatherTrip d L arg2 arg4 arg5 arg6 harg6 arg7.sem r4.sem 3 inb_S4x128_S1x128_3_0 O W q fx fl (g 3) G hin' (hG' 3))
    isplitr; · iexact Hmw
    isplitl [Hx]; · iexact Hx
    isplitl [Hl]; · iexact Hl
    isplitl [Hr]; · iexact Hr
    isplitl [H3]; · iexact H3
    isplitl [Hs]; · iexact Hs
    isplitl [Hs4]; · iexact Hs4
    iexact HO
  iintro %_ ⟨Hx, Hl, Hr, H3, Hs, Hs4, HO⟩
  isplitl [Hx]; · iexact Hx
  isplitl [Hi]; · iexact Hi
  isplitl [H0 H1 H2 H3]
  · isplitl [H0]; · iexact H0
    isplitl [H1]; · iexact H1
    isplitl [H2]; · iexact H2
    iexact H3
  isplitl [Hl]; · iexists _; iexact Hl
  isplitl [Hr]; · iexact Hr
  isplitl [Hs]; · iexact Hs
  isplitl [Hs0]; · iexact Hs0
  isplitl [Hs1]; · iexact Hs1
  isplitl [Hs2]; · iexact Hs2
  isplitl [Hs3]; · iexact Hs3
  isplitl [Hs4]; · iexact Hs4
  iexact HO

end Cert.Proof.KernelIdeal
-- ==== Proof.KernelIdeal.Split.lean ====
/-
  How the arrays of the gather and scatter calls are dealt to the 32 tiles and put together again: the tiles' blocks of
  the index array, their chunks of a 16384-row array, and the rows their words name of a 32768-row array; and what each
  call leaves in its result, as one function of the whole arrays.
-/
module

public import proofs.«01_k».proof.Proof.KernelIdeal.Scatter
public import proofs.«01_k».proof.Proof.KernelIdeal.Gather

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The number of a tile, and of a slot -/

/-- A tile, by its SparseCore and subcore. -/
abbrev Tile : Type := Fin 2 × Fin 16

/-- Its grid point. -/
abbrev at' (t : Tile) : grid0.Coords := coordsV t.1 t.2

/-- Its number: the subcores of the two SparseCores alternate. -/
def wid (t : Tile) : Fin 32 := ⟨2 * t.2.val + t.1.val, by omega⟩

theorem wid_inj : Function.Injective wid := by
  rintro ⟨c, i⟩ ⟨c', i'⟩ h
  have : 2 * i.val + c.val = 2 * i'.val + c'.val := congrArg Fin.val h
  exact Prod.ext (Fin.ext (by show c.val = c'.val; omega)) (Fin.ext (by show i.val = i'.val; omega))

theorem wid_surj (w : Fin 32) : ∃ t, wid t = w :=
  ⟨(⟨w.val % 2, by omega⟩, ⟨w.val / 2, by omega⟩), Fin.ext (by show 2 * (w.val / 2) + w.val % 2 = w.val; omega)⟩

/-- The row of a 16384-row array that word `r` of row `k` of tile `t`'s block is for. -/
def slot (t : Tile) (k : Fin 4) (r : Fin 128) : Fin 16384 := ⟨512 * (wid t).val + 128 * k.val + r.val, by have := (wid t).isLt; omega⟩

theorem slot_inj {t t' : Tile} {k k' : Fin 4} {r r' : Fin 128} (h : slot t k r = slot t' k' r') : t = t' ∧ k = k' ∧ r = r' := by
  have : 512 * (wid t).val + 128 * k.val + r.val = 512 * (wid t').val + 128 * k'.val + r'.val := congrArg Fin.val h
  exact ⟨wid_inj (Fin.ext (by omega)), Fin.ext (by omega), Fin.ext (by omega)⟩

theorem slot_surj (n : Fin 16384) : ∃ t k r, slot t k r = n := by
  obtain ⟨t, ht⟩ := wid_surj ⟨n.val / 512, by omega⟩
  refine ⟨t, ⟨n.val % 512 / 128, by omega⟩, ⟨n.val % 128, by omega⟩, Fin.ext ?_⟩
  show 512 * (wid t).val + 128 * (n.val % 512 / 128) + n.val % 128 = n.val
  rw [ht]; show 512 * (n.val / 512) + 128 * (n.val % 512 / 128) + n.val % 128 = n.val; omega

/-- The index `(w, k, r)` of the index array. -/
def ix3 (w : Fin 32) (k : Fin 4) (r : Fin 128) : S32x4x128.Idx := fun | 0 => w | 1 => k | 2 => r

/-- The word of slot `n`. -/
def wordAt (I : S32x4x128.Idx → BitVec 32) (n : Fin 16384) : ℕ :=
  (I (ix3 ⟨n.val / 512, by omega⟩ ⟨n.val % 512 / 128, by omega⟩ ⟨n.val % 128, by omega⟩)).toNat

theorem wordAt_slot (I : S32x4x128.Idx → BitVec 32) (t : Tile) (k : Fin 4) (r : Fin 128) :
    wordAt I (slot t k r) = (I (ix3 (wid t) k r)).toNat := by
  have h1 : (⟨(slot t k r).val / 512, by omega⟩ : Fin 32) = wid t := Fin.ext (by show (512 * (wid t).val + 128 * k.val + r.val) / 512 = _; omega)
  have h2 : (⟨(slot t k r).val % 512 / 128, by omega⟩ : Fin 4) = k := Fin.ext (by show (512 * (wid t).val + 128 * k.val + r.val) % 512 / 128 = _; omega)
  have h3 : (⟨(slot t k r).val % 128, by omega⟩ : Fin 128) = r := Fin.ext (by show (512 * (wid t).val + 128 * k.val + r.val) % 128 = _; omega)
  unfold wordAt; rw [h1, h2, h3]

/-! ## What the calls leave -/

/-- A gather's result: row `n` is the row of the table that the word of slot `n` names. -/
def gatherOf {α : Type} (I : S32x4x128.Idx → BitVec 32) (X : S32768x128.Idx → α) : S16384x128.Idx → α :=
  fun y => X (ix2 (⟨wordAt I (y 0) % 32768, Nat.mod_lt _ (by decide)⟩ : Fin 32768) (y 1))

open scoped Classical in
/-- A scatter's result: the row that the word of slot `n` names is row `n` of the source; a row none names stays. -/
def scatterOf {α : Type} (I : S32x4x128.Idx → BitVec 32) (Y : S16384x128.Idx → α) (B : S32768x128.Idx → α) : S32768x128.Idx → α :=
  fun x => if h : ∃ n : Fin 16384, wordAt I n = (x 0).val then Y (ix2 h.choose (x 1)) else B x

theorem scatterOf_hit {α : Type} {I : S32x4x128.Idx → BitVec 32} (hI : Function.Injective (wordAt I)) (Y : S16384x128.Idx → α) (B : S32768x128.Idx → α)
    (x : S32768x128.Idx) (n : Fin 16384) (h : wordAt I n = (x 0).val) : scatterOf I Y B x = Y (ix2 n (x 1)) := by
  have hx : ∃ n : Fin 16384, wordAt I n = (x 0).val := ⟨n, h⟩
  unfold scatterOf
  rw [dif_pos hx, hI (hx.choose_spec.trans h.symm)]

theorem scatterOf_miss {α : Type} {I : S32x4x128.Idx → BitVec 32} (Y : S16384x128.Idx → α) (B : S32768x128.Idx → α)
    (x : S32768x128.Idx) (h : ¬∃ n : Fin 16384, wordAt I n = (x 0).val) : scatterOf I Y B x = B x := dif_neg h

/-! ## The blocks, as sets of elements -/

theorem off1_at (t : Tile) : k0_off1 (at' t) = ![(wid t).val, 0, 0] := k0_off1_eq _
theorem off2_at (t : Tile) (k : Fin 4) : k0_off2 (at' t) (BitVec.ofNat 32 (128 * k.val)) = ![512 * (wid t).val + 128 * k.val, 0] := by
  rw [k0_off2_eq]; congr 1
  show 1024 * t.2.val + 512 * t.1.val + 128 * k.val = 512 * (2 * t.2.val + t.1.val) + 128 * k.val; omega

theorem mem_list (t : Tile) (arg3 : Memref sig .scVector .hbm S32x4x128 .i32) (x : arg3.view.ty.Idx) :
    x ∈ (listK (at' t) arg3).view.set ↔ ∃ y : S32x4x128.Idx, y 0 = wid t ∧ arg3.view.emb y = x := by
  rw [show (listK (at' t) arg3).view.set = (arg3.view.slice (Rect.unit (s := S32x4x128) (k0_off1 (at' t)) S1x4x128.size (k0_off1_inb (at' t)))).set from View.set_reshape _ _,
    View.set_slice, Finset.mem_map]
  refine exists_congr fun y => and_congr_left fun _ => ?_
  rw [Rect.mem_set_unit, off1_at]
  constructor
  · intro h
    have h0 := h 0
    exact Fin.ext (by have : (wid t).val ≤ (y 0).val ∧ (y 0).val < (wid t).val + 1 := h0; omega)
  · intro h a
    match a with
    | 0 => rw [h]; exact ⟨le_refl _, Nat.lt_succ_self _⟩
    | 1 => exact ⟨Nat.zero_le _, by show (y 1).val < 0 + 4; have := (y 1).isLt; exact (Nat.zero_add 4).symm ▸ this⟩
    | 2 => exact ⟨Nat.zero_le _, by show (y 2).val < 0 + 128; have := (y 2).isLt; exact (Nat.zero_add 128).symm ▸ this⟩

theorem mem_chunk (t : Tile) (k : Fin 4) (arg4 : Memref sig .scVector .hbm S16384x128 .f32) (x : arg4.view.ty.Idx) :
    x ∈ (chunkK (at' t) arg4 k).view.set ↔ ∃ y : S16384x128.Idx, (∃ r, y 0 = slot t k r) ∧ arg4.view.emb y = x := by
  rw [show (chunkK (at' t) arg4 k).view.set = (arg4.view.slice (Rect.unit (s := S16384x128) (k0_off2 (at' t) (BitVec.ofNat 32 (128 * k.val))) S128x128.size (k0_off2_inb (at' t) k))).set from rfl,
    View.set_slice, Finset.mem_map]
  refine exists_congr fun y => and_congr_left fun _ => ?_
  rw [Rect.mem_set_unit, off2_at]
  constructor
  · intro h
    have h0 : 512 * (wid t).val + 128 * k.val ≤ (y 0).val ∧ (y 0).val < 512 * (wid t).val + 128 * k.val + 128 := h 0
    exact ⟨⟨(y 0).val - (512 * (wid t).val + 128 * k.val), by omega⟩, Fin.ext (by
      show (y 0).val = 512 * (wid t).val + 128 * k.val + ((y 0).val - (512 * (wid t).val + 128 * k.val)); omega)⟩
  · rintro ⟨r, h⟩ a
    match a with
    | 0 =>
      rw [h]
      exact ⟨Nat.le_add_right _ _, Nat.add_lt_add_left r.isLt _⟩
    | 1 => exact ⟨Nat.zero_le _, by show (y 1).val < 0 + 128; have := (y 1).isLt; exact (Nat.zero_add 128).symm ▸ this⟩

theorem emb_allK (arg2 : Memref sig .scVector .hbm S32768x128 .f32) (y : S32768x128.Idx) : (allK arg2).view.emb y = arg2.view.emb y := by
  show arg2.view.emb ((Rect.unit (s := S32768x128) ![0, 0] S32768x128.size inb_S32768x128_S32768x128_0_0).emb y) = _
  congr 1; funext a; apply Fin.ext
  match a with
  | 0 => simp
  | 1 => simp

theorem mem_named (arg2 : Memref sig .scVector .hbm S32768x128 .f32) (p : ℕ → Prop) (x : arg2.view.ty.Idx) :
    x ∈ namedK arg2 p ↔ ∃ y : S32768x128.Idx, p (y 0).val ∧ arg2.view.emb y = x := by
  rw [SparseCore.mem_rowsWhere]
  constructor
  · rintro ⟨i, hi, hx⟩
    rw [View.set_slice, Finset.mem_map] at hx
    obtain ⟨y, hy, rfl⟩ := hx
    have hy0 := (Rect.mem_set_unit.mp hy) 0
    have e : (y 0).val = i.val := by
      have : i.val ≤ (y 0).val ∧ (y 0).val < i.val + 1 := hy0
      omega
    exact ⟨y, e ▸ hi, (emb_allK arg2 y).symm⟩
  · rintro ⟨y, hy, rfl⟩
    refine ⟨y 0, hy, ?_⟩
    rw [View.set_slice, Finset.mem_map]
    refine ⟨y, ?_, emb_allK arg2 y⟩
    refine Rect.mem_set_unit.mpr fun a => ?_
    match a with
    | 0 => exact ⟨le_refl _, Nat.lt_succ_self _⟩
    | 1 => exact ⟨Nat.zero_le _, by show (y 1).val < 0 + 128; have := (y 1).isLt; exact (Nat.zero_add 128).symm ▸ this⟩

/-! ## They are disjoint and cover -/

theorem list_disjoint (arg3 : Memref sig .scVector .hbm S32x4x128 .i32) :
    ∀ t ∈ (Finset.univ : Finset Tile), ∀ t' ∈ (Finset.univ : Finset Tile), t ≠ t' →
      Disjoint (listK (at' t) arg3).view.set (listK (at' t') arg3).view.set := by
  intro t _ t' _ hne
  rw [Finset.disjoint_left]
  intro x hx hx'
  obtain ⟨y, hy, rfl⟩ := (mem_list t arg3 _).mp hx
  obtain ⟨y', hy', e⟩ := (mem_list t' arg3 _).mp hx'
  obtain rfl := arg3.view.emb.injective e
  exact hne (wid_inj (hy.symm.trans hy'))

theorem list_cover (arg3 : Memref sig .scVector .hbm S32x4x128 .i32) :
    (Finset.univ : Finset Tile).biUnion (fun t => (listK (at' t) arg3).view.set) = arg3.view.set := by
  ext x
  rw [Finset.mem_biUnion]
  constructor
  · rintro ⟨t, -, hx⟩
    obtain ⟨y, -, rfl⟩ := (mem_list t arg3 _).mp hx
    exact Finset.mem_map_of_mem _ (Finset.mem_univ _)
  · intro hx
    obtain ⟨y, -, rfl⟩ := Finset.mem_map.mp hx
    obtain ⟨t, ht⟩ := wid_surj (y 0)
    exact ⟨t, Finset.mem_univ _, (mem_list t arg3 _).mpr ⟨y, ht.symm, rfl⟩⟩

theorem chunk_disjoint (arg4 : Memref sig .scVector .hbm S16384x128 .f32) :
    ∀ u ∈ (Finset.univ : Finset (Tile × Fin 4)), ∀ u' ∈ (Finset.univ : Finset (Tile × Fin 4)), u ≠ u' →
      Disjoint (chunkK (at' u.1) arg4 u.2).view.set (chunkK (at' u'.1) arg4 u'.2).view.set := by
  intro u _ u' _ hne
  rw [Finset.disjoint_left]
  intro x hx hx'
  obtain ⟨y, ⟨r, hr⟩, rfl⟩ := (mem_chunk u.1 u.2 arg4 _).mp hx
  obtain ⟨y', ⟨r', hr'⟩, e⟩ := (mem_chunk u'.1 u'.2 arg4 _).mp hx'
  obtain rfl := arg4.view.emb.injective e
  obtain ⟨h1, h2, -⟩ := slot_inj (hr.symm.trans hr')
  exact hne (Prod.ext h1 h2)

theorem chunk_cover (arg4 : Memref sig .scVector .hbm S16384x128 .f32) :
    (Finset.univ : Finset (Tile × Fin 4)).biUnion (fun u => (chunkK (at' u.1) arg4 u.2).view.set) = arg4.view.set := by
  ext x
  rw [Finset.mem_biUnion]
  constructor
  · rintro ⟨u, -, hx⟩
    obtain ⟨y, -, rfl⟩ := (mem_chunk u.1 u.2 arg4 _).mp hx
    exact Finset.mem_map_of_mem _ (Finset.mem_univ _)
  · intro hx
    obtain ⟨y, -, rfl⟩ := Finset.mem_map.mp hx
    obtain ⟨t, k, r, h⟩ := slot_surj (y 0)
    exact ⟨(t, k), Finset.mem_univ _, (mem_chunk t k arg4 _).mpr ⟨y, ⟨r, h.symm⟩, rfl⟩⟩

/-- The rows that the words of chunk `k` of tile `t` name. -/
def names (I : S32x4x128.Idx → BitVec 32) (t : Tile) (k : Fin 4) : ℕ → Prop := fun n => ∃ r, wordAt I (slot t k r) = n

theorem named_disjoint (arg4 : Memref sig .scVector .hbm S32768x128 .f32) {I : S32x4x128.Idx → BitVec 32} (hI : Function.Injective (wordAt I)) :
    ∀ u ∈ (Finset.univ : Finset (Tile × Fin 4)), ∀ u' ∈ (Finset.univ : Finset (Tile × Fin 4)), u ≠ u' →
      Disjoint (namedK arg4 (names I u.1 u.2)) (namedK arg4 (names I u'.1 u'.2)) := by
  intro u _ u' _ hne
  refine SparseCore.rowsWhere_disjoint _ _ ?_
  rintro n ⟨r, hr⟩ ⟨r', hr'⟩
  obtain ⟨h1, h2, -⟩ := slot_inj (hI (hr.trans hr'.symm))
  exact hne (Prod.ext h1 h2)

/-! ## What the tiles read and leave is what the whole arrays say -/

theorem read_list (d : Dev nD) (t : Tile) (arg3 : Memref sig .scVector .hbm S32x4x128 .i32) (fi : Buf (Elt F) (arg3.view.loc (tV d (at' t)))) (k : Fin 4) (r : Fin 128) :
    (listK (at' t) arg3).view.read (Elt F) fi (ix2 k r) = arg3.view.read (Elt F) fi (ix3 (wid t) k r) := by
  have e : Shape.reshapeEquiv (s := S1x4x128) (s' := S4x128) squeezes_S1x4x128_S4x128.numel_eq (ix2 k r) = (fun | 0 => (0 : Fin 1) | 1 => k | 2 => r) := by
    apply Shape.reshapeEquiv_eq_of_rowMajor
    rw [Shape.rowMajor_val_three, Shape.rowMajor_val_two]
    simp [ix2]
  show arg3.view.read (Elt F) fi ((Rect.unit (s := S32x4x128) (k0_off1 (at' t)) S1x4x128.size (k0_off1_inb (at' t))).emb (Shape.reshapeEquiv _ (ix2 k r))) = _
  rw [e]
  congr 1
  funext a
  apply Fin.ext
  have h := off1_at t
  match a with
  | 0 => simp [h, ix3]
  | 1 => simp [h, ix3]
  | 2 => simp [h, ix3]

theorem read_chunk (d : Dev nD) (t : Tile) (arg4 : Memref sig .scVector .hbm S16384x128 .f32) (k : Fin 4) (fy : Buf (Elt F) (arg4.view.loc (tV d (at' t)))) (y : S128x128.Idx) :
    (chunkK (at' t) arg4 k).view.read (Elt F) fy y = arg4.view.read (Elt F) fy (ix2 (slot t k (y 0)) (y 1)) := by
  show arg4.view.read (Elt F) fy ((Rect.unit (s := S16384x128) (k0_off2 (at' t) (BitVec.ofNat 32 (128 * k.val))) S128x128.size (k0_off2_inb (at' t) k)).emb y) = _
  congr 1
  funext a
  apply Fin.ext
  have h := off2_at t k
  match a with
  | 0 => simp [h, ix2, slot]
  | 1 => simp [h, ix2]

/-- Every word of the list is a row number. -/
def InRange (I : S32x4x128.Idx → BitVec 32) : Prop := ∀ j, (I j).toNat < 32768

theorem list_in (d : Dev nD) (t : Tile) (arg3 : Memref sig .scVector .hbm S32x4x128 .i32) (fi : Buf (Elt F) (arg3.view.loc (tV d (at' t))))
    (h : InRange (arg3.view.read (Elt F) fi)) (j : S4x128.Idx) : ((listK (at' t) arg3).view.read (Elt F) fi j).toNat < 32768 := by
  rw [← ix2_eta (a := 4) (b := 128) j]
  exact (congrArg (fun w : BitVec 32 => w.toNat < 32768) (read_list d t arg3 fi (j 0) (j 1))).mpr (h _)

theorem list_word (d : Dev nD) (t : Tile) (arg3 : Memref sig .scVector .hbm S32x4x128 .i32) (fi : Buf (Elt F) (arg3.view.loc (tV d (at' t)))) (k : Fin 4) (r : Fin 128) :
    ((listK (at' t) arg3).view.read (Elt F) fi (ix2 k r)).toNat = wordAt (arg3.view.read (Elt F) fi) (slot t k r) := by
  rw [read_list, wordAt_slot]

theorem gathered (d : Dev nD) (t : Tile) (arg3 : Memref sig .scVector .hbm S32x4x128 .i32) (arg4 : Memref sig .scVector .hbm S16384x128 .f32)
    (fi : Buf (Elt F) (arg3.view.loc (tV d (at' t)))) (G : Buf (Elt F) (arg4.view.loc (tV d (at' t)))) (X : S32768x128.Idx → Elt F .f32)
    (hG : arg4.view.read (Elt F) G = gatherOf (arg3.view.read (Elt F) fi) X) (k : Fin 4) :
    Gathered k X ((listK (at' t) arg3).view.read (Elt F) fi) ((chunkK (at' t) arg4 k).view.read (Elt F) G) := by
  intro y h
  rw [read_chunk d t arg4 k G y, hG]
  unfold gatherOf
  congr 2
  apply Fin.ext
  show wordAt _ (slot t k (y 0)) % 32768 = _
  exact (congrArg (· % 32768) (list_word d t arg3 fi k (y 0)).symm).trans (Nat.mod_eq_of_lt h)

theorem scattered (d : Dev nD) (t : Tile) (arg3 : Memref sig .scVector .hbm S32x4x128 .i32) (arg2 : Memref sig .scVector .hbm S16384x128 .f32)
    (fi : Buf (Elt F) (arg3.view.loc (tV d (at' t)))) (fy : Buf (Elt F) (arg2.view.loc (tV d (at' t)))) (G B : S32768x128.Idx → Elt F .f32)
    (hI : Function.Injective (wordAt (arg3.view.read (Elt F) fi)))
    (hG : G = scatterOf (arg3.view.read (Elt F) fi) (arg2.view.read (Elt F) fy) B) (k : Fin 4) :
    Scattered k ((listK (at' t) arg3).view.read (Elt F) fi) ((chunkK (at' t) arg2 k).view.read (Elt F) fy) G := by
  intro x h
  rw [read_chunk d t arg2 k fy x, hG]
  exact scatterOf_hit hI _ _ _ (slot t k (x 0)) (list_word d t arg3 fi k (x 0)).symm

end Cert.Proof.KernelIdeal
-- ==== Proof.KernelIdeal.Calls.lean ====
/-
  What each call hands a tile and has back from it, and that a tile's task is so: the gather leaves the tile's chunks of
  its result at the whole gather's result, the scatter leaves the rows its words name at the whole scatter's result. A
  tile's own scratch memory and semaphores are taken out of its scoped ones and put back.
-/
module

public import proofs.«01_k».proof.Proof.KernelIdeal.Split

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The tile's scratch memory and semaphores -/

section Own

variable (d : Dev nD) (L : grid0.Coords)

/-- A tile's scratch buffer, whole, at some contents. -/
abbrev scratch (b : Ref sig .scVector) : sProp 𝕄 :=
  iprop(∃ f, (Memref.whole b).view.loc (tV d L) ↦[(Memref.whole b).view.set]{fullShare} f)

/-- The tile's semaphores of a kernel, all at zero. -/
abbrev sems0 (s : Fin 6 → DmaSem sig) : sProp 𝕄 :=
  iprop(semVal (tV d L, SemLoc.dma (s 0)) 0 ∗ semVal (tV d L, SemLoc.dma (s 1)) 0 ∗ semVal (tV d L, SemLoc.dma (s 2)) 0
    ∗ semVal (tV d L, SemLoc.dma (s 3)) 0 ∗ semVal (tV d L, SemLoc.dma (s 4)) 0 ∗ semVal (tV d L, SemLoc.dma (s 5)) 0)

theorem scratch_eq (b : Ref sig .scVector) :
    (scratch d L b : sProp 𝕄) = iprop(∃ f, ((d, (Proc.scVector (cV L) (jV L)).devRef b) : Loc nD τ sig) ↦{fullShare} f) := by
  unfold scratch; rw [show (Memref.whole b).view.set = Finset.univ from View.set_whole b]

/-- Two scratch buffers of a tile are among its own buffers. -/
theorem ownBufs_two (b0 b1 : Ref sig .scVector) (hne : b1 ≠ b0)
    (h0 : ((Proc.scVector (cV L) (jV L)).devRef b0).owner = .proc (Proc.scVector (cV L) (jV L)))
    (h1 : ((Proc.scVector (cV L) (jV L)).devRef b1).owner = .proc (Proc.scVector (cV L) (jV L))) :
    ∃ R : sProp 𝕄, SparseCore.Cfg.ownBufs (tV d L) = iprop(scratch d L b0 ∗ scratch d L b1 ∗ R) := by
  refine ⟨bigSep (((SparseCore.Cfg.ownRefs (τ := τ) (.scVector (cV L) (jV L))).erase ((Proc.scVector (cV L) (jV L)).devRef b0)).erase ((Proc.scVector (cV L) (jV L)).devRef b1))
    fun b => iprop(∃ f, ((d, b) : Loc nD τ sig) ↦{fullShare} f), ?_⟩
  unfold SparseCore.Cfg.ownBufs
  rw [scratch_eq, scratch_eq]
  refine (SparseCore.bigSep_erase' (mem_ownRefs_of_owner h0)).trans ?_
  rw [SparseCore.bigSep_erase' (Finset.mem_erase.mpr ⟨fun e => absurd (Proc.devRef_injective _ e) hne, mem_ownRefs_of_owner h1⟩)]

/-- Six semaphores of a tile are among its own cells. -/
theorem ownSems_six (s : Fin 6 → DmaSem sig) (hs : Function.Injective s) (hsc : ∀ k, (SemLoc.dma (s k) : SemLoc sig).isScoped .scVector = true) :
    ∃ R : sProp 𝕄, SparseCore.Cfg.ownSems0 (tV d L) = iprop(sems0 d L s ∗ R) := by
  refine ⟨bigSep (SparseCore.Cfg.ownCells (tV d L) \ Finset.univ.image fun k => ((tV d L, SemLoc.dma (s k)) : GSem nD τ sig)) fun g => semVal g 0, ?_⟩
  unfold SparseCore.Cfg.ownSems0
  rw [SparseCore.bigSep_sdiff_split' (t := Finset.univ.image fun k => ((tV d L, SemLoc.dma (s k)) : GSem nD τ sig))
    (fun g hg => by
      obtain ⟨k, -, rfl⟩ := Finset.mem_image.mp hg
      exact mem_ownCells.mpr ⟨rfl, hsc k⟩)]
  congr 1
  have hinj : Function.Injective fun k => ((tV d L, SemLoc.dma (s k)) : GSem nD τ sig) := fun a b e => hs (by
    injection (congrArg Prod.snd e))
  rw [bigSep_image_of_injOn hinj.injOn]
  exact bigSep_univ_eq_bigSepL [0, 1, 2, 3, 4, 5] (by decide) (by decide) _

/-- A tile's task, proved over the buffers and semaphores its kernel uses, holds over all of the tile's own. -/
theorem tile_wrap (b0 b1 : Ref sig .scVector) (hne : b1 ≠ b0)
    (h0 : ((Proc.scVector (cV L) (jV L)).devRef b0).owner = .proc (Proc.scVector (cV L) (jV L)))
    (h1 : ((Proc.scVector (cV L) (jV L)).devRef b1).owner = .proc (Proc.scVector (cV L) (jV L)))
    (s : Fin 6 → DmaSem sig) (hs : Function.Injective s) (hsc : ∀ k, (SemLoc.dma (s k) : SemLoc sig).isScoped .scVector = true)
    (prog : Prog (TpuEff nD τ sig (Elt F) Λ₀ (.scVector (cV L) (jV L))) PUnit) (A B : sProp 𝕄)
    (O : CellTallies nD τ sig (HIx 4)) (W : Waits sig (HIx 4)) (hO : ∀ g, O g none = 0) (q : Fin 4)
    (h : iprop(Transfers.MayWaits (tV d L) (default : HIx 4) O ∗ A ∗ scratch d L b0 ∗ scratch d L b1 ∗ sems0 d L s ∗ paid d L O W)
      ⊢ wp frame (wpE (defs₀ (F := F)) 𝒱₀ (tV d L) none) Set.univ prog
          fun _ => iprop(B ∗ scratch d L b0 ∗ scratch d L b1 ∗ sems0 d L s ∗ paid d L O W)) :
    iprop(levAts (K (F := F)).L (K (F := F)).lev ∗ emp ∗ A ∗ scopedBufs (tV d L) ∗ scopedSems0 (tV d L) ∗ owes (tV d L) O W)
      ⊢ wp frame (wpE (defs₀ (F := F)) 𝒱₀ (tV d L) none) Set.univ prog
          fun _ => iprop(B ∗ scopedBufs (tV d L) ∗ scopedSems0 (tV d L)
            ∗ ∃ W', ⌜∀ p ∈ W', p ∈ W ∨ p.2 = none ∨ p.2 = some q⌝ ∗ owes (tV d L) O W') := by
  obtain ⟨RB, hRB⟩ := ownBufs_two (F := F) d L b0 b1 hne h0 h1
  obtain ⟨RS, hRS⟩ := ownSems_six (F := F) d L s hs hsc
  rw [(K (F := F)).scopedBufs_V facts d (cV L) (jV L), SparseCore.Cfg.scopedSems0_V (Val := Elt F) d (cV L) (jV L), hRB, hRS]
  iintro ⟨#Hlv, -, HA, ⟨Hb0, Hb1, HRB⟩, ⟨Hs, HRS⟩, HO⟩
  ihave Hmw := (show levAts (K (F := F)).L (K (F := F)).lev ⊢ Transfers.MayWaits (tV d L) (default : HIx 4) O from
    (K (F := F)).mayWaits_none (thr := tV d L) hO) $$ Hlv
  iapply (wp_wand_r _ _ _)
  isplitl [Hmw HA Hb0 Hb1 Hs HO]
  · iapply h
    isplitl [Hmw]; · iexact Hmw
    isplitl [HA]; · iexact HA
    isplitl [Hb0]; · iexact Hb0
    isplitl [Hb1]; · iexact Hb1
    isplitl [Hs]; · iexact Hs
    iexists W; isplitr
    · ipureintro; exact fun p hp => Or.inl hp
    iexact HO
  iintro %_ ⟨HB, Hb0, Hb1, Hs, %W', %hW', HO⟩
  isplitl [HB]; · iexact HB
  isplitl [Hb0 Hb1 HRB]
  · isplitl [Hb0]; · iexact Hb0
    isplitl [Hb1]; · iexact Hb1
    iexact HRB
  isplitl [Hs HRS]
  · isplitl [Hs]; · iexact Hs
    iexact HRS
  iexists W'; isplitr
  · ipureintro; exact fun p hp => (hW' p hp).imp_right Or.inl
  iexact HO

end Own

/-! ## What a call hands a tile -/

section Res

variable (d : Dev nD) (t : Tile)

/-- The gather: a share of the table, the tile's block of row numbers, its four chunks of the result at `g`. -/
def gatherRes (arg2 : Memref sig .scVector .hbm S32768x128 .f32) (arg3 : Memref sig .scVector .hbm S32x4x128 .i32) (arg4 : Memref sig .scVector .hbm S16384x128 .f32)
    (fx : Buf (Elt F) (arg2.view.loc (tV d (at' t)))) (fi : Buf (Elt F) (arg3.view.loc (tV d (at' t)))) (g : Buf (Elt F) (arg4.view.loc (tV d (at' t)))) : sProp 𝕄 :=
  iprop(((allK arg2).view.loc (tV d (at' t)) ↦[(allK arg2).view.set]{ShareLeaves.leaf 5 fullShare (wid t)} fx)
    ∗ ((listK (at' t) arg3).view.loc (tV d (at' t)) ↦[(listK (at' t) arg3).view.set]{fullShare} fi)
    ∗ (bigSep Finset.univ fun k : Fin 4 => (chunkK (at' t) arg4 k).view.loc (tV d (at' t)) ↦[(chunkK (at' t) arg4 k).view.set]{fullShare} g))

/-- The scatter: the tile's block of row numbers, its four chunks of the source, and the rows the block names at `g`. -/
def scatterRes (arg2 : Memref sig .scVector .hbm S16384x128 .f32) (arg3 : Memref sig .scVector .hbm S32x4x128 .i32) (arg4 : Memref sig .scVector .hbm S32768x128 .f32)
    (fy : Buf (Elt F) (arg2.view.loc (tV d (at' t)))) (fi : Buf (Elt F) (arg3.view.loc (tV d (at' t)))) (g : Buf (Elt F) (arg4.view.loc (tV d (at' t)))) : sProp 𝕄 :=
  iprop(((listK (at' t) arg3).view.loc (tV d (at' t)) ↦[(listK (at' t) arg3).view.set]{fullShare} fi)
    ∗ (bigSep Finset.univ fun k : Fin 4 => (chunkK (at' t) arg2 k).view.loc (tV d (at' t)) ↦[(chunkK (at' t) arg2 k).view.set]{fullShare} fy)
    ∗ (bigSep Finset.univ fun k : Fin 4 => (allK arg4).view.loc (tV d (at' t)) ↦[namedK arg4 (names (arg3.view.read (Elt F) fi) t k)]{fullShare} g))

instance gatherRes_storable (arg2 : Memref sig .scVector .hbm S32768x128 .f32) (arg3 : Memref sig .scVector .hbm S32x4x128 .i32) (arg4 : Memref sig .scVector .hbm S16384x128 .f32)
    (fx : Buf (Elt F) (arg2.view.loc (tV d (at' t)))) (fi : Buf (Elt F) (arg3.view.loc (tV d (at' t)))) (g : Buf (Elt F) (arg4.view.loc (tV d (at' t)))) :
    BI.Storable (upEmb : UEmb _ 𝕄) (gatherRes d t arg2 arg3 arg4 fx fi g) := by unfold gatherRes; infer_instance

instance scatterRes_storable (arg2 : Memref sig .scVector .hbm S16384x128 .f32) (arg3 : Memref sig .scVector .hbm S32x4x128 .i32) (arg4 : Memref sig .scVector .hbm S32768x128 .f32)
    (fy : Buf (Elt F) (arg2.view.loc (tV d (at' t)))) (fi : Buf (Elt F) (arg3.view.loc (tV d (at' t)))) (g : Buf (Elt F) (arg4.view.loc (tV d (at' t)))) :
    BI.Storable (upEmb : UEmb _ 𝕄) (scatterRes d t arg2 arg3 arg4 fy fi g) := by unfold scatterRes; infer_instance

/-- The gather's task. -/
theorem gather_task (b0 b1 : Ref sig .scVector) (hne : b1 ≠ b0)
    (h0 : ((Proc.scVector (cV (at' t)) (jV (at' t))).devRef b0).owner = .proc (Proc.scVector (cV (at' t)) (jV (at' t))))
    (h1 : ((Proc.scVector (cV (at' t)) (jV (at' t))).devRef b1).owner = .proc (Proc.scVector (cV (at' t)) (jV (at' t))))
    (s r0 r1 r2 r3 r4 : DmaSems sig S_) (hs : Function.Injective ![s.sem, r0.sem, r1.sem, r2.sem, r3.sem, r4.sem])
    (hsc : ∀ k, (SemLoc.dma (![s.sem, r0.sem, r1.sem, r2.sem, r3.sem, r4.sem] k) : SemLoc sig).isScoped .scVector = true)
    (arg2 : Memref sig .scVector .hbm S32768x128 .f32) (harg2 : arg2.IsWhole) (arg3 : Memref sig .scVector .hbm S32x4x128 .i32) (harg3 : arg3.IsWhole)
    (arg4 : Memref sig .scVector .hbm S16384x128 .f32) (harg4 : arg4.IsWhole)
    (arg5 : Memref sig .scVector .vmem S4x128 .i32) (harg5 : arg5.IsWhole) (arg6 : Memref sig .scVector .vmem S128x128 .f32) (harg6 : arg6.IsWhole)
    (e5 : (iprop(∃ f, arg5.view.loc (tV d (at' t)) ↦[arg5.view.set]{fullShare} f) : sProp 𝕄) = scratch d (at' t) b0)
    (e6 : (iprop(∃ f, arg6.view.loc (tV d (at' t)) ↦[arg6.view.set]{fullShare} f) : sProp 𝕄) = scratch d (at' t) b1)
    (fx : Buf (Elt F) (arg2.view.loc (tV d (at' t)))) (fi : Buf (Elt F) (arg3.view.loc (tV d (at' t)))) (g G : Buf (Elt F) (arg4.view.loc (tV d (at' t))))
    (hin : InRange (arg3.view.read (Elt F) fi)) (hG : arg4.view.read (Elt F) G = gatherOf (arg3.view.read (Elt F) fi) (arg2.view.read (Elt F) fx))
    (O : CellTallies nD τ sig (HIx 4)) (W : Waits sig (HIx 4)) (hO : ∀ g, O g none = 0) (q : Fin 4) :
    iprop(levAts (K (F := F)).L (K (F := F)).lev ∗ emp ∗ gatherRes d t arg2 arg3 arg4 fx fi g ∗ scopedBufs (tV d (at' t)) ∗ scopedSems0 (tV d (at' t)) ∗ owes (tV d (at' t)) O W)
      ⊢ wp frame (wpE (defs₀ (F := F)) 𝒱₀ (tV d (at' t)) none) Set.univ
          (cc0_gk (F := F) (at' t) arg2 harg2 arg3 harg3 arg4 harg4 arg5 harg5 arg6 harg6 s r0 r1 r2 r3 r4)
          fun _ => iprop(gatherRes d t arg2 arg3 arg4 fx fi G ∗ scopedBufs (tV d (at' t)) ∗ scopedSems0 (tV d (at' t))
            ∗ ∃ W', ⌜∀ p ∈ W', p ∈ W ∨ p.2 = none ∨ p.2 = some q⌝ ∗ owes (tV d (at' t)) O W') := by
  refine tile_wrap d (at' t) b0 b1 hne h0 h1 _ hs hsc _ _ _ O W hO q ?_
  unfold gatherRes
  rw [← e5, ← e6]
  iintro ⟨Hmw, ⟨Hx, Hi, Hg⟩, H5, H6, ⟨Hs, Hs0, Hs1, Hs2, Hs3, Hs4⟩, HO⟩
  iapply (wp_wand_r _ _ _)
  isplitl [Hmw Hx Hi Hg H5 H6 Hs Hs0 Hs1 Hs2 Hs3 Hs4 HO]
  · iapply (wp_gatherTile d (at' t) arg2 harg2 arg3 harg3 arg4 harg4 arg5 harg5 arg6 harg6 s r0 r1 r2 r3 r4 O W (ShareLeaves.leaf 5 fullShare (wid t)) fx fi (fun _ => g) G
      (list_in d t arg3 fi hin) (gathered d t arg3 arg4 fi G _ hG))
    isplitl [Hmw]; · iexact Hmw
    isplitl [Hx]; · iexact Hx
    isplitl [Hi]; · iexact Hi
    isplitl [Hg]; · iexact Hg
    isplitl [H5]; · iexact H5
    isplitl [H6]; · iexact H6
    isplitl [Hs]; · iexact Hs
    isplitl [Hs0]; · iexact Hs0
    isplitl [Hs1]; · iexact Hs1
    isplitl [Hs2]; · iexact Hs2
    isplitl [Hs3]; · iexact Hs3
    isplitl [Hs4]; · iexact Hs4
    iexact HO
  iintro %_ ⟨Hx, Hi, Hg, H5, H6, Hs, Hs0, Hs1, Hs2, Hs3, Hs4, HO⟩
  isplitl [Hx Hi Hg]
  · isplitl [Hx]; · iexact Hx
    isplitl [Hi]; · iexact Hi
    iexact Hg
  isplitl [H5]; · iexact H5
  isplitl [H6]; · iexact H6
  isplitr [HO]
  · isplitl [Hs]; · iexact Hs
    isplitl [Hs0]; · iexact Hs0
    isplitl [Hs1]; · iexact Hs1
    isplitl [Hs2]; · iexact Hs2
    isplitl [Hs3]; · iexact Hs3
    iexact Hs4
  iexact HO

/-- The scatter's task. -/
theorem scatter_task (b0 b1 : Ref sig .scVector) (hne : b1 ≠ b0)
    (h0 : ((Proc.scVector (cV (at' t)) (jV (at' t))).devRef b0).owner = .proc (Proc.scVector (cV (at' t)) (jV (at' t))))
    (h1 : ((Proc.scVector (cV (at' t)) (jV (at' t))).devRef b1).owner = .proc (Proc.scVector (cV (at' t)) (jV (at' t))))
    (s r0 r1 r2 r3 r4 : DmaSems sig S_) (hs : Function.Injective ![s.sem, r0.sem, r1.sem, r2.sem, r3.sem, r4.sem])
    (hsc : ∀ k, (SemLoc.dma (![s.sem, r0.sem, r1.sem, r2.sem, r3.sem, r4.sem] k) : SemLoc sig).isScoped .scVector = true)
    (arg2 : Memref sig .scVector .hbm S16384x128 .f32) (harg2 : arg2.IsWhole) (arg3 : Memref sig .scVector .hbm S32x4x128 .i32) (harg3 : arg3.IsWhole)
    (arg4 : Memref sig .scVector .hbm S32768x128 .f32) (harg4 : arg4.IsWhole) (arg5 : Memref sig .scVector .hbm S32768x128 .f32) (harg5 : arg5.IsWhole)
    (arg6 : Memref sig .scVector .vmem S4x128 .i32) (harg6 : arg6.IsWhole) (arg7 : Memref sig .scVector .vmem S128x128 .f32) (harg7 : arg7.IsWhole)
    (e6 : (iprop(∃ f, arg6.view.loc (tV d (at' t)) ↦[arg6.view.set]{fullShare} f) : sProp 𝕄) = scratch d (at' t) b0)
    (e7 : (iprop(∃ f, arg7.view.loc (tV d (at' t)) ↦[arg7.view.set]{fullShare} f) : sProp 𝕄) = scratch d (at' t) b1)
    (fy : Buf (Elt F) (arg2.view.loc (tV d (at' t)))) (fi : Buf (Elt F) (arg3.view.loc (tV d (at' t)))) (g G : Buf (Elt F) (arg4.view.loc (tV d (at' t))))
    (hin : InRange (arg3.view.read (Elt F) fi)) (hinj : Function.Injective (wordAt (arg3.view.read (Elt F) fi))) (B : S32768x128.Idx → Elt F .f32)
    (hG : arg4.view.read (Elt F) G = scatterOf (arg3.view.read (Elt F) fi) (arg2.view.read (Elt F) fy) B)
    (O : CellTallies nD τ sig (HIx 4)) (W : Waits sig (HIx 4)) (hO : ∀ g, O g none = 0) (q : Fin 4) :
    iprop(levAts (K (F := F)).L (K (F := F)).lev ∗ emp ∗ scatterRes d t arg2 arg3 arg4 fy fi g ∗ scopedBufs (tV d (at' t)) ∗ scopedSems0 (tV d (at' t)) ∗ owes (tV d (at' t)) O W)
      ⊢ wp frame (wpE (defs₀ (F := F)) 𝒱₀ (tV d (at' t)) none) Set.univ
          (cc3_sk (F := F) (at' t) arg2 harg2 arg3 harg3 arg4 harg4 arg5 harg5 arg6 harg6 arg7 harg7 s r0 r1 r2 r3 r4)
          fun _ => iprop(scatterRes d t arg2 arg3 arg4 fy fi G ∗ scopedBufs (tV d (at' t)) ∗ scopedSems0 (tV d (at' t))
            ∗ ∃ W', ⌜∀ p ∈ W', p ∈ W ∨ p.2 = none ∨ p.2 = some q⌝ ∗ owes (tV d (at' t)) O W') := by
  refine tile_wrap d (at' t) b0 b1 hne h0 h1 _ hs hsc _ _ _ O W hO q ?_
  unfold scatterRes
  rw [← e6, ← e7]
  iintro ⟨Hmw, ⟨Hi, Hy, Hg⟩, H6, H7, ⟨Hs, Hs0, Hs1, Hs2, Hs3, Hs4⟩, HO⟩
  iapply (wp_wand_r _ _ _)
  isplitl [Hmw Hy Hi Hg H6 H7 Hs Hs0 Hs1 Hs2 Hs3 Hs4 HO]
  · iapply (wp_scatterTile d (at' t) arg2 harg2 arg3 harg3 arg4 harg4 arg5 harg5 arg6 harg6 arg7 harg7 s r0 r1 r2 r3 r4 O W fy fi (fun _ => g) G
      (list_in d t arg3 fi hin) (fun k r r' e => (slot_inj (hinj ((list_word d t arg3 fi k r).symm.trans (e.trans (list_word d t arg3 fi k r'))))).2.2)
      (scattered d t arg3 arg2 fi fy _ B hinj hG) (names (arg3.view.read (Elt F) fi) t)
      (fun k n => exists_congr fun r => by rw [list_word d t arg3 fi k r]))
    isplitl [Hmw]; · iexact Hmw
    isplitl [Hi]; · iexact Hi
    isplitl [Hy]; · iexact Hy
    isplitl [Hg]; · iexact Hg
    isplitl [H6]; · iexact H6
    isplitl [H7]; · iexact H7
    isplitl [Hs]; · iexact Hs
    isplitl [Hs0]; · iexact Hs0
    isplitl [Hs1]; · iexact Hs1
    isplitl [Hs2]; · iexact Hs2
    isplitl [Hs3]; · iexact Hs3
    isplitl [Hs4]; · iexact Hs4
    iexact HO
  iintro %_ ⟨Hi, Hy, Hg, H6, H7, Hs, Hs0, Hs1, Hs2, Hs3, Hs4, HO⟩
  isplitl [Hi Hy Hg]
  · isplitl [Hi]; · iexact Hi
    isplitl [Hy]; · iexact Hy
    iexact Hg
  isplitl [H6]; · iexact H6
  isplitl [H7]; · iexact H7
  isplitr [HO]
  · isplitl [Hs]; · iexact Hs
    isplitl [Hs0]; · iexact Hs0
    isplitl [Hs1]; · iexact Hs1
    isplitl [Hs2]; · iexact Hs2
    isplitl [Hs3]; · iexact Hs3
    iexact Hs4
  iexact HO

end Res

end Cert.Proof.KernelIdeal
-- ==== Proof.KernelIdeal.Gru.lean ====
/-
  What one grid point of the recurrent unit's kernel computes. A point holds 512 steps of 16 sequences: it computes
  the steps' input halves at once, then carries the hidden state through the steps one by one, each leaving its new
  state in the step's row of the output block; the state stays in a scratch buffer for the next point.
-/
module

public import proofs.«01_k».proof.Proof.KernelIdeal.Common
public import Idealize.ShloMosaic.Lib.Memref
public import Idealize.ShloMosaic.Lib.WritesUnit
public import Idealize.ShloMosaic.Lib.VecWindow
public import Idealize.ShloMosaic.Lib.Pipeline.Value

@[expose] public section

set_option maxRecDepth 16384

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The values -/

/-- The last two coordinates of an index of three. -/
def tail3 {n m l : ℕ} (y : (⟨3, ![n, m, l]⟩ : Shape).Idx) : (⟨2, ![m, l]⟩ : Shape).Idx := fun a => y a.succ

theorem inb_step {n m l k : ℕ} (h : k < n) : ∀ a : Fin 3, (![k, 0, 0] : Fin 3 → ℕ) a + (⟨3, ![1, m, l]⟩ : Shape).size a ≤ (⟨3, ![n, m, l]⟩ : Shape).size a := by
  intro a; match a with
  | 0 => show k + 1 ≤ n; omega
  | 1 => show 0 + m ≤ m; omega
  | 2 => show 0 + l ≤ l; omega

/-- Step `k`'s rows of an array of 512 steps (the first step's, past the last). -/
def stepRows {l : ℕ} {α : Type} (g : (⟨3, ![512, 16, l]⟩ : Shape).Idx → α) (k : ℕ) : (⟨3, ![1, 16, l]⟩ : Shape).Idx → α :=
  if h : k < 512 then VecWindow.window g ![k, 0, 0] (⟨3, ![1, 16, l]⟩ : Shape).size (inb_step h)
  else VecWindow.window g ![0, 0, 0] (⟨3, ![1, 16, l]⟩ : Shape).size (inb_step (by omega))

/-- The first row of an array of 8 equal rows. -/
abbrev row384 (x : Vec F S8x384 .f32) : Vec F S1x384 .f32 := VecWindow.window x ![0, 0] S1x384.size inb_S8x384_S1x384_0_0
abbrev row128 (x : Vec F S8x128 .f32) : Vec F S1x128 .f32 := VecWindow.window x ![0, 0] S1x128.size inb_S8x128_S1x128_0_0

/-- The input halves of the 512 steps. -/
abbrev giOf (x1 : Vec F S512x16x128 .f32) (x2 : Vec F S128x384 .bf16) (x4 : Vec F S8x384 .f32) : Vec F S512x16x384 .f32 :=
  k2_pay2 x1 x2 (row384 x4)

/-- The hidden state after `k` steps from `h0`, over the input halves `g`. -/
def hAt (x3 : Vec F S128x384 .bf16) (b : Vec F S1x128 .f32) (g : Vec F S512x16x384 .f32) (h0 : Vec F S16x128 .f32) : ℕ → Vec F S16x128 .f32
  | 0 => h0
  | k + 1 => k2_pay3 x3 b (hAt x3 b g h0 k) (stepRows g k)

/-- What the point leaves in the output block: at step `k`, the state after `k + 1` steps. -/
def ysOf (x3 : Vec F S128x384 .bf16) (b : Vec F S1x128 .f32) (g : Vec F S512x16x384 .f32) (h0 : Vec F S16x128 .f32) : Vec F S512x16x128 .f32 :=
  fun y => hAt x3 b g h0 ((y 0).val + 1) (tail3 y)

theorem pay1_eq (v : Vec F S16x128 .f32) : k2_pay1 v = v := by
  unfold k2_pay1; dsimp only; rw [shapeCast_self, shapeCast_self]
theorem pay5_eq (v : Vec F S16x128 .f32) : k2_pay5 v = v := by
  unfold k2_pay5; dsimp only; rw [shapeCast_self]

theorem pay4_apply (x3 : Vec F S128x384 .bf16) (b : Vec F S1x128 .f32) (h : Vec F S16x128 .f32) (r : Vec F S1x16x384 .f32) (z : S1x16x128.Idx) :
    k2_pay4 x3 b h r z = k2_pay3 x3 b h r (tail3 z) := by
  unfold k2_pay4
  exact shapeCast_addUnit_apply ![16, 128] (k2_pay3 x3 b h r) _ z

/-! ## One step -/

theorem trips_eq : k2_t1_loop.trips = 512 := by decide +kernel

theorem stepRows_eq {l : ℕ} {α : Type} (g : (⟨3, ![512, 16, l]⟩ : Shape).Idx → α) (k : ℕ) (h : k < 512) :
    stepRows g k = VecWindow.window g ![k, 0, 0] (⟨3, ![1, 16, l]⟩ : Shape).size (inb_step h) := dif_pos h

/-- The place of an index within its step. -/
def rowOf {n m l : ℕ} (y : (⟨3, ![n, m, l]⟩ : Shape).Idx) : (⟨3, ![1, m, l]⟩ : Shape).Idx := fun | 0 => (0 : Fin 1) | 1 => y 1 | 2 => y 2

theorem tail_rowOf {n m l : ℕ} (y : (⟨3, ![n, m, l]⟩ : Shape).Idx) : tail3 (rowOf y) = tail3 y := by
  funext a; match a with | 0 => rfl | 1 => rfl

section Body

variable (c : Dev nD)

/-- Before step `k`: the input halves as they are, the output block's first `k` rows written. -/
abbrev StepInv (x3 : Vec F S128x384 .bf16) (b : Vec F S1x128 .f32) (arg10 : Memref sig .tc .vmem S512x16x384 .f32) (arg7 : Memref sig .tc .vmem S512x16x128 .f32)
    (X : BufTy.Contents (Elt F) arg10.view.ty) (h0 : Vec F S16x128 .f32) (k : ℕ) (acc : Vec F S16x128 .f32) : sProp 𝕄 :=
  iprop((arg10.view.loc (c : Thread nD τ) ↦[arg10.view.set]{fullShare} X)
    ∗ (∃ f, (arg7.view.loc (c : Thread nD τ) ↦[arg7.view.set]{fullShare} f)
        ∗ ⌜∀ y : S512x16x128.Idx, (y 0).val < k → arg7.view.read (Elt F) f y = ysOf x3 b (arg10.view.read (Elt F) X) h0 y⌝)
    ∗ ⌜acc = hAt x3 b (arg10.view.read (Elt F) X) h0 k⌝)

set_option warn.classDefReducibility false in
@[sl_loop] def gruLoop (bd : Option 𝒱₀.V) (E : Set ℕ) (i : grid2.Coords) (arg1 : Memref sig .tc .vmem S512x16x128 .f32) (harg1 : arg1.IsWhole) (arg2 : Memref sig .tc .vmem S128x384 .bf16) (harg2 : arg2.IsWhole) (arg3 : Memref sig .tc .vmem S128x384 .bf16) (harg3 : arg3.IsWhole) (arg4 : Memref sig .tc .vmem S8x384 .f32) (harg4 : arg4.IsWhole) (arg5 : Memref sig .tc .vmem S8x128 .f32) (harg5 : arg5.IsWhole) (arg6 : Memref sig .tc .vmem S16x128 .f32) (harg6 : arg6.IsWhole) (arg7 : Memref sig .tc .vmem S512x16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S512x16x384 .f32) (harg10 : arg10.IsWhole) (v18 : Vec F S128x384 .bf16) (v20 : Vec F S1x128 .f32) (init : Vec F S16x128 .f32)
    (X : BufTy.Contents (Elt F) arg10.view.ty) :
    LoopInvTy_k2_t1 (F := F) (HIx 4) ℕ UU ℕ 𝒱₀ c bd E i arg1 harg1 arg2 harg2 arg3 harg3 arg4 harg4 arg5 harg5 arg6 harg6 arg7 harg7 arg8 harg8 arg9 harg9 arg10 harg10 v18 v20 init where
  inv k acc := StepInv c v18 v20 arg10 arg7 X init k acc
  step k acc := by
    have hk : k.val < 512 := Nat.lt_of_lt_of_le k.isLt k2_t1_abs.2.1

    iintro ⟨HR, ⟨%f, HW, %hf⟩, %hacc⟩
    subst hacc
    unfold k2_t1_body
    sl_exec
    sl_step
    have hr : View.readAt (Elt F) arg10.view (Rect.unit (s := S512x16x384) (k2_off1 k) S1x16x384.size (k2_off1_inb k)).toLoadRect X
        = stepRows (arg10.view.read (Elt F) X) k.val := by
      rw [stepRows_eq _ _ hk]; exact arg10.view.readAt_unit X (k2_off1_inb k) (k2_off1_eq k) (inb_step hk)
    isplitl [HR]; · iexact HR
    isplitl [HW]
    · iexists _; isplitl [HW]; · iexact HW
      ipureintro
      intro y hy
      rw [hr]
      by_cases h : (y 0).val = k.val
      · refine (arg7.view.read_writes_cons_unit_of_mem f (k2_off2_inb k) _ [] y (rowOf y) (k2_off2_eq k) ?_).trans ?_
        · intro a; match a with
          | 0 => exact h
          | 1 => exact (Nat.zero_add _).symm
          | 2 => exact (Nat.zero_add _).symm
        · refine (pay4_apply _ _ _ _ _).trans ?_
          unfold ysOf; rw [h, tail_rowOf]; rfl
      · refine (arg7.view.read_writes_cons_unit_of_not_mem f (k2_off2_inb k) _ [] y (k2_off2_eq k) 0 ?_).trans (hf y (by omega))
        left; show (y 0).val < k.val; omega
    ipureintro; rw [hr]; rfl

/-! ## One grid point -/

/-- Whether grid point `i` is the first. -/
abbrev isFirst (i : grid2.Coords) : Prop := (i 0).val = 0

/-- The state a point starts from: the first reads it, every other finds it in the scratch. -/
def startOf (i : grid2.Coords) (x6 xh : Vec F S16x128 .f32) : Vec F S16x128 .f32 := if isFirst i then x6 else xh

theorem isFirst_iff : ∀ i : grid2.Coords, (Scalar.cmpi .ne (Scalar.extui (Scalar.cmpi .eq (BitVec.ofNat 32 (i 0).val) 0#32) : BitVec 32) 0#32 = 1#1) ↔ isFirst i := by
  decide +kernel

/-- The start of a point: the first one puts the state it is given into the scratch. -/
def gruStart (i : grid2.Coords) (arg6 : Memref sig .tc .vmem S16x128 .f32) (arg9 : Memref sig .tc .vmem S16x128 .f32) : Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k2_h1 : v2 = 1#1 then do
    let v29 : Vec F S16x128 .f32 ← Prog.lift (.load arg6 (Rect.unit (s := S16x128) ![0, 0] S16x128.size inb_S16x128_S16x128_0_0).toLoadRect (View.loadsAt_vmem h_S16x128))
    let v31 : Vec F S16x128 .f32 ← Prog.lift (.load arg9 (Rect.unit (s := S16x128) ![0, 0] S16x128.size inb_S16x128_S16x128_0_0).toLoadRect (View.loadsAt_vmem h_S16x128))
    Prog.lift (.store arg9 (Rect.unit (s := S16x128) ![0, 0] S16x128.size inb_S16x128_S16x128_0_0) (k2_pay1 v29) Finset.univ (View.stores_vmem_bits_univ h_S16x128 rfl) (.inl rfl))
    pure ⟨⟩
  else do
    pure ⟨⟩

/-- The rest of it. -/
def gruSteps (i : grid2.Coords) (arg1 : Memref sig .tc .vmem S512x16x128 .f32) (harg1 : arg1.IsWhole) (arg2 : Memref sig .tc .vmem S128x384 .bf16) (harg2 : arg2.IsWhole) (arg3 : Memref sig .tc .vmem S128x384 .bf16) (harg3 : arg3.IsWhole) (arg4 : Memref sig .tc .vmem S8x384 .f32) (harg4 : arg4.IsWhole) (arg5 : Memref sig .tc .vmem S8x128 .f32) (harg5 : arg5.IsWhole) (arg6 : Memref sig .tc .vmem S16x128 .f32) (harg6 : arg6.IsWhole) (arg7 : Memref sig .tc .vmem S512x16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S512x16x384 .f32) (harg10 : arg10.IsWhole) : Prog (TpuEff nD τ sig (Elt F) Λ₀ .tc) (Vec F S16x128 .f32) := do
  let v3 : Vec F S512x16x128 .f32 ← Prog.lift (.load arg1 (Rect.unit (s := S512x16x128) ![0, 0, 0] S512x16x128.size inb_S512x16x128_S512x16x128_0_0_0).toLoadRect (View.loadsAt_vmem h_S512x16x128))
  let v7 : Vec F S128x384 .bf16 ← Prog.lift (.load arg2 (Rect.unit (s := S128x384) ![0, 0] S128x384.size inb_S128x384_S128x384_0_0).toLoadRect (View.loadsAt_vmem h_S128x384))
  let v10 : Vec F S1x384 .f32 ← Prog.lift (.load arg4 (Rect.unit (s := S8x384) ![0, 0] S1x384.size inb_S8x384_S1x384_0_0).toLoadRect (View.loadsAt_vmem h_S1x384))
  let v15 : Vec F S512x16x384 .f32 ← Prog.lift (.load arg10 (Rect.unit (s := S512x16x384) ![0, 0, 0] S512x16x384.size inb_S512x16x384_S512x16x384_0_0_0).toLoadRect (View.loadsAt_vmem h_S512x16x384))
  Prog.lift (.store arg10 (Rect.unit (s := S512x16x384) ![0, 0, 0] S512x16x384.size inb_S512x16x384_S512x16x384_0_0_0) (k2_pay2 v3 v7 v10) Finset.univ (View.stores_vmem_bits_univ h_S512x16x384 rfl) (.inl rfl))
  let v18 : Vec F S128x384 .bf16 ← Prog.lift (.load arg3 (Rect.unit (s := S128x384) ![0, 0] S128x384.size inb_S128x384_S128x384_0_0).toLoadRect (View.loadsAt_vmem h_S128x384))
  let v20 : Vec F S1x128 .f32 ← Prog.lift (.load arg5 (Rect.unit (s := S8x128) ![0, 0] S1x128.size inb_S8x128_S1x128_0_0).toLoadRect (View.loadsAt_vmem h_S1x128))
  let v22 : Vec F S16x128 .f32 ← Prog.lift (.load arg9 (Rect.unit (s := S16x128) ![0, 0] S16x128.size inb_S16x128_S16x128_0_0).toLoadRect (View.loadsAt_vmem h_S16x128))
  let v24 : Vec F S16x128 .f32 ← Scf.Loop.for k2_t1_loop k2_t1_ok v22 (k2_t1_body i arg1 harg1 arg2 harg2 arg3 harg3 arg4 harg4 arg5 harg5 arg6 harg6 arg7 harg7 arg8 harg8 arg9 harg9 arg10 harg10 v18 v20)
  let v25 : Vec F S16x128 .f32 ← Prog.lift (.load arg9 (Rect.unit (s := S16x128) ![0, 0] S16x128.size inb_S16x128_S16x128_0_0).toLoadRect (View.loadsAt_vmem h_S16x128))
  Prog.lift (.store arg9 (Rect.unit (s := S16x128) ![0, 0] S16x128.size inb_S16x128_S16x128_0_0) (k2_pay5 v24) Finset.univ (View.stores_vmem_bits_univ h_S16x128 rfl) (.inl rfl))
  let v28 : Vec F S16x128 .f32 ← Prog.lift (.load arg8 (Rect.unit (s := S16x128) ![0, 0] S16x128.size inb_S16x128_S16x128_0_0).toLoadRect (View.loadsAt_vmem h_S16x128))
  pure v24

theorem part1_eq (i : grid2.Coords) (arg1 : Memref sig .tc .vmem S512x16x128 .f32) (harg1 : arg1.IsWhole) (arg2 : Memref sig .tc .vmem S128x384 .bf16) (harg2 : arg2.IsWhole) (arg3 : Memref sig .tc .vmem S128x384 .bf16) (harg3 : arg3.IsWhole) (arg4 : Memref sig .tc .vmem S8x384 .f32) (harg4 : arg4.IsWhole) (arg5 : Memref sig .tc .vmem S8x128 .f32) (harg5 : arg5.IsWhole) (arg6 : Memref sig .tc .vmem S16x128 .f32) (harg6 : arg6.IsWhole) (arg7 : Memref sig .tc .vmem S512x16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S512x16x384 .f32) (harg10 : arg10.IsWhole) :
    k2_part1_skel (F := F) i arg1 harg1 arg2 harg2 arg3 harg3 arg4 harg4 arg5 harg5 arg6 harg6 arg7 harg7 arg8 harg8 arg9 harg9 arg10 harg10
      = gruStart i arg6 arg9 >>= fun _ => gruSteps i arg1 harg1 arg2 harg2 arg3 harg3 arg4 harg4 arg5 harg5 arg6 harg6 arg7 harg7 arg8 harg8 arg9 harg9 arg10 harg10 := by
  unfold k2_part1_skel gruStart gruSteps
  dsimp only
  by_cases h : Scalar.cmpi .ne (Scalar.extui (Scalar.cmpi .eq (BitVec.ofNat 32 (i 0).val) 0#32) : BitVec 32) 0#32 = 1#1
  · rw [dif_pos h, dif_pos h]; rfl
  · rw [dif_neg h, dif_neg h]; rfl

theorem wp_gru (bd : Option 𝒱₀.V) (E : Set ℕ) (i : grid2.Coords) (arg1 : Memref sig .tc .vmem S512x16x128 .f32) (harg1 : arg1.IsWhole) (arg2 : Memref sig .tc .vmem S128x384 .bf16) (harg2 : arg2.IsWhole) (arg3 : Memref sig .tc .vmem S128x384 .bf16) (harg3 : arg3.IsWhole) (arg4 : Memref sig .tc .vmem S8x384 .f32) (harg4 : arg4.IsWhole) (arg5 : Memref sig .tc .vmem S8x128 .f32) (harg5 : arg5.IsWhole) (arg6 : Memref sig .tc .vmem S16x128 .f32) (harg6 : arg6.IsWhole) (arg7 : Memref sig .tc .vmem S512x16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S512x16x384 .f32) (harg10 : arg10.IsWhole)
    (x1 : Vec F S512x16x128 .f32) (x2 x3 : Vec F S128x384 .bf16) (x4 : Vec F S8x384 .f32) (x5 : Vec F S8x128 .f32) (x6 xh : Vec F S16x128 .f32) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ x, owns (c : Thread nD τ) arg7 fullShare x) ∗ (∃ x, owns (c : Thread nD τ) arg8 fullShare x)
        ∗ owns (c : Thread nD τ) arg9 fullShare xh ∗ (∃ x, owns (c : Thread nD τ) arg10 fullShare x))
      ⊢ wp frame (wpE (defs₀ (F := F)) 𝒱₀ (c : Thread nD τ) bd) E (cc2_body (F := F) i arg1 harg1 arg2 harg2 arg3 harg3 arg4 harg4 arg5 harg5 arg6 harg6 arg7 harg7 arg8 harg8 arg9 harg9 arg10 harg10)
          fun _ => (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (ysOf x3 (row128 x5) (giOf x1 x2 x4) (startOf i x6 xh))
            ∗ owns (c : Thread nD τ) arg8 fullShare (hAt x3 (row128 x5) (giOf x1 x2 x4) (startOf i x6 xh) 512)
            ∗ owns (c : Thread nD τ) arg9 fullShare (hAt x3 (row128 x5) (giOf x1 x2 x4) (startOf i x6 xh) 512)
            ∗ (∃ x, owns (c : Thread nD τ) arg10 fullShare x)) : sProp 𝕄) := by
  rw [cc2_body_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%x7, %f7, %h7, H7⟩, ⟨%x8, %f8, %h8, H8⟩, ⟨%f9, %h9, H9⟩, ⟨%x10, %f10, %h10, H10⟩⟩
  unfold cc2_body_skel
  rw [k2_part1_eq_skeleton]
  rw [part1_eq, wp_bind, wp_bind]
  -- the state the point starts from
  iapply (wp_wand_r _ _ _ (Q := fun _ => (iprop((arg6.view.loc (c : Thread nD τ) ↦[arg6.view.set]{fullShare} f6)
    ∗ ∃ f, ⌜arg9.view.read (Elt F) f = startOf i x6 xh⌝ ∗ (arg9.view.loc (c : Thread nD τ) ↦[arg9.view.set]{fullShare} f)) : sProp 𝕄)))
  isplitl [H6 H9]
  · by_cases hz : isFirst i
    · have hc := (isFirst_iff i).mpr hz
      unfold gruStart
      sl_exec
      sl_step
      isplitl [H6]; · iexact H6
      iexists _; isplitr; swap; (· iexact H9)
      ipureintro
      refine (arg9.view.read_writes_full f9 _ _ []).trans ?_
      rw [pay1_eq, startOf, if_pos hz, ← h6]; exact arg6.view.readAt_full f6 _
    · have hc := mt (isFirst_iff i).mp hz
      unfold gruStart
      sl_exec
      sl_step
      isplitl [H6]; · iexact H6
      iexists _; isplitr; swap; (· iexact H9)
      ipureintro; rw [startOf, if_neg hz]; exact h9
  iintro %_ ⟨H6, %fh, %hh, H9⟩
  unfold gruSteps
  sl_exec
  sl_step
  have e3 : View.readAt (Elt F) arg3.view (Rect.unit (s := S128x384) ![0, 0] S128x384.size inb_S128x384_S128x384_0_0).toLoadRect f3 = x3 :=
    (arg3.view.readAt_full f3 _).trans h3
  have e5 : View.readAt (Elt F) arg5.view (Rect.unit (s := S8x128) ![0, 0] S1x128.size inb_S8x128_S1x128_0_0).toLoadRect f5 = row128 x5 := by
    rw [← h5]; exact arg5.view.readAt_unit f5 _ rfl _
  have e9 : View.readAt (Elt F) arg9.view (Rect.unit (s := S16x128) ![0, 0] S16x128.size inb_S16x128_S16x128_0_0).toLoadRect fh = startOf i x6 xh :=
    (arg9.view.readAt_full fh _).trans hh
  have e10 : View.read (Elt F) arg10.view (arg10.view.writes (Elt F) arg10.view.junk (wp_gru.sl.H10_1 c arg1 arg2 arg4 f1 f2 f4)) = giOf x1 x2 x4 := by
    unfold wp_gru.sl.H10_1
    refine (arg10.view.read_writes_full _ _ _ []).trans ?_
    rw [← h1, ← h2, ← h4]
    exact congr (congr (congrArg k2_pay2 (arg1.view.readAt_full f1 _)) (arg2.view.readAt_full f2 _)) (arg4.view.readAt_unit f4 _ rfl _)
  have ht : Scf.trips k2_t1_loop.lb k2_t1_loop.ub k2_t1_loop.st = 512 := trips_eq
  simp only [e3, e5, e9, e10, ht] at hL2
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]
  · iexists _; isplitr; swap; (· iexact H7)
    ipureintro; exact funext fun y => hL2 y (y 0).isLt
  isplitl [H8]
  · iexists _; isplitr; swap; (· iexact H8)
    ipureintro
    refine (arg8.view.read_writes_full f8 _ _ []).trans ?_
    unfold wp_gru.sl.r
    rw [e3, e5, e9, e10, ht]
  isplitl [H9]
  · iexists _; isplitr; swap; (· iexact H9)
    ipureintro
    refine (arg9.view.read_writes_full fh _ _ []).trans ?_
    rw [pay5_eq, e3, e5, e9, e10, ht]
  iexists _; iexists _; isplitr; swap; (· iexact H10); ipureintro; rfl

end Body

end Cert.Proof.KernelIdeal
-- ==== Proof.KernelIdeal.Region0.lean ====
/-
  The GRU's first half as a region of the main program: what its two grid points leave in the staging buffers and
  in the two result arrays, as functions of the arrays it is entered with.
-/
module

public import proofs.«01_k».proof.Proof.KernelIdeal.Gru
public import Idealize.ShloMosaic.Lib.Pipeline.RegionArraysS

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation arrRef)

variable {F : FTy → Type} [FloatOps F]

local notation "𝕄" => MM F

/-- Every pipeline has the one admissible choice of tables: none. -/
abbrev adm : (p : Fin 2) → (pcfgs (F := F) p).Adm := fun p => (cfgs p).toPCfg_adm

/-- A core's contents of its buffers. -/
abbrev Val8 (F : FTy → Type) : Type := Dev nD → Valuation τ sig (Elt F)

section Body

variable (V : Val8 F) (c : Dev nD)

/-- Window `w`'s array as the region finds it. -/
abbrev arr2 (w : Fin 8) : Buf (Elt F) ((cfg2.win w).arr.view.loc (c : Thread nD τ)) := V c (Proc.devRef .tc (arrRef spec2 w))
/-- The block of window `w` that point `t` is on. -/
abbrev blk2 (w : Fin 8) (t : Fin grid2.N) : ((cfg2.win w).xblock (grid2.coords t)).Idx → Elt F (cfg2.win w).elt :=
  ((cfg2.win w).blk t).view.read (Elt F) (arr2 V c w)

/-- The input gates of the steps of point `t`, -/
abbrev gi2 (t : Fin grid2.N) := giOf (blk2 V c 0 t) (blk2 V c 1 t2_0) (blk2 V c 3 t2_0)
/-- the state the first point starts from, and the state the second starts from, -/
abbrev mid2 : Vec F S16x128 .f32 := hAt (blk2 V c 2 t2_0) (row128 (blk2 V c 4 t2_0)) (gi2 V c t2_0) (blk2 V c 5 t2_0) 512
def start2 (n : ℕ) : Vec F S16x128 .f32 := if n = 0 then blk2 V c 5 t2_0 else mid2 V c
/-- the states after the steps of point `t`, -/
abbrev ys2 (t : Fin grid2.N) : Vec F S512x16x128 .f32 := ysOf (blk2 V c 2 t2_0) (row128 (blk2 V c 4 t2_0)) (gi2 V c t) (start2 V c t.val)
/-- and the last of them. -/
abbrev last2 (t : Fin grid2.N) : Vec F S16x128 .f32 := hAt (blk2 V c 2 t2_0) (row128 (blk2 V c 4 t2_0)) (gi2 V c t) (start2 V c t.val) 512

/-- The scoped buffers outside the pipeline: the state's scratch (at the start of a point, except the first), the
    gates' scratch, and the others, from which all of them come back. -/
def inv2 (n : ℕ) : sProp 𝕄 :=
  iprop((∃ x, ⌜n = 1 → x = mid2 V c⌝ ∗ owns (c : Thread nD τ) (Memref.whole cc2_scratch0) fullShare x)
    ∗ (∃ x, owns (c : Thread nD τ) (Memref.whole cc2_scratch1) fullShare x)
    ∗ (iprop((∃ x, owns (c : Thread nD τ) (Memref.whole cc2_scratch0) fullShare x) ∗ (∃ x, owns (c : Thread nD τ) (Memref.whole cc2_scratch1) fullShare x))
        -∗ Pipeline.scopedRest (Ix := HIx 4) (Name := ℕ) (U := UU) (Lvl := ℕ) (Val := Elt F) spec2 c))

/-- The region's proof data, entered at `V`. -/
def dat2 : Dat τ (Elt F) (HIx 4) ℕ UU ℕ cfg2 c where
  A w := arr2 V c w
  after w t := match w with
    | ⟨0, _⟩ => blk2 V c 0 t
    | ⟨1, _⟩ => blk2 V c 1 t2_0
    | ⟨2, _⟩ => blk2 V c 2 t2_0
    | ⟨3, _⟩ => blk2 V c 3 t2_0
    | ⟨4, _⟩ => blk2 V c 4 t2_0
    | ⟨5, _⟩ => blk2 V c 5 t2_0
    | ⟨6, _⟩ => ys2 V c t
    | ⟨7, _⟩ => last2 V c t
  Φ t := inv2 V c t.val
  q _ := fullShare
  owed _ := (K (F := F)).Otc c 2
  recorded _ := {p | (K (F := F)).lev ((c : Thread nD τ), p.1) p.2 ≤ 8 * 2}

/-- Each input's staging buffer holds its block when the body runs. -/
theorem before2 (w : Fin 8) (hw : w.val < 6) (t : Fin grid2.N) (d) : (dat2 V c).before w t d = (dat2 V c).after w t := by
  have two : ∀ w : Fin 8, 0 < w.val → w.val < 6 → (cfg2.win w).fetch t2_1 = false ∧ (cfg2.win w).flush t2_0 = false := by decide
  have one : ∀ w : Fin 8, w.val < 6 → (cfg2.win w).fetch t2_0 = true := by decide
  rcases fin_N2 t with rfl | rfl
  · unfold Dat.before; rw [if_pos (one w hw)]
    fin_cases w <;> first | rfl | exact absurd hw (by decide)
  · by_cases h0 : w = 0
    · subst h0; unfold Dat.before; rw [if_pos (by decide)]; rfl
    · obtain ⟨h1, h2⟩ := two w (Nat.pos_of_ne_zero fun h => h0 (Fin.ext h)) hw
      unfold Dat.before
      rw [if_neg (by rw [h1]; decide), if_neg (by decide)]
      fin_cases w <;> first | exact absurd rfl h0 | exact absurd hw (by decide) | (rw [if_neg (by decide)]; rfl)

/-- The state a point works from: the first point's input, or what the first point left. -/
theorem startOf2 (t : Fin grid2.N) (xh : Vec F S16x128 .f32) (hx : t.val = 1 → xh = mid2 V c) :
    startOf (grid2.coords t) (blk2 V c 5 t2_0) xh = start2 V c t.val := by
  rcases fin_N2 t with rfl | rfl
  · rw [startOf, if_pos (by decide), start2, if_pos (by decide)]
  · rw [startOf, if_neg (by decide), start2, if_neg (by decide)]; exact hx (by decide)

theorem body_row2 (t : Fin grid2.N) : defs₀ (F := F) .tc cfg2.body (cfg2.bodyArgs t (cfg2.slots t)) = bodyAt2 t := rfl

theorem body_obligation2 : BodyObligation (dat2 V c) (defs₀ (F := F)) 𝒱₀ (default : HIx 4) Set.univ := fun t => by
  rw [bigSep_W2, bigSep_W2, body_row2]
  rw [show (dat2 V c).Φ t.castSucc = inv2 V c t.val from rfl, show (dat2 V c).Φ t.succ = inv2 V c (t.val + 1) from rfl,
    show (dat2 V c).owesAt default t.succ = (dat2 V c).owesAt default t.castSucc from rfl]
  unfold inv2
  iintro ⟨⟨⟨%xh, %hx, Hh⟩, Hg, Hback⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before2 V c 0 (by decide), before2 V c 1 (by decide), before2 V c 2 (by decide), before2 V c 3 (by decide), before2 V c 4 (by decide), before2 V c 5 (by decide)]
  iapply (wp_wand_r _ _ _ (Q := _))
  isplitl [H0 H1 H2 H3 H4 H5 H6 H7 Hh Hg]
  · iapply (wp_gru c none Set.univ (grid2.coords t) _ _ _ _ _ _ _ _ _ _ _ _ _ _ _ _ _ _ _ _
      (blk2 V c 0 t) (blk2 V c 1 t2_0) (blk2 V c 2 t2_0) (blk2 V c 3 t2_0) (blk2 V c 4 t2_0) (blk2 V c 5 t2_0) xh)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hh]; · iexact Hh
    iexact Hg
  rw [startOf2 V c t xh hx]
  iintro %_ ⟨H0, H1, H2, H3, H4, H5, H6, H7, Hh, Hg⟩
  isplitl [Hh Hg Hback]
  · isplitl [Hh]
    · iexists _; isplitr; swap; (· iexact Hh); ipureintro
      intro h
      have h0 : t = t2_0 := Fin.ext (Nat.succ_injective h)
      subst h0; rfl
    isplitl [Hg]; · iexact Hg
    iexact Hback
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Into the invariant from the scoped buffers the pipeline does not stage, and back. -/
theorem inv2_in : (Pipeline.scopedRest (Ix := HIx 4) (Name := ℕ) (U := UU) (Lvl := ℕ) (Val := Elt F) spec2 c : sProp 𝕄) ⊢ inv2 V c 0 := by
  unfold inv2
  rw [scopedRest2_eq]
  simp only [owns_whole_eq]
  iintro ⟨⟨%f0, H0⟩, ⟨%f1, H1⟩, Hr⟩
  isplitl [H0]
  · iexists f0; isplitr; · ipureintro; exact fun h => absurd h (by decide)
    iexists f0; isplitr; · ipureintro; rfl
    iexact H0
  isplitl [H1]
  · iexists f1; iexists f1; isplitr; · ipureintro; rfl
    iexact H1
  iintro ⟨⟨%x0, %g0, -, H0⟩, ⟨%x1, %g1, -, H1⟩⟩
  isplitl [H0]; · iexists g0; iexact H0
  isplitl [H1]; · iexists g1; iexact H1
  iexact Hr

theorem inv2_out (n : ℕ) : (inv2 V c n : sProp 𝕄) ⊢ Pipeline.scopedRest (Ix := HIx 4) (Name := ℕ) (U := UU) (Lvl := ℕ) (Val := Elt F) spec2 c := by
  unfold inv2
  iintro ⟨⟨%x, -, H0⟩, H1, Hback⟩
  iapply Hback
  isplitl [H0]; · iexists x; iexact H0
  iexact H1

end Body

end Cert.Proof.KernelIdeal

end
-- ==== Proof.KernelIdeal.Pay.lean ====
/-
  The four SparseCore calls: what each hands its tiles and has back, given what the arrays hold when it starts; that
  every tile's task is so; and that the arrays, dealt to the tiles and gathered from them, are the whole arrays with the
  call's result in its place.
-/
module

public import proofs.«01_k».proof.Proof.KernelIdeal.Calls
public import proofs.«01_k».proof.Proof.KernelIdeal.Region0

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- A valuation's contents of a TensorCore's reference. -/
abbrev rd (W : Valuation τ sig (Elt F)) (r : Ref sig .tc) : r.ty.Contents (Elt F) := W (Proc.devRef .tc r)

/-! ## What the calls leave, from what they start at -/

section Results

variable (W : Valuation τ sig (Elt F))

def out0 : S16384x128.Idx → Elt F .f32 := gatherOf (rd W main_v4) (rd W main_arg0)
def out1 : S16384x128.Idx → Elt F .f32 := gatherOf (rd W main_v6) (rd W main_arg0)
def out2 : S32768x128.Idx → Elt F .f32 := scatterOf (rd W main_v4) (rd W main_v25) (rd W main_v23)
def out3 : S32768x128.Idx → Elt F .f32 := scatterOf (rd W main_v6) (rd W main_v28) (rd W main_v23)

/-- What the calls ask of the row numbers they are given: in range, and where they scatter, no two the same. -/
def CallOK : Fin 4 → Prop
  | 0 => InRange (rd W main_v4)
  | 1 => InRange (rd W main_v6)
  | 2 => InRange (rd W main_v4) ∧ Function.Injective (wordAt (rd W main_v4))
  | 3 => InRange (rd W main_v6) ∧ Function.Injective (wordAt (rd W main_v6))

end Results

/-! ## The payloads -/

variable (Vs : Fin 4 → Val8 F)

abbrev res0 (d : Dev nD) (t : Tile) (g : S16384x128.Idx → Elt F .f32) : sProp 𝕄 :=
  gatherRes d t (Memref.whole main_arg0_scv) (Memref.whole main_v4_scv) (Memref.whole main_v18_scv) (rd (Vs 0 d) main_arg0) (rd (Vs 0 d) main_v4) g
abbrev res1 (d : Dev nD) (t : Tile) (g : S16384x128.Idx → Elt F .f32) : sProp 𝕄 :=
  gatherRes d t (Memref.whole main_arg0_scv) (Memref.whole main_v6_scv) (Memref.whole main_v20_scv) (rd (Vs 1 d) main_arg0) (rd (Vs 1 d) main_v6) g
abbrev res2 (d : Dev nD) (t : Tile) (g : S32768x128.Idx → Elt F .f32) : sProp 𝕄 :=
  scatterRes d t (Memref.whole main_v25_scv) (Memref.whole main_v4_scv) (Memref.whole main_v23_scv) (rd (Vs 2 d) main_v25) (rd (Vs 2 d) main_v4) g
abbrev res3 (d : Dev nD) (t : Tile) (g : S32768x128.Idx → Elt F .f32) : sProp 𝕄 :=
  scatterRes d t (Memref.whole main_v28_scv) (Memref.whole main_v6_scv) (Memref.whole main_v23_scv) (rd (Vs 3 d) main_v28) (rd (Vs 3 d) main_v6) g

def go' (q : Fin 4) (d : Dev nD) (t : Tile) : sProp 𝕄 := match q with
  | 0 => res0 Vs d t (rd (Vs 0 d) main_v18)
  | 1 => res1 Vs d t (rd (Vs 1 d) main_v20)
  | 2 => res2 Vs d t (rd (Vs 2 d) main_v23)
  | 3 => res3 Vs d t (rd (Vs 3 d) main_v23)

def td' (q : Fin 4) (d : Dev nD) (t : Tile) : sProp 𝕄 := match q with
  | 0 => res0 Vs d t (out0 (Vs 0 d))
  | 1 => res1 Vs d t (out1 (Vs 1 d))
  | 2 => res2 Vs d t (out2 (Vs 2 d))
  | 3 => res3 Vs d t (out3 (Vs 3 d))

instance go'_storable (q : Fin 4) (d : Dev nD) (t : Tile) : BI.Storable (upEmb : UEmb _ 𝕄) (go' Vs q d t) := by
  match q with
  | 0 | 1 | 2 | 3 => unfold go'; infer_instance

instance td'_storable (q : Fin 4) (d : Dev nD) (t : Tile) : BI.Storable (upEmb : UEmb _ 𝕄) (td' Vs q d t) := by
  match q with
  | 0 | 1 | 2 | 3 => unfold td'; infer_instance

theorem nCore_eq (q : Fin 4) : (K (F := F)).nCore q = 2 := by match q with | 0 | 1 | 2 | 3 => rfl
theorem nSub_eq (q : Fin 4) : (K (F := F)).nSub q = 16 := by match q with | 0 | 1 | 2 | 3 => rfl

/-- The tile that task `(c, i)` of call `q` runs on. -/
def tileOf (q : Fin 4) (c : Fin ((K (F := F)).nCore q)) (i : Fin ((K (F := F)).nSub q)) : Tile := (c.cast (nCore_eq q), i.cast (nSub_eq q))

/-- Each task takes its tile's part and brings it back; a SparseCore's operands and results are its tasks'. -/
def P : (K (F := F)).Pay (nD := nD) (Val := Elt F) (Name := ℕ) (U := UU) where
  st := fun q d c => bigSep Finset.univ fun i => go' Vs q d (tileOf q c i)
  dn := fun q d c => bigSep Finset.univ fun i => td' Vs q d (tileOf q c i)
  go := fun q d c i => go' Vs q d (tileOf q c i)
  td := fun q d c i => td' Vs q d (tileOf q c i)
  x := fun _ _ => iprop(emp)

instance P_storable : (P Vs).IsStorable where
  st q d c := (inferInstance : BI.Storable (upEmb : UEmb _ 𝕄) (bigSep Finset.univ fun i => go' Vs q d (tileOf q c i)))
  dn q d c := (inferInstance : BI.Storable (upEmb : UEmb _ 𝕄) (bigSep Finset.univ fun i => td' Vs q d (tileOf q c i)))
  go q d c i := (inferInstance : BI.Storable (upEmb : UEmb _ 𝕄) (go' Vs q d (tileOf q c i)))
  td q d c i := (inferInstance : BI.Storable (upEmb : UEmb _ 𝕄) (td' Vs q d (tileOf q c i)))

theorem vecSplit (q : Fin 4) : (K (F := F)).VecSplit (P Vs) q := by
  refine SparseCore.Cfg.VecSplit.of_plain ?_
  intro d c
  show (bigSep Finset.univ fun i => go' Vs q d (tileOf q c i)) ⊢ |={Set.univ}=> iprop((bigSep Finset.univ fun i => go' Vs q d (tileOf q c i))
    ∗ ((bigSep Finset.univ fun i => td' Vs q d (tileOf q c i)) -∗ bigSep Finset.univ fun i => td' Vs q d (tileOf q c i)))
  iintro H
  imodintro
  isplitl [H]; · iexact H
  iintro H; iexact H

/-! ## The tasks -/

theorem tileObl0 (h : ∀ d, CallOK (Vs 0 d) 0) : (K (F := F)).TileObl (D (F := F)) 𝒱 (P Vs) v₀ 0 := by
  intro d c i O W hO _ _
  simp only [show (P Vs).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 ()
    = cc0_gk (F := F) (at' (tileOf (F := F) 0 c i)) (Memref.whole main_arg0_scv) (Memref.isWhole_whole _) (Memref.whole main_v4_scv) (Memref.isWhole_whole _) (Memref.whole main_v18_scv) (Memref.isWhole_whole _)
        (Memref.whole cc0_scratch0) (Memref.isWhole_whole _) (Memref.whole cc0_scratch1) (Memref.isWhole_whole _) cc0_scratch2 cc0_scoped0 cc0_scoped1 cc0_scoped2 cc0_scoped3 cc0_scoped4 from dif_pos hci]
  exact gather_task d (tileOf (F := F) 0 c i) cc0_scratch0 cc0_scratch1 (by decide) rfl rfl cc0_scratch2 cc0_scoped0 cc0_scoped1 cc0_scoped2 cc0_scoped3 cc0_scoped4
    (by decide) (by decide) (Memref.whole main_arg0_scv) (Memref.isWhole_whole _) (Memref.whole main_v4_scv) (Memref.isWhole_whole _) (Memref.whole main_v18_scv) (Memref.isWhole_whole _) (Memref.whole cc0_scratch0) (Memref.isWhole_whole _) (Memref.whole cc0_scratch1) (Memref.isWhole_whole _) rfl rfl
    (rd (Vs 0 d) main_arg0) (rd (Vs 0 d) main_v4) (rd (Vs 0 d) main_v18) (out0 (Vs 0 d)) (h d) rfl O W hO 0

theorem tileObl1 (h : ∀ d, CallOK (Vs 1 d) 1) : (K (F := F)).TileObl (D (F := F)) 𝒱 (P Vs) v₀ 1 := by
  intro d c i O W hO _ _
  simp only [show (P Vs).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [show defs₀ (F := F) (.scVector ((K (F := F)).core 1 c) ((K (F := F)).sub 1 i)) 1 ()
    = cc0_gk (F := F) (at' (tileOf (F := F) 1 c i)) (Memref.whole main_arg0_scv) (Memref.isWhole_whole _) (Memref.whole main_v6_scv) (Memref.isWhole_whole _) (Memref.whole main_v20_scv) (Memref.isWhole_whole _)
        (Memref.whole cc1_scratch0) (Memref.isWhole_whole _) (Memref.whole cc1_scratch1) (Memref.isWhole_whole _) cc1_scratch2 cc1_scoped0 cc1_scoped1 cc1_scoped2 cc1_scoped3 cc1_scoped4 from dif_pos hci]
  exact gather_task d (tileOf (F := F) 1 c i) cc1_scratch0 cc1_scratch1 (by decide) rfl rfl cc1_scratch2 cc1_scoped0 cc1_scoped1 cc1_scoped2 cc1_scoped3 cc1_scoped4
    (by decide) (by decide) (Memref.whole main_arg0_scv) (Memref.isWhole_whole _) (Memref.whole main_v6_scv) (Memref.isWhole_whole _) (Memref.whole main_v20_scv) (Memref.isWhole_whole _) (Memref.whole cc1_scratch0) (Memref.isWhole_whole _) (Memref.whole cc1_scratch1) (Memref.isWhole_whole _) rfl rfl
    (rd (Vs 1 d) main_arg0) (rd (Vs 1 d) main_v6) (rd (Vs 1 d) main_v20) (out1 (Vs 1 d)) (h d) rfl O W hO 1

theorem tileObl2 (h : ∀ d, CallOK (Vs 2 d) 2) : (K (F := F)).TileObl (D (F := F)) 𝒱 (P Vs) v₀ 2 := by
  intro d c i O W hO _ _
  simp only [show (P Vs).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  rw [show defs₀ (F := F) (.scVector ((K (F := F)).core 2 c) ((K (F := F)).sub 2 i)) 3 ()
    = cc3_sk (F := F) (at' (tileOf (F := F) 2 c i)) (Memref.whole main_v25_scv) (Memref.isWhole_whole _) (Memref.whole main_v4_scv) (Memref.isWhole_whole _) (Memref.whole main_v23_scv) (Memref.isWhole_whole _) (Memref.whole main_v23_scv) (Memref.isWhole_whole _)
        (Memref.whole cc3_scratch0) (Memref.isWhole_whole _) (Memref.whole cc3_scratch1) (Memref.isWhole_whole _) cc3_scratch2 cc3_scoped0 cc3_scoped1 cc3_scoped2 cc3_scoped3 cc3_scoped4 from dif_pos hci]
  exact scatter_task d (tileOf (F := F) 2 c i) cc3_scratch0 cc3_scratch1 (by decide) rfl rfl cc3_scratch2 cc3_scoped0 cc3_scoped1 cc3_scoped2 cc3_scoped3 cc3_scoped4
    (by decide) (by decide) (Memref.whole main_v25_scv) (Memref.isWhole_whole _) (Memref.whole main_v4_scv) (Memref.isWhole_whole _) (Memref.whole main_v23_scv) (Memref.isWhole_whole _) (Memref.whole main_v23_scv) (Memref.isWhole_whole _) (Memref.whole cc3_scratch0) (Memref.isWhole_whole _) (Memref.whole cc3_scratch1) (Memref.isWhole_whole _) rfl rfl
    (rd (Vs 2 d) main_v25) (rd (Vs 2 d) main_v4) (rd (Vs 2 d) main_v23) (out2 (Vs 2 d)) (h d).1 (h d).2 (rd (Vs 2 d) main_v23) rfl O W hO 2

theorem tileObl3 (h : ∀ d, CallOK (Vs 3 d) 3) : (K (F := F)).TileObl (D (F := F)) 𝒱 (P Vs) v₀ 3 := by
  intro d c i O W hO _ _
  simp only [show (P Vs).ox = fun _ _ => 0 from rfl, add_zero]
  have hci : ((K (F := F)).core 3 c).val < grid5.bound 0 ∧ ((K (F := F)).sub 3 i).val < grid5.bound 1 := ⟨c.isLt, i.isLt⟩
  change _ ⊢ wp _ _ _ (Pipeline.liftProg (defs₀ (F := F) (.scVector ((K (F := F)).core 3 c) ((K (F := F)).sub 3 i)) 5 ())) _
  refine BI.Entails.trans ?_ (Pipeline.wp_liftProg (D (F := F)) (Pipeline.defs_kernel pcfgs defs₀) 𝒱₀ _ Set.univ none _ _)
  rw [show defs₀ (F := F) (.scVector ((K (F := F)).core 3 c) ((K (F := F)).sub 3 i)) 5 ()
    = cc3_sk (F := F) (at' (tileOf (F := F) 3 c i)) (Memref.whole main_v28_scv) (Memref.isWhole_whole _) (Memref.whole main_v6_scv) (Memref.isWhole_whole _) (Memref.whole main_v23_scv) (Memref.isWhole_whole _) (Memref.whole main_v23_scv) (Memref.isWhole_whole _)
        (Memref.whole cc5_scratch0) (Memref.isWhole_whole _) (Memref.whole cc5_scratch1) (Memref.isWhole_whole _) cc5_scratch2 cc5_scoped0 cc5_scoped1 cc5_scoped2 cc5_scoped3 cc5_scoped4 from dif_pos hci]
  exact scatter_task d (tileOf (F := F) 3 c i) cc5_scratch0 cc5_scratch1 (by decide) rfl rfl cc5_scratch2 cc5_scoped0 cc5_scoped1 cc5_scoped2 cc5_scoped3 cc5_scoped4
    (by decide) (by decide) (Memref.whole main_v28_scv) (Memref.isWhole_whole _) (Memref.whole main_v6_scv) (Memref.isWhole_whole _) (Memref.whole main_v23_scv) (Memref.isWhole_whole _) (Memref.whole main_v23_scv) (Memref.isWhole_whole _) (Memref.whole cc5_scratch0) (Memref.isWhole_whole _) (Memref.whole cc5_scratch1) (Memref.isWhole_whole _) rfl rfl
    (rd (Vs 3 d) main_v28) (rd (Vs 3 d) main_v6) (rd (Vs 3 d) main_v23) (out3 (Vs 3 d)) (h d).1 (h d).2 (rd (Vs 3 d) main_v23) rfl O W hO 3

end Cert.Proof.KernelIdeal
-- ==== Proof.KernelIdeal.CallRule.lean ====
/-
  The four SparseCore calls as the main program runs them: from every array of the TensorCore's at given contents to the
  same arrays with the call's result at what the call leaves.
-/
module

public import proofs.«01_k».proof.Proof.KernelIdeal.Pay

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- An array of the TensorCore's, whole. -/
abbrev pt (d : Dev nD) (r : Ref sig .tc) (f : r.ty.Contents (Elt F)) : sProp 𝕄 := ((d, Proc.devRef .tc r) : Loc nD τ sig) ↦{fullShare} f

/-! ## The arrays, dealt -/

theorem all_set (b : Memref sig .scVector .hbm S32768x128 .f32) (hb : b.view.set = Finset.univ) : (allK b).view.set = Finset.univ := by
  rw [← hb]
  ext x
  constructor
  · intro hx; exact View.set_slice_subset _ _ hx
  · intro hx
    obtain ⟨y, -, rfl⟩ := Finset.mem_map.mp hx
    exact Finset.mem_map.mpr ⟨y, Finset.mem_univ _, emb_allK b y⟩

/-- Tiles by number. -/
def widEquiv : Tile ≃ Fin (2 ^ 5) := Equiv.ofBijective wid ⟨wid_inj, fun w => wid_surj w⟩

section Deal

variable (d : Dev nD)

theorem deal_arg0 (f : main_arg0.ty.Contents (Elt F)) :
    (pt d main_arg0 f : sProp 𝕄) = bigSep Finset.univ fun t : Tile =>
      (allK (Memref.whole main_arg0_scv)).view.loc (tV d (at' t)) ↦[(allK (Memref.whole main_arg0_scv)).view.set]{ShareLeaves.leaf 5 fullShare (wid t)} f := by
  refine (ShareLeaves.pointsTo_leaves (ℓ := (d, Proc.devRef .tc main_arg0)) Finset.univ f 5 fullShare).trans ((bigSep_univ_equiv widEquiv _).trans ?_)
  rw [all_set (Memref.whole main_arg0_scv) (View.set_whole _)]
  rfl

/-- A whole array, dealt by a family of disjoint sets that covers it. -/
theorem deal_sets {ℓ : Loc nD τ sig} {T : Type} [Fintype T] (S : T → Finset (Idx ℓ))
    (hd : ∀ t ∈ (Finset.univ : Finset T), ∀ t' ∈ (Finset.univ : Finset T), t ≠ t' → Disjoint (S t) (S t')) (hc : Finset.univ.biUnion S = Finset.univ) (f : Buf (Elt F) ℓ) :
    (ℓ ↦{fullShare} f : sProp 𝕄) = bigSep Finset.univ fun t => ℓ ↦[S t]{fullShare} f := by
  rw [← pointsTo_biUnion Finset.univ S hd, hc]

theorem deal_v4 (f : main_v4.ty.Contents (Elt F)) :
    (pt d main_v4 f : sProp 𝕄) = bigSep Finset.univ fun t : Tile =>
      (listK (at' t) (Memref.whole main_v4_scv)).view.loc (tV d (at' t)) ↦[(listK (at' t) (Memref.whole main_v4_scv)).view.set]{fullShare} f :=
  deal_sets (ℓ := (d, Proc.devRef .tc main_v4)) (fun t : Tile => (listK (at' t) (Memref.whole main_v4_scv)).view.set) (list_disjoint _) ((list_cover _).trans (View.set_whole _)) f

theorem deal_v6 (f : main_v6.ty.Contents (Elt F)) :
    (pt d main_v6 f : sProp 𝕄) = bigSep Finset.univ fun t : Tile =>
      (listK (at' t) (Memref.whole main_v6_scv)).view.loc (tV d (at' t)) ↦[(listK (at' t) (Memref.whole main_v6_scv)).view.set]{fullShare} f :=
  deal_sets (ℓ := (d, Proc.devRef .tc main_v6)) (fun t : Tile => (listK (at' t) (Memref.whole main_v6_scv)).view.set) (list_disjoint _) ((list_cover _).trans (View.set_whole _)) f

theorem deal_v18 (f : main_v18.ty.Contents (Elt F)) :
    (pt d main_v18 f : sProp 𝕄) = bigSep Finset.univ fun t : Tile => bigSep Finset.univ fun k : Fin 4 =>
      (chunkK (at' t) (Memref.whole main_v18_scv) k).view.loc (tV d (at' t)) ↦[(chunkK (at' t) (Memref.whole main_v18_scv) k).view.set]{fullShare} f :=
  (deal_sets (ℓ := (d, Proc.devRef .tc main_v18)) (fun u : Tile × Fin 4 => (chunkK (at' u.1) (Memref.whole main_v18_scv) u.2).view.set) (chunk_disjoint _)
    ((chunk_cover _).trans (View.set_whole _)) f).trans (bigSep_univ_prod _)

theorem deal_v20 (f : main_v20.ty.Contents (Elt F)) :
    (pt d main_v20 f : sProp 𝕄) = bigSep Finset.univ fun t : Tile => bigSep Finset.univ fun k : Fin 4 =>
      (chunkK (at' t) (Memref.whole main_v20_scv) k).view.loc (tV d (at' t)) ↦[(chunkK (at' t) (Memref.whole main_v20_scv) k).view.set]{fullShare} f :=
  (deal_sets (ℓ := (d, Proc.devRef .tc main_v20)) (fun u : Tile × Fin 4 => (chunkK (at' u.1) (Memref.whole main_v20_scv) u.2).view.set) (chunk_disjoint _)
    ((chunk_cover _).trans (View.set_whole _)) f).trans (bigSep_univ_prod _)

theorem deal_v25 (f : main_v25.ty.Contents (Elt F)) :
    (pt d main_v25 f : sProp 𝕄) = bigSep Finset.univ fun t : Tile => bigSep Finset.univ fun k : Fin 4 =>
      (chunkK (at' t) (Memref.whole main_v25_scv) k).view.loc (tV d (at' t)) ↦[(chunkK (at' t) (Memref.whole main_v25_scv) k).view.set]{fullShare} f :=
  (deal_sets (ℓ := (d, Proc.devRef .tc main_v25)) (fun u : Tile × Fin 4 => (chunkK (at' u.1) (Memref.whole main_v25_scv) u.2).view.set) (chunk_disjoint _)
    ((chunk_cover _).trans (View.set_whole _)) f).trans (bigSep_univ_prod _)

theorem deal_v28 (f : main_v28.ty.Contents (Elt F)) :
    (pt d main_v28 f : sProp 𝕄) = bigSep Finset.univ fun t : Tile => bigSep Finset.univ fun k : Fin 4 =>
      (chunkK (at' t) (Memref.whole main_v28_scv) k).view.loc (tV d (at' t)) ↦[(chunkK (at' t) (Memref.whole main_v28_scv) k).view.set]{fullShare} f :=
  (deal_sets (ℓ := (d, Proc.devRef .tc main_v28)) (fun u : Tile × Fin 4 => (chunkK (at' u.1) (Memref.whole main_v28_scv) u.2).view.set) (chunk_disjoint _)
    ((chunk_cover _).trans (View.set_whole _)) f).trans (bigSep_univ_prod _)

/-- The elements of a 32768-row array on the rows that some word of the list names. -/
def touched (arg4 : Memref sig .scVector .hbm S32768x128 .f32) (I : S32x4x128.Idx → BitVec 32) : Finset arg4.view.ty.Idx :=
  Finset.univ.biUnion fun u : Tile × Fin 4 => namedK arg4 (names I u.1 u.2)

/-- Off them a scatter leaves what was there. -/
theorem untouched (arg4 : Memref sig .scVector .hbm S32768x128 .f32) (I : S32x4x128.Idx → BitVec 32) (Y : S16384x128.Idx → Elt F .f32) (f G : arg4.view.ty.Contents (Elt F))
    (hG : arg4.view.read (Elt F) G = scatterOf I Y (arg4.view.read (Elt F) f)) (hw : arg4.view.set = Finset.univ) :
    ∀ x ∈ Finset.univ \ touched arg4 I, f x = G x := by
  intro x hx
  rw [Finset.mem_sdiff] at hx
  have hx' := hx.2
  obtain ⟨y, -, rfl⟩ := Finset.mem_map.mp (show x ∈ arg4.view.set by rw [hw]; exact Finset.mem_univ x)
  have hy : ¬∃ n : Fin 16384, wordAt I n = (y 0).val := by
    rintro ⟨n, hn⟩
    obtain ⟨t, k, r, rfl⟩ := slot_surj n
    apply hx'
    unfold touched
    rw [Finset.mem_biUnion]
    refine ⟨(t, k), Finset.mem_univ _, ?_⟩
    have hn' : names I t k (y 0).val := ⟨r, hn⟩
    rw [mem_named]
    refine ⟨y, hn', ?_⟩
    rfl
  have h := congrFun hG y
  rw [scatterOf_miss _ _ _ hy, View.read_apply, View.read_apply] at h
  exact (cast_inj_of _ h).symm

theorem deal_v23 {I : S32x4x128.Idx → BitVec 32} (hI : Function.Injective (wordAt I)) (f : main_v23.ty.Contents (Elt F)) :
    (pt d main_v23 f : sProp 𝕄) = iprop((bigSep Finset.univ fun t : Tile => bigSep Finset.univ fun k : Fin 4 =>
        (allK (Memref.whole main_v23_scv)).view.loc (tV d (at' t)) ↦[namedK (Memref.whole main_v23_scv) (names I t k)]{fullShare} f)
      ∗ ((d, Proc.devRef .tc main_v23) : Loc nD τ sig) ↦[Finset.univ \ touched (Memref.whole main_v23_scv) I]{fullShare} f) := by
  have h := pointsTo_split_subset (U := UU) (Ix := HIx 4) (Name := ℕ) (Lvl := ℕ) (Val := Elt F) (ℓ := ((d, Proc.devRef .tc main_v23) : Loc nD τ sig)) (q := fullShare) (f := f) (Finset.subset_univ (touched (Memref.whole main_v23_scv) I))
  refine (BI.Entails.antisymm h.1 h.2).trans ?_
  congr 1
  unfold touched
  rw [pointsTo_biUnion (ℓ := (d, Proc.devRef .tc main_v23)) Finset.univ (fun u : Tile × Fin 4 => namedK (Memref.whole main_v23_scv) (names I u.1 u.2)) (named_disjoint _ hI)]
  exact bigSep_univ_prod _

theorem sep_tiles (A B C : Tile → sProp 𝕄) :
    (iprop(bigSep Finset.univ A ∗ bigSep Finset.univ B ∗ bigSep Finset.univ C) : sProp 𝕄) = bigSep Finset.univ fun t => iprop(A t ∗ B t ∗ C t) := by
  rw [← bigSep_sep', ← bigSep_sep']

end Deal

/-! ## A call -/

variable (Vs : Fin 4 → Val8 F)

theorem tiles_eq (q : Fin 4) (Φ : Tile → sProp 𝕄) :
    (bigSep Finset.univ fun c => bigSep Finset.univ fun i => Φ (tileOf (F := F) q c i)) = bigSep Finset.univ Φ := by
  match q with
  | 0 | 1 | 2 | 3 => exact (bigSep_univ_prod Φ).symm

theorem sep_regroup (A B C R : sProp 𝕄) : (iprop(A ∗ B ∗ C ∗ R) : sProp 𝕄) = iprop((A ∗ B ∗ C) ∗ R) := by
  have h1 : iprop(A ∗ B ∗ C ∗ R) ⊢ iprop((A ∗ B ∗ C) ∗ R) := by
    iintro ⟨Ha, Hb, Ho, HR⟩
    isplitr [HR]
    · isplitl [Ha]; · iexact Ha
      isplitl [Hb]; · iexact Hb
      iexact Ho
    iexact HR
  have h2 : iprop((A ∗ B ∗ C) ∗ R) ⊢ iprop(A ∗ B ∗ C ∗ R) := by
    iintro ⟨⟨Ha, Hb, Ho⟩, HR⟩
    isplitl [Ha]; · iexact Ha
    isplitl [Hb]; · iexact Hb
    isplitl [Ho]; · iexact Ho
    iexact HR
  exact BI.Entails.antisymm h1 h2

/-- Three arrays of the TensorCore's taken out of all of them. -/
theorem held_three (d : Dev nD) (W : Valuation τ sig (Elt F)) (a b o : Ref sig .tc) (hab : a ≠ b) (hao : a ≠ o) (hbo : b ≠ o)
    (ha : Proc.devRef .tc a ∈ Pipeline.ucRefs τ sig) (hb : Proc.devRef .tc b ∈ Pipeline.ucRefs τ sig) (ho : Proc.devRef .tc o ∈ Pipeline.ucRefs τ sig) :
    (StableHlo.held (T d) (Pipeline.ucRefs τ sig) W : sProp 𝕄)
      = iprop((pt d a (rd W a) ∗ pt d b (rd W b) ∗ pt d o (rd W o))
        ∗ StableHlo.held (T d) ((((Pipeline.ucRefs τ sig).erase (Proc.devRef .tc a)).erase (Proc.devRef .tc b)).erase (Proc.devRef .tc o)) W) := by
  have hne : ∀ {x y : Ref sig .tc}, x ≠ y → (Proc.devRef .tc x : DevRef τ sig) ≠ Proc.devRef .tc y := fun h e => h (Proc.devRef_injective _ e)
  unfold StableHlo.held
  rw [SparseCore.bigSep_erase' ha, SparseCore.bigSep_erase' (Finset.mem_erase.mpr ⟨hne hab.symm, hb⟩),
    SparseCore.bigSep_erase' (Finset.mem_erase.mpr ⟨hne hbo.symm, Finset.mem_erase.mpr ⟨hne hao.symm, ho⟩⟩)]
  exact sep_regroup _ _ _ _

/-- A call whose tiles are dealt three arrays and bring them back, the third changed. -/
theorem wp_call (κ : GSem nD τ sig → ℕ) (d : Dev nD) (q : Fin 4) (a b o : Ref sig .tc) (hab : a ≠ b) (hao : a ≠ o) (hbo : b ≠ o)
    (ha : Proc.devRef .tc a ∈ Pipeline.ucRefs τ sig) (hb : Proc.devRef .tc b ∈ Pipeline.ucRefs τ sig) (ho : Proc.devRef .tc o ∈ Pipeline.ucRefs τ sig)
    (G : o.ty.Contents (Elt F)) (R : sProp 𝕄)
    (hst : iprop(pt d a (rd (Vs q d) a) ∗ pt d b (rd (Vs q d) b) ∗ pt d o (rd (Vs q d) o)) ⊢ iprop((bigSep Finset.univ (go' Vs q d)) ∗ R))
    (hdn : iprop((bigSep Finset.univ (td' Vs q d)) ∗ R) ⊢ iprop(pt d a (rd (Vs q d) a) ∗ pt d b (rd (Vs q d) b) ∗ pt d o G))
    (Φ : PUnit → sProp 𝕄) :
    iprop((K (F := F)).ctx EH (P Vs) κ (K (F := F)).lev ∗ (K (F := F)).tcSt EH d q.val ∗ StableHlo.held (T d) (Pipeline.ucRefs τ sig) (Vs q d)
        ∗ (((K (F := F)).tcSt EH d (q.val + 1) ∗ StableHlo.held (T d) (Pipeline.ucRefs τ sig) (Function.update (Vs q d) (Proc.devRef .tc o) G)) -∗ Φ ⟨⟩))
      ⊢ wp frame (wpE ((K (F := F)).defs (D (F := F))) 𝒱 (T d) none) Set.univ ((K (F := F)).run d q) Φ := by
  have hne : ∀ {x y : Ref sig .tc}, x ≠ y → (Proc.devRef .tc x : DevRef τ sig) ≠ Proc.devRef .tc y := fun h e => h (Proc.devRef_injective _ e)
  rw [held_three d (Vs q d) a b o hab hao hbo ha hb ho, held_three d (Function.update (Vs q d) (Proc.devRef .tc o) G) a b o hab hao hbo ha hb ho]
  unfold rd
  rw [Function.update_self, Function.update_of_ne (hne hao), Function.update_of_ne (hne hbo),
    StableHlo.held_congr (T d) (V := Function.update (Vs q d) (Proc.devRef .tc o) G) (V' := Vs q d) (fun r hr => Function.update_of_ne (Finset.ne_of_mem_erase hr) _ _)]
  iintro ⟨#Hctx, Hst, ⟨Habo, HR⟩, Hk⟩
  ihave Habo' := hst $$ Habo
  icases Habo' with ⟨Hgo, HF⟩
  iapply ((K (F := F)).wp_run (D (F := F)) 𝒱 (EH := EH) (P := P Vs) κ d q)
  isplitr; · iexact Hctx
  isplitl [Hst]; · iexact Hst
  isplitl [Hgo]
  · iapply (Entails.of_eq (tiles_eq q (go' Vs q d)).symm); iexact Hgo
  iintro ⟨Hst, Htd⟩
  ihave Htd' := (show (bigSep Finset.univ fun c => (P Vs).dn q d c) ⊢ bigSep Finset.univ (td' Vs q d) from Entails.of_eq (tiles_eq q (td' Vs q d))) $$ Htd
  ihave H := hdn $$ [Htd' HF]
  · isplitl [Htd']; · iexact Htd'
    iexact HF
  iapply Hk
  isplitl [Hst]; · iexact Hst
  isplitl [H]; · iexact H
  iexact HR

/-- The two gathers. -/
theorem wp_gatherCall (κ : GSem nD τ sig → ℕ) (d : Dev nD) (q : Fin 4) (a b o : Ref sig .tc) (hab : a ≠ b) (hao : a ≠ o) (hbo : b ≠ o)
    (ha : Proc.devRef .tc a ∈ Pipeline.ucRefs τ sig) (hb : Proc.devRef .tc b ∈ Pipeline.ucRefs τ sig) (ho : Proc.devRef .tc o ∈ Pipeline.ucRefs τ sig)
    (G : o.ty.Contents (Elt F)) (res : o.ty.Contents (Elt F) → Tile → sProp 𝕄)
    (hdeal : ∀ g, (iprop(pt d a (rd (Vs q d) a) ∗ pt d b (rd (Vs q d) b) ∗ pt d o g) : sProp 𝕄) = bigSep Finset.univ (res g))
    (hgo : go' Vs q d = res (rd (Vs q d) o)) (htd : td' Vs q d = res G) (Φ : PUnit → sProp 𝕄) :
    iprop((K (F := F)).ctx EH (P Vs) κ (K (F := F)).lev ∗ (K (F := F)).tcSt EH d q.val ∗ StableHlo.held (T d) (Pipeline.ucRefs τ sig) (Vs q d)
        ∗ (((K (F := F)).tcSt EH d (q.val + 1) ∗ StableHlo.held (T d) (Pipeline.ucRefs τ sig) (Function.update (Vs q d) (Proc.devRef .tc o) G)) -∗ Φ ⟨⟩))
      ⊢ wp frame (wpE ((K (F := F)).defs (D (F := F))) 𝒱 (T d) none) Set.univ ((K (F := F)).run d q) Φ := by
  refine wp_call Vs κ d q a b o hab hao hbo ha hb ho G iprop(emp) ?_ ?_ Φ
  · rw [hdeal, hgo]
    iintro H
    isplitl [H]; · iexact H
    iempintro
  · rw [hdeal, htd]
    iintro ⟨H, -⟩
    iexact H

theorem wp_call0 (κ : GSem nD τ sig → ℕ) (d : Dev nD) (Φ : PUnit → sProp 𝕄) :
    iprop((K (F := F)).ctx EH (P Vs) κ (K (F := F)).lev ∗ (K (F := F)).tcSt EH d 0 ∗ StableHlo.held (T d) (Pipeline.ucRefs τ sig) (Vs 0 d)
        ∗ (((K (F := F)).tcSt EH d 1 ∗ StableHlo.held (T d) (Pipeline.ucRefs τ sig) (Function.update (Vs 0 d) (Proc.devRef .tc main_v18) (out0 (Vs 0 d)))) -∗ Φ ⟨⟩))
      ⊢ wp frame (wpE ((K (F := F)).defs (D (F := F))) 𝒱 (T d) none) Set.univ ((K (F := F)).run d 0) Φ :=
  wp_gatherCall Vs κ d 0 main_arg0 main_v4 main_v18 (by decide) (by decide) (by decide) (by decide) (by decide) (by decide) _ (fun g t => res0 Vs d t g)
    (fun g => by rw [deal_arg0, deal_v4, deal_v18, sep_tiles]; rfl) rfl rfl Φ

theorem wp_call1 (κ : GSem nD τ sig → ℕ) (d : Dev nD) (Φ : PUnit → sProp 𝕄) :
    iprop((K (F := F)).ctx EH (P Vs) κ (K (F := F)).lev ∗ (K (F := F)).tcSt EH d 1 ∗ StableHlo.held (T d) (Pipeline.ucRefs τ sig) (Vs 1 d)
        ∗ (((K (F := F)).tcSt EH d 2 ∗ StableHlo.held (T d) (Pipeline.ucRefs τ sig) (Function.update (Vs 1 d) (Proc.devRef .tc main_v20) (out1 (Vs 1 d)))) -∗ Φ ⟨⟩))
      ⊢ wp frame (wpE ((K (F := F)).defs (D (F := F))) 𝒱 (T d) none) Set.univ ((K (F := F)).run d 1) Φ :=
  wp_gatherCall Vs κ d 1 main_arg0 main_v6 main_v20 (by decide) (by decide) (by decide) (by decide) (by decide) (by decide) _ (fun g t => res1 Vs d t g)
    (fun g => by rw [deal_arg0, deal_v6, deal_v20, sep_tiles]; rfl) rfl rfl Φ

/-- The two scatters: the rows none of the words names stay with the main program. -/
theorem wp_scatterCall (κ : GSem nD τ sig → ℕ) (d : Dev nD) (q : Fin 4) (a b : Ref sig .tc) (hab : a ≠ b) (hao : a ≠ main_v23) (hbo : b ≠ main_v23)
    (ha : Proc.devRef .tc a ∈ Pipeline.ucRefs τ sig) (hb : Proc.devRef .tc b ∈ Pipeline.ucRefs τ sig) (I : S32x4x128.Idx → BitVec 32) (Y : S16384x128.Idx → Elt F .f32)
    (res : main_v23.ty.Contents (Elt F) → Tile → sProp 𝕄)
    (hdeal : ∀ g, (iprop(pt d a (rd (Vs q d) a) ∗ pt d b (rd (Vs q d) b) ∗ pt d main_v23 g) : sProp 𝕄)
      = iprop(bigSep Finset.univ (res g) ∗ ((d, Proc.devRef .tc main_v23) : Loc nD τ sig) ↦[Finset.univ \ touched (Memref.whole main_v23_scv) I]{fullShare} g))
    (hgo : go' Vs q d = res (rd (Vs q d) main_v23)) (htd : td' Vs q d = res (scatterOf I Y (rd (Vs q d) main_v23))) (Φ : PUnit → sProp 𝕄) :
    iprop((K (F := F)).ctx EH (P Vs) κ (K (F := F)).lev ∗ (K (F := F)).tcSt EH d q.val ∗ StableHlo.held (T d) (Pipeline.ucRefs τ sig) (Vs q d)
        ∗ (((K (F := F)).tcSt EH d (q.val + 1) ∗ StableHlo.held (T d) (Pipeline.ucRefs τ sig)
            (Function.update (Vs q d) (Proc.devRef .tc main_v23) (scatterOf I Y (rd (Vs q d) main_v23)))) -∗ Φ ⟨⟩))
      ⊢ wp frame (wpE ((K (F := F)).defs (D (F := F))) 𝒱 (T d) none) Set.univ ((K (F := F)).run d q) Φ := by
  refine wp_call Vs κ d q a b main_v23 hab hao hbo ha hb (by decide) (scatterOf I Y (rd (Vs q d) main_v23))
    (((d, Proc.devRef .tc main_v23) : Loc nD τ sig) ↦[Finset.univ \ touched (Memref.whole main_v23_scv) I]{fullShare} rd (Vs q d) main_v23) ?_ ?_ Φ
  · rw [hdeal, hgo]
  · rw [hdeal, htd]
    have e : ((((d, Proc.devRef .tc main_v23) : Loc nD τ sig) ↦[Finset.univ \ touched (Memref.whole main_v23_scv) I]{fullShare} rd (Vs q d) main_v23) : sProp 𝕄)
        = ((d, Proc.devRef .tc main_v23) : Loc nD τ sig) ↦[Finset.univ \ touched (Memref.whole main_v23_scv) I]{fullShare} scatterOf I Y (rd (Vs q d) main_v23) :=
      pointsTo_congr (untouched (Memref.whole main_v23_scv) I Y (rd (Vs q d) main_v23) _ rfl (View.set_whole _))
    rw [e]

theorem wp_call2 (κ : GSem nD τ sig → ℕ) (d : Dev nD) (h : CallOK (Vs 2 d) 2) (Φ : PUnit → sProp 𝕄) :
    iprop((K (F := F)).ctx EH (P Vs) κ (K (F := F)).lev ∗ (K (F := F)).tcSt EH d 2 ∗ StableHlo.held (T d) (Pipeline.ucRefs τ sig) (Vs 2 d)
        ∗ (((K (F := F)).tcSt EH d 3 ∗ StableHlo.held (T d) (Pipeline.ucRefs τ sig) (Function.update (Vs 2 d) (Proc.devRef .tc main_v23) (out2 (Vs 2 d)))) -∗ Φ ⟨⟩))
      ⊢ wp frame (wpE ((K (F := F)).defs (D (F := F))) 𝒱 (T d) none) Set.univ ((K (F := F)).run d 2) Φ :=
  wp_scatterCall Vs κ d 2 main_v4 main_v25 (by decide) (by decide) (by decide) (by decide) (by decide) (rd (Vs 2 d) main_v4) (rd (Vs 2 d) main_v25) (fun g t => res2 Vs d t g)
    (fun g => by rw [deal_v4, deal_v25, deal_v23 d h.2]; exact (sep_regroup _ _ _ _).trans (congrArg (fun X => iprop(X ∗ _)) (sep_tiles _ _ _))) rfl rfl Φ

theorem wp_call3 (κ : GSem nD τ sig → ℕ) (d : Dev nD) (h : CallOK (Vs 3 d) 3) (Φ : PUnit → sProp 𝕄) :
    iprop((K (F := F)).ctx EH (P Vs) κ (K (F := F)).lev ∗ (K (F := F)).tcSt EH d 3 ∗ StableHlo.held (T d) (Pipeline.ucRefs τ sig) (Vs 3 d)
        ∗ (((K (F := F)).tcSt EH d 4 ∗ StableHlo.held (T d) (Pipeline.ucRefs τ sig) (Function.update (Vs 3 d) (Proc.devRef .tc main_v23) (out3 (Vs 3 d)))) -∗ Φ ⟨⟩))
      ⊢ wp frame (wpE ((K (F := F)).defs (D (F := F))) 𝒱 (T d) none) Set.univ ((K (F := F)).run d 3) Φ :=
  wp_scatterCall Vs κ d 3 main_v6 main_v28 (by decide) (by decide) (by decide) (by decide) (by decide) (rd (Vs 3 d) main_v6) (rd (Vs 3 d) main_v28) (fun g t => res3 Vs d t g)
    (fun g => by rw [deal_v6, deal_v28, deal_v23 d h.2]; exact (sep_regroup _ _ _ _).trans (congrArg (fun X => iprop(X ∗ _)) (sep_tiles _ _ _))) rfl rfl Φ

end Cert.Proof.KernelIdeal
-- ==== Proof.KernelIdeal.Region1.lean ====
/-
  The GRU's second half as a region of the main program: what its two grid points leave in the staging buffers and
  in the two result arrays, as functions of the arrays it is entered with.
-/
module

public import proofs.«01_k».proof.Proof.KernelIdeal.Region0

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation arrRef)

variable {F : FTy → Type} [FloatOps F]

local notation "𝕄" => MM F

section Body

variable (V : Val8 F) (c : Dev nD)

/-- Window `w`'s array as the region finds it. -/
abbrev arr4 (w : Fin 8) : Buf (Elt F) ((cfg4.win w).arr.view.loc (c : Thread nD τ)) := V c (Proc.devRef .tc (arrRef spec4 w))
/-- The block of window `w` that point `t` is on. -/
abbrev blk4 (w : Fin 8) (t : Fin grid4.N) : ((cfg4.win w).xblock (grid4.coords t)).Idx → Elt F (cfg4.win w).elt :=
  ((cfg4.win w).blk t).view.read (Elt F) (arr4 V c w)

/-- The input gates of the steps of point `t`, -/
abbrev gi4 (t : Fin grid4.N) := giOf (blk4 V c 0 t) (blk4 V c 1 t4_0) (blk4 V c 3 t4_0)
/-- the state the first point starts from, and the state the second starts from, -/
abbrev mid4 : Vec F S16x128 .f32 := hAt (blk4 V c 2 t4_0) (row128 (blk4 V c 4 t4_0)) (gi4 V c t4_0) (blk4 V c 5 t4_0) 512
def start4 (n : ℕ) : Vec F S16x128 .f32 := if n = 0 then blk4 V c 5 t4_0 else mid4 V c
/-- the states after the steps of point `t`, -/
abbrev ys4 (t : Fin grid4.N) : Vec F S512x16x128 .f32 := ysOf (blk4 V c 2 t4_0) (row128 (blk4 V c 4 t4_0)) (gi4 V c t) (start4 V c t.val)
/-- and the last of them. -/
abbrev last4 (t : Fin grid4.N) : Vec F S16x128 .f32 := hAt (blk4 V c 2 t4_0) (row128 (blk4 V c 4 t4_0)) (gi4 V c t) (start4 V c t.val) 512

/-- The scoped buffers outside the pipeline: the state's scratch (at the start of a point, except the first), the
    gates' scratch, and the others, from which all of them come back. -/
def inv4 (n : ℕ) : sProp 𝕄 :=
  iprop((∃ x, ⌜n = 1 → x = mid4 V c⌝ ∗ owns (c : Thread nD τ) (Memref.whole cc4_scratch0) fullShare x)
    ∗ (∃ x, owns (c : Thread nD τ) (Memref.whole cc4_scratch1) fullShare x)
    ∗ (iprop((∃ x, owns (c : Thread nD τ) (Memref.whole cc4_scratch0) fullShare x) ∗ (∃ x, owns (c : Thread nD τ) (Memref.whole cc4_scratch1) fullShare x))
        -∗ Pipeline.scopedRest (Ix := HIx 4) (Name := ℕ) (U := UU) (Lvl := ℕ) (Val := Elt F) spec4 c))

/-- The region's proof data, entered at `V`. -/
def dat4 : Dat τ (Elt F) (HIx 4) ℕ UU ℕ cfg4 c where
  A w := arr4 V c w
  after w t := match w with
    | ⟨0, _⟩ => blk4 V c 0 t
    | ⟨1, _⟩ => blk4 V c 1 t4_0
    | ⟨2, _⟩ => blk4 V c 2 t4_0
    | ⟨3, _⟩ => blk4 V c 3 t4_0
    | ⟨4, _⟩ => blk4 V c 4 t4_0
    | ⟨5, _⟩ => blk4 V c 5 t4_0
    | ⟨6, _⟩ => ys4 V c t
    | ⟨7, _⟩ => last4 V c t
  Φ t := inv4 V c t.val
  q _ := fullShare
  owed _ := (K (F := F)).Otc c 3
  recorded _ := {p | (K (F := F)).lev ((c : Thread nD τ), p.1) p.2 ≤ 8 * 3}

/-- Each input's staging buffer holds its block when the body runs. -/
theorem before4 (w : Fin 8) (hw : w.val < 6) (t : Fin grid4.N) (d) : (dat4 V c).before w t d = (dat4 V c).after w t := by
  have two : ∀ w : Fin 8, 0 < w.val → w.val < 6 → (cfg4.win w).fetch t4_1 = false ∧ (cfg4.win w).flush t4_0 = false := by decide
  have one : ∀ w : Fin 8, w.val < 6 → (cfg4.win w).fetch t4_0 = true := by decide
  rcases fin_N4 t with rfl | rfl
  · unfold Dat.before; rw [if_pos (one w hw)]
    fin_cases w <;> first | rfl | exact absurd hw (by decide)
  · by_cases h0 : w = 0
    · subst h0; unfold Dat.before; rw [if_pos (by decide)]; rfl
    · obtain ⟨h1, h2⟩ := two w (Nat.pos_of_ne_zero fun h => h0 (Fin.ext h)) hw
      unfold Dat.before
      rw [if_neg (by rw [h1]; decide), if_neg (by decide)]
      fin_cases w <;> first | exact absurd rfl h0 | exact absurd hw (by decide) | (rw [if_neg (by decide)]; rfl)

/-- The state a point works from: the first point's input, or what the first point left. -/
theorem startOf4 (t : Fin grid4.N) (xh : Vec F S16x128 .f32) (hx : t.val = 1 → xh = mid4 V c) :
    startOf (grid4.coords t) (blk4 V c 5 t4_0) xh = start4 V c t.val := by
  rcases fin_N4 t with rfl | rfl
  · rw [startOf, if_pos (by decide), start4, if_pos (by decide)]
  · rw [startOf, if_neg (by decide), start4, if_neg (by decide)]; exact hx (by decide)

theorem body_row4 (t : Fin grid4.N) : defs₀ (F := F) .tc cfg4.body (cfg4.bodyArgs t (cfg4.slots t)) = bodyAt4 t := rfl

theorem body_obligation4 : BodyObligation (dat4 V c) (defs₀ (F := F)) 𝒱₀ (default : HIx 4) Set.univ := fun t => by
  rw [bigSep_W4, bigSep_W4, body_row4]
  unfold bodyAt4
  rw [gru_text]
  rw [show (dat4 V c).Φ t.castSucc = inv4 V c t.val from rfl, show (dat4 V c).Φ t.succ = inv4 V c (t.val + 1) from rfl,
    show (dat4 V c).owesAt default t.succ = (dat4 V c).owesAt default t.castSucc from rfl]
  unfold inv4
  iintro ⟨⟨⟨%xh, %hx, Hh⟩, Hg, Hback⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before4 V c 0 (by decide), before4 V c 1 (by decide), before4 V c 2 (by decide), before4 V c 3 (by decide), before4 V c 4 (by decide), before4 V c 5 (by decide)]
  iapply (wp_wand_r _ _ _ (Q := _))
  isplitl [H0 H1 H2 H3 H4 H5 H6 H7 Hh Hg]
  · iapply (wp_gru c none Set.univ (grid4.coords t) _ _ _ _ _ _ _ _ _ _ _ _ _ _ _ _ _ _ _ _
      (blk4 V c 0 t) (blk4 V c 1 t4_0) (blk4 V c 2 t4_0) (blk4 V c 3 t4_0) (blk4 V c 4 t4_0) (blk4 V c 5 t4_0) xh)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hh]; · iexact Hh
    iexact Hg
  rw [startOf4 V c t xh hx]
  iintro %_ ⟨H0, H1, H2, H3, H4, H5, H6, H7, Hh, Hg⟩
  isplitl [Hh Hg Hback]
  · isplitl [Hh]
    · iexists _; isplitr; swap; (· iexact Hh); ipureintro
      intro h
      have h0 : t = t4_0 := Fin.ext (Nat.succ_injective h)
      subst h0; rfl
    isplitl [Hg]; · iexact Hg
    iexact Hback
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Into the invariant from the scoped buffers the pipeline does not stage, and back. -/
theorem inv4_in : (Pipeline.scopedRest (Ix := HIx 4) (Name := ℕ) (U := UU) (Lvl := ℕ) (Val := Elt F) spec4 c : sProp 𝕄) ⊢ inv4 V c 0 := by
  unfold inv4
  rw [scopedRest4_eq]
  simp only [owns_whole_eq]
  iintro ⟨Ha, Hb, Hc, Hd, He, Hf, Hg, Hh, Hi, Hj, Hk, Hl, ⟨%f0, H0⟩, ⟨%f1, H1⟩⟩
  isplitl [H0]
  · iexists f0; isplitr; · ipureintro; exact fun h => absurd h (by decide)
    iexists f0; isplitr; · ipureintro; rfl
    iexact H0
  isplitl [H1]
  · iexists f1; iexists f1; isplitr; · ipureintro; rfl
    iexact H1
  iintro ⟨⟨%x0, %g0, -, H0⟩, ⟨%x1, %g1, -, H1⟩⟩
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [H0]; · iexists g0; iexact H0
  iexists g1; iexact H1

theorem inv4_out (n : ℕ) : (inv4 V c n : sProp 𝕄) ⊢ Pipeline.scopedRest (Ix := HIx 4) (Name := ℕ) (U := UU) (Lvl := ℕ) (Val := Elt F) spec4 c := by
  unfold inv4
  iintro ⟨⟨%x, -, H0⟩, H1, Hback⟩
  iapply Hback
  isplitl [H0]; · iexists x; iexact H0
  iexact H1

end Body

end Cert.Proof.KernelIdeal

end
-- ==== Proof.KernelIdeal.Regions.lean ====
/-
  The two TensorCore regions inside the main program: each entered from every unscoped buffer of the core at a
  valuation, and left with the region's arrays at what its points leave in them and every other buffer as it was.
-/
module

public import proofs.«01_k».proof.Proof.KernelIdeal.Region1

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation arrRef)

variable {F : FTy → Type} [FloatOps F]

local notation "𝕄" => MM F

/-- The proof data of the two regions, each at its entry valuation. -/
def pdats (V0 V1 : Val8 F) : (p : Fin 2) → (c : Dev nD) → Dat τ (Elt F) (HIx 4) ℕ UU ℕ (Pipeline.pin (pcfgs (F := F)) adm p) c
  | ⟨0, _⟩ => fun c => dat2 V0 c
  | ⟨1, _⟩ => fun c => dat4 V1 c
  | ⟨_ + 2, h⟩ => absurd h (Nat.not_lt.2 (Nat.le_add_left _ _))

/-- What the core owes before call `n`, its waits so far within the levels of the calls before. -/
def owesBelow (c : Dev nD) (n : ℕ) : sProp 𝕄 :=
  iprop(∃ W, ⌜(K (F := F)).WBelow (c : Thread nD τ) W (8 * n)⌝ ∗ owes (c : Thread nD τ) ((K (F := F)).Otc c n) W)

section Seg

variable (pd : (p : Fin 2) → (c : Dev nD) → Dat τ (Elt F) (HIx 4) ℕ UU ℕ (Pipeline.pin (pcfgs (F := F)) adm p) c)
  (p : Fin 2) (n : ℕ) (V : Val8 F)

/-- A region of the program at pipeline `p`, before call `n`: from every unscoped buffer at `V` to the same with the
    region's arrays as its proof data leave them. -/
def seg (kit : Pipeline.PLaunchFacts (nD := nD) (τ := τ) (pcfgs (F := F)) p)
    (hbody : ∀ c, Pipeline.BodyObligationLoose (pd p c) (defs₀ (F := F)) 𝒱₀ (default : HIx 4) Set.univ)
    (howed : ∀ c t, (pd p c).owed t = (K (F := F)).Otc c n)
    (hrec : ∀ c t, (pd p c).recorded t = {x | (K (F := F)).lev ((c : Thread nD τ), x.1) x.2 ≤ 8 * n})
    (hq : ∀ c w, (pd p c).share w = fullShare)
    (hin : ∀ c, Pipeline.scopedRest (Pipeline.pin (pcfgs (F := F)) adm p).spec c ⊢ (pd p c).Φ 0)
    (hout : ∀ c, (pd p c).Φ (Fin.last (Pipeline.pin (pcfgs (F := F)) adm p).N) ⊢ Pipeline.scopedRest (Pipeline.pin (pcfgs (F := F)) adm p).spec c)
    (hV : ∀ c w, (pd p c).arrAt w 0 = V c (Proc.devRef .tc (arrRef (Pipeline.pin (pcfgs (F := F)) adm p).spec w))) :
    Pipeline.RegionSeg (pcfgs (F := F)) adm pd (default : HIx 4) (defs₀ (F := F)) 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) adm) pd default p c 0 ((K (F := F)).Otc c n) (howed c)
    (fun _ _ => Finset.mem_univ _) (fun _ _ => le_rfl)
    (fun g i h => ⟨Finset.mem_univ _, Nat.lt_of_lt_of_le (Nat.succ_pos _) (SparseCore.Cfg.lev_of_Otc_pos h)⟩)
  pre c := iprop(StableHlo.held (c : Thread nD τ) (Pipeline.ucRefs τ sig) (V c) ∗ owesBelow c n)
  post c := iprop(StableHlo.held (c : Thread nD τ) (Pipeline.ucRefs τ sig) (Pipeline.afterRegion (pd p c) (V c)) ∗ owesBelow c n)
  X _ := iprop(emp)
  Y _ := iprop(emp)
  Z c := StableHlo.held (c : Thread nD τ) ((Pipeline.ucRefs τ sig) \ Pipeline.arrRefs ((pcfgs (F := F)) p).spec) (V c)
  hentry c := by
    rw [Pipeline.ownSems0_none, Pipeline.prefHeld_of_none _ rfl,
      StableHlo.held_sub_split (c : Thread nD τ) (Pipeline.arrRefs_sub_ucRefs ((pcfgs (F := F)) p).spec kit.win.arr_unscoped) (V c),
      ← Pipeline.arrays_held (pcfgs (F := F)) adm pd p kit c (hq c) ((pd p c).arrAt · 0) (V c) (hV c)]
    iintro ⟨⟨⟨Ha, Hu⟩, HO⟩, -, -⟩
    imodintro
    isplitl [Ha]; · iexact Ha
    isplitr; · iempintro
    isplitl [HO]
    · unfold owesBelow Pipeline.Dat.owesAt Pipeline.owesWithin Pipeline.Dat.bound
      rw [howed c 0, hrec c 0]
      icases HO with ⟨%W, %hW, HO⟩; iexists W; isplitr; · ipureintro; exact fun x hx => Or.inl (hW x hx)
      iexact HO
    isplitr; · iempintro
    iexact Hu
  hin c := by
    iintro ⟨-, -, Hr⟩
    iapply (hin c); iexact Hr
  hout c := (hout c).trans (by
    rw [Pipeline.ownSems0_none]
    iintro Hr
    isplitr; · iempintro
    isplitr; · iempintro
    iexact Hr)
  hexit c := by
    rw [Pipeline.arrays_held (pcfgs (F := F)) adm pd p kit c (hq c) ((pd p c).arrAt · (Pipeline.pin (pcfgs (F := F)) adm p).N)
        (Pipeline.afterRegion (pd p c) (V c)) (fun w => (Pipeline.afterRegion_arr (pd p c) (V c) kit.win.arr_inj w).symm),
      StableHlo.held_sub_split (c : Thread nD τ) (Pipeline.arrRefs_sub_ucRefs ((pcfgs (F := F)) p).spec kit.win.arr_unscoped) (Pipeline.afterRegion (pd p c) (V c)),
      StableHlo.held_congr (c : Thread nD τ) (S := (Pipeline.ucRefs τ sig) \ Pipeline.arrRefs ((pcfgs (F := F)) p).spec) (V := Pipeline.afterRegion (pd p c) (V c)) (V' := V c)
        (Pipeline.afterRegion_off (pd p c) (V c) (Pipeline.ucRefs τ sig))]
    iintro ⟨Ha, HO, -, Hu⟩
    imodintro
    isplitl [Ha Hu]
    · isplitl [Ha]; · iexact Ha
      iexact Hu
    unfold owesBelow Pipeline.Dat.owesAt Pipeline.owesWithin Pipeline.Dat.bound
    rw [howed c (Fin.last _), hrec c (Fin.last _)]
    icases HO with ⟨%W, %hW, HO⟩; iexists W; isplitr
    · ipureintro
      intro x hx
      rcases hW hx with h | ⟨w, s, h⟩
      · exact h
      · rw [h]; exact Nat.zero_le _
    iexact HO

end Seg

abbrev seg0 (V : Val8 F) : Pipeline.RegionSeg (pcfgs (F := F)) adm (pdats V V) (default : HIx 4) (defs₀ (F := F)) 𝒱₀ (K (F := F)).L (K (F := F)).lev 0 :=
  seg (pdats V V) 0 2 V launch2.toP (fun c => (body_obligation2 V c).loose) (fun _ _ => rfl) (fun _ _ => rfl)
    (fun c => (dat2 V c).share_full fun _ => rfl) (fun c => inv2_in V c) (fun c => inv2_out V c _) (fun _ _ => rfl)

abbrev seg1 (V : Val8 F) : Pipeline.RegionSeg (pcfgs (F := F)) adm (pdats V V) (default : HIx 4) (defs₀ (F := F)) 𝒱₀ (K (F := F)).L (K (F := F)).lev 1 :=
  seg (pdats V V) 1 3 V launch4.toP (fun c => (body_obligation4 V c).loose) (fun _ _ => rfl) (fun _ _ => rfl)
    (fun c => (dat4 V c).share_full fun _ => rfl) (fun c => inv4_in V c) (fun c => inv4_out V c _) (fun _ _ => rfl)

/-- A region run from the main program. -/
theorem wp_region (pd : (p : Fin 2) → (c : Dev nD) → Dat τ (Elt F) (HIx 4) ℕ UU ℕ (Pipeline.pin (pcfgs (F := F)) adm p) c) (p : Fin 2)
    (R : Pipeline.RegionSeg (pcfgs (F := F)) adm pd (default : HIx 4) (defs₀ (F := F)) 𝒱₀ (K (F := F)).L (K (F := F)).lev p) (d : Dev nD) (Q : PUnit → sProp 𝕄) :
    iprop((iprop(boundary (d : Thread nD τ) ∗ R.post d) -∗ Q ⟨⟩)
        ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d : Thread nD τ) none) Set.univ
          (Prog.lift (.customCall (SparseCore.inner (Pipeline.entry p)) ())) Q := by
  refine BIBase.Entails.trans ?_ ((K (F := F)).wp_liftProg (D (F := F)) 𝒱 (d : Thread nD τ) Set.univ none (Prog.lift (.customCall (Pipeline.entry p) ())) Q)
  refine BIBase.Entails.trans ?_ (Pipeline.RegionSeg.wp (pcfgs (F := F)) adm pd default cellOf_inj EP (defs₀ (F := F)) 𝒱₀ (K (F := F)).L (K (F := F)).lev R d none
    (fun _ h => nomatch h) .ret Q)
  iintro ⟨Hk, Hb, Hp, Hl, Hc, Ht⟩
  isplitl [Hk]
  · iintro H
    rw [wp_ret]
    imodintro
    iapply Hk; iexact H
  isplitl [Hb]; · iexact Hb
  isplitl [Hp]; · iexact Hp
  isplitl [Hl]; · iexact Hl
  isplitl [Hc]; · iexact Hc
  iexact Ht

end Cert.Proof.KernelIdeal

end
-- ==== Proof.KernelIdeal.Vals.lean ====
/-
  What every array of the main program holds at each of its points: the straight lines of host operations, the four
  SparseCore calls and the two halves of the recurrence, each as a step of one valuation.
-/
module

public import proofs.«01_k».proof.Proof.KernelIdeal.CallRule
public import proofs.«01_k».proof.Proof.KernelIdeal.Regions

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The host operations, in order -/

/-- The operations before the first gather. -/
abbrev opsA : List (HloOp τ sig (Elt F)) :=
  [StableHlo.unary main_arg1 main_v0 ((extractStridedSlice S16x2048 ![0, 0] · slices_S16x4096_S16x2048_0_0) : (⟨S16x4096, .i32⟩ : BufTy).Contents (Elt F) → (⟨S16x2048, .i32⟩ : BufTy).Contents (Elt F)),
    StableHlo.unary main_v0 main_v1 ((transpose S2048x16 [1, 0] · transposes_S16x2048_S2048x16_1_0) : (⟨S16x2048, .i32⟩ : BufTy).Contents (Elt F) → (⟨S2048x16, .i32⟩ : BufTy).Contents (Elt F)),
    StableHlo.reshape main_v1 main_v2 (rfl : (.i32 : EltTy) = .i32) shapeCasts_S2048x16_S32768,
    StableHlo.unary main_v2 main_v3 ((extractStridedSlice S16384 ![0] · slices_S32768_S16384_0) : (⟨S32768, .i32⟩ : BufTy).Contents (Elt F) → (⟨S16384, .i32⟩ : BufTy).Contents (Elt F)),
    StableHlo.reshape main_v3 main_v4 (rfl : (.i32 : EltTy) = .i32) shapeCasts_S16384_S32x4x128,
    StableHlo.unary main_v2 main_v5 ((extractStridedSlice S16384 ![16384] · slices_S32768_S16384_16384) : (⟨S32768, .i32⟩ : BufTy).Contents (Elt F) → (⟨S16384, .i32⟩ : BufTy).Contents (Elt F)),
    StableHlo.reshape main_v5 main_v6 (rfl : (.i32 : EltTy) = .i32) shapeCasts_S16384_S32x4x128,
    StableHlo.unary main_arg7 main_v7 ((extractStridedSlice S256 ![0] · slices_S384_S256_0) : (⟨S384, .f32⟩ : BufTy).Contents (Elt F) → (⟨S256, .f32⟩ : BufTy).Contents (Elt F)),
    StableHlo.nullary main_cst (constant S_ .f32 0x00000000#32),
    StableHlo.unary main_cst main_v8 (broadcastInDim S128 ![] bcast_S_S128 : (⟨S_, .f32⟩ : BufTy).Contents (Elt F) → (⟨S128, .f32⟩ : BufTy).Contents (Elt F)),
    StableHlo.binary main_v7 main_v8 main_v9 ((fun a b => concatenate S384 0 [⟨S256, a⟩, ⟨S128, b⟩] concatenates_S256_S128_S384_d0) : (⟨S256, .f32⟩ : BufTy).Contents (Elt F) → (⟨S128, .f32⟩ : BufTy).Contents (Elt F) → (⟨S384, .f32⟩ : BufTy).Contents (Elt F)),
    StableHlo.binary main_arg6 main_v9 main_v10 (addf : (⟨S384, .f32⟩ : BufTy).Contents (Elt F) → (⟨S384, .f32⟩ : BufTy).Contents (Elt F) → (⟨S384, .f32⟩ : BufTy).Contents (Elt F)),
    StableHlo.unary main_v10 main_v11 (broadcastInDim S8x384 ![1] bcast_S384_S8x384_1 : (⟨S384, .f32⟩ : BufTy).Contents (Elt F) → (⟨S8x384, .f32⟩ : BufTy).Contents (Elt F)),
    StableHlo.unary main_arg7 main_v12 ((extractStridedSlice S128 ![256] · slices_S384_S128_256) : (⟨S384, .f32⟩ : BufTy).Contents (Elt F) → (⟨S128, .f32⟩ : BufTy).Contents (Elt F)),
    StableHlo.unary main_v12 main_v13 (broadcastInDim S8x128 ![1] bcast_S128_S8x128_1 : (⟨S128, .f32⟩ : BufTy).Contents (Elt F) → (⟨S8x128, .f32⟩ : BufTy).Contents (Elt F)),
    StableHlo.unary main_arg4 main_v14 ((transpose S128x384 [1, 0] · transposes_S384x128_S128x384_1_0) : (⟨S384x128, .f32⟩ : BufTy).Contents (Elt F) → (⟨S128x384, .f32⟩ : BufTy).Contents (Elt F)),
    StableHlo.unary main_v14 main_v15 ((truncf .bf16 · bitsLt_bf16_f32) : (⟨S128x384, .f32⟩ : BufTy).Contents (Elt F) → (⟨S128x384, .bf16⟩ : BufTy).Contents (Elt F)),
    StableHlo.unary main_arg5 main_v16 ((transpose S128x384 [1, 0] · transposes_S384x128_S128x384_1_0) : (⟨S384x128, .f32⟩ : BufTy).Contents (Elt F) → (⟨S128x384, .f32⟩ : BufTy).Contents (Elt F)),
    StableHlo.unary main_v16 main_v17 ((truncf .bf16 · bitsLt_bf16_f32) : (⟨S128x384, .f32⟩ : BufTy).Contents (Elt F) → (⟨S128x384, .bf16⟩ : BufTy).Contents (Elt F))]

/-- Between the two gathers. -/
abbrev opsB : List (HloOp τ sig (Elt F)) :=
  [StableHlo.reshape main_v18 main_v19 (rfl : (.f32 : EltTy) = .f32) shapeCasts_S16384x128_S1024x16x128]

/-- Before the first half of the recurrence. -/
abbrev opsC : List (HloOp τ sig (Elt F)) :=
  [StableHlo.reshape main_v20 main_v21 (rfl : (.f32 : EltTy) = .f32) shapeCasts_S16384x128_S1024x16x128,
    StableHlo.nullary main_cst_0 (constant S_ .f32 0x00000000#32),
    StableHlo.unary main_cst_0 main_v22 (broadcastInDim S16x128 ![] bcast_S_S16x128 : (⟨S_, .f32⟩ : BufTy).Contents (Elt F) → (⟨S16x128, .f32⟩ : BufTy).Contents (Elt F)),
    StableHlo.nullary main_cst_1 (constant S_ .f32 0x00000000#32),
    StableHlo.unary main_cst_1 main_v23 (broadcastInDim S32768x128 ![] bcast_S_S32768x128 : (⟨S_, .f32⟩ : BufTy).Contents (Elt F) → (⟨S32768x128, .f32⟩ : BufTy).Contents (Elt F))]

/-- Between the first half and its scatter. -/
abbrev opsD : List (HloOp τ sig (Elt F)) :=
  [StableHlo.reshape main_v24_0 main_v25 (rfl : (.f32 : EltTy) = .f32) shapeCasts_S1024x16x128_S16384x128]

/-- Between the second half and its scatter. -/
abbrev opsE : List (HloOp τ sig (Elt F)) :=
  [StableHlo.reshape main_v27_0 main_v28 (rfl : (.f32 : EltTy) = .f32) shapeCasts_S1024x16x128_S16384x128]

/-! ## The valuations -/

section Vals

variable (m : (ℓ : Loc nD τ sig) → Buf (Elt F) ℓ)

/-- Before the first gather, -/
def W0 : Val8 F := fun d => StableHlo.after opsA (StableHlo.launchContents m d)
/-- after it; -/
def W0' : Val8 F := fun d => Function.update (W0 m d) (Proc.devRef .tc main_v18) (out0 (W0 m d))
/-- before the second gather, -/
def W1 : Val8 F := fun d => StableHlo.after opsB (W0' m d)
/-- after it; -/
def W1' : Val8 F := fun d => Function.update (W1 m d) (Proc.devRef .tc main_v20) (out1 (W1 m d))
/-- before the first half of the recurrence, -/
def X0 : Val8 F := fun d => StableHlo.after opsC (W1' m d)
/-- after it; -/
def X0' : Val8 F := fun d => Pipeline.afterRegion (dat2 (X0 m) d) (X0 m d)
/-- before the first scatter, -/
def W2 : Val8 F := fun d => StableHlo.after opsD (X0' m d)
/-- after it, which is before the second half of the recurrence, -/
def X1 : Val8 F := fun d => Function.update (W2 m d) (Proc.devRef .tc main_v23) (out2 (W2 m d))
/-- after that; -/
def X1' : Val8 F := fun d => Pipeline.afterRegion (dat4 (X1 m) d) (X1 m d)
/-- before the second scatter, -/
def W3 : Val8 F := fun d => StableHlo.after opsE (X1' m d)
/-- and at the end. -/
def Wend : Val8 F := fun d => Function.update (W3 m d) (Proc.devRef .tc main_v23) (out3 (W3 m d))

/-- The valuation each call starts at. -/
def Vs : Fin 4 → Val8 F
  | 0 => W0 m
  | 1 => W1 m
  | 2 => W2 m
  | 3 => W3 m

end Vals

/-! ## The main program is those steps -/

theorem main_eq (d : Dev nD) : main (F := F) d = StableHlo.seq opsA >>= fun _ => (K (F := F)).run d 0 >>= fun _ =>
    StableHlo.seq opsB >>= fun _ => (K (F := F)).run d 1 >>= fun _ => StableHlo.seq opsC >>= fun _ =>
    Prog.lift (.customCall (SparseCore.inner (Pipeline.entry 0)) ()) >>= fun _ => StableHlo.seq opsD >>= fun _ => (K (F := F)).run d 2 >>= fun _ =>
    Prog.lift (.customCall (SparseCore.inner (Pipeline.entry 1)) ()) >>= fun _ => StableHlo.seq opsE >>= fun _ => (K (F := F)).run d 3 := by
  have e : (K (F := F)).run d 3 = ((K (F := F)).run d 3 >>= fun _ => (pure ⟨⟩ : Prog (TpuEff nD τ sig (Elt F) (SparseCore.Sig (ΛP (F := F)) 4) .tc) PUnit)) := (bind_pure _).symm
  rw [e]
  simp only [StableHlo.seq_bind_seqK]
  rfl

end Cert.Proof.KernelIdeal

end
-- ==== Proof.KernelIdeal.Ghost.lean ====
/-
  The kernel's run: the main program carried through its steps by the rules of its calls and regions, the ghost state it
  starts from, and what the launch theorem concludes from them.
-/
module

public import proofs.«01_k».proof.Proof.KernelIdeal.Vals

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-! ## The ghost state of the launch -/

/-- A device's share of the ghost state: the two pipelines' cells and tokens. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

def u₀ : UU := (initOf (K (F := F)).hsCells (K (F := F)).hsToks,
  initOf (Pipeline.cells (Pipeline.pin (pcfgs (F := F)) adm) cellOf_inj) (Pipeline.launchToks (Pipeline.pin (pcfgs (F := F)) adm) cellOf_inj), 1)

theorem hu₀ (Vs : Fin 4 → Val8 F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P Vs).x q thr) := by
  unfold u₀
  iintro Hu
  ihave H := (ownU_pair (initOf (K (F := F)).hsCells (K (F := F)).hsToks) _) $$ Hu
  icases H with ⟨HH, Hr⟩
  ihave H := (own_pair_emb embR _ _) $$ Hr
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 4 => (P (F := F) Vs).x q thr) = bigSep Finset.univ fun _ => iprop(emp) from
    bigSep_congr fun _ _ => bigSep_emp_const _]
  iapply (Entails.of_eq (bigSep_emp_const (M := 𝕄) (Finset.univ : Finset (Thread nD τ))).symm)
  iempintro

end Cert.Proof.KernelIdeal

end
-- ==== Proof.KernelIdeal.Main.lean ====
/-
  The kernel's run: the main program carried through its steps by the rules of its calls and regions, the ghost state it
  starts from, and what the launch theorem concludes from them.
-/
module

public import proofs.«01_k».proof.Proof.KernelIdeal.Ghost

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-! ## The main program -/

abbrev FIN (d : Dev nD) : sProp 𝕄 := StableHlo.held (T d) (Pipeline.ucRefs τ sig) (Wend m d)

/-- A straight line of host operations, what follows it stated of the valuation it leaves. -/
theorem wp_ops (d : Dev nD) (ops : List (HloOp τ sig (Elt F))) (hS : ops.Forall fun op => op.bufs ⊆ StableHlo.tcRefs τ sig) (hf : ops.Forall fun op => op.fresh = ∅)
    (V : Valuation τ sig (Elt F)) (Q : PUnit → sProp 𝕄) :
    iprop(boundary (T d) ∗ StableHlo.held (T d) (Pipeline.ucRefs τ sig) V
        ∗ ((boundary (T d) ∗ StableHlo.held (T d) (Pipeline.ucRefs τ sig) (StableHlo.after ops V)) -∗ Q ⟨⟩))
      ⊢ wp frame (wpE ((K (F := F)).defs (D (F := F))) 𝒱 (T d) none) Set.univ (StableHlo.seq ops) Q := by
  have h := StableHlo.wp_seq (defs := (K (F := F)).defs (D (F := F))) 𝒱 none Set.univ d (Pipeline.ucRefs τ sig) (fun _ => pure ⟨⟩) (K := Q) ops
    (fun op h => Pipeline.sub_ucRefs op ((List.forall_iff_forall_mem.mp hS) op h)) (fun op h => (List.forall_iff_forall_mem.mp hf) op h) V
  rw [bind_pure] at h
  iintro ⟨Hb, Hh, Hk⟩
  iapply h $$ [Hb Hh]
  · isplitl [Hb]; · iexact Hb
    iexact Hh
  iintro H
  rw [wp_pure]
  imodintro
  iapply Hk; iexact H

theorem unscoped_eq (d : Dev nD) : (unscopedBufs d (fun b => m ((SparseCore.T d).loc b)) : sProp 𝕄)
    = StableHlo.held (T d) (Pipeline.ucRefs τ sig) (StableHlo.launchContents m d) :=
  Pipeline.unscopedBufs_held d (StableHlo.launchContents m d)

/-- What the core owes, out of its state between the calls and back. -/
theorem owes_out (d : Dev nD) (n : ℕ) : (K (F := F)).tcSt EH d n ⊢ (iprop(owesBelow (F := F) d n ∗ (owesBelow (F := F) d n -∗ (K (F := F)).tcSt EH d n)) : sProp 𝕄) := by
  unfold SparseCore.Cfg.tcSt owesBelow
  iintro ⟨Ho, Hr⟩
  isplitl [Ho]; · iexact Ho
  iintro Ho
  isplitl [Ho]; · iexact Ho
  iexact Hr

/-- The first half of the recurrence, from every array to every array. -/
theorem wp_half0 (V : Val8 F) (κ : GSem nD τ sig → ℕ) (Vs : Fin 4 → Val8 F) (d : Dev nD) (Q : PUnit → sProp 𝕄) :
    iprop((K (F := F)).ctx EH (P Vs) κ (K (F := F)).lev ∗ (K (F := F)).tcSt EH d 2 ∗ boundary (T d) ∗ StableHlo.held (T d) (Pipeline.ucRefs τ sig) (V d)
        ∗ Pipeline.cellsGhost (Pipeline.pin (pcfgs (F := F)) adm) EP 0 d ∗ Pipeline.toksInit (Pipeline.pin (pcfgs (F := F)) adm) EP 0 d
        ∗ (((K (F := F)).tcSt EH d 2 ∗ boundary (T d) ∗ StableHlo.held (T d) (Pipeline.ucRefs τ sig) (Pipeline.afterRegion (dat2 V d) (V d))) -∗ Q ⟨⟩))
      ⊢ wp frame (wpE ((K (F := F)).defs (D (F := F))) 𝒱 (T d) none) Set.univ
          (Prog.lift (.customCall (SparseCore.inner (Pipeline.entry 0)) ())) Q := by
  iintro ⟨#Hctx, Hst, Hb, Hh, Hc, Ht, Hk⟩
  ihave H := (owes_out d 2) $$ Hst
  icases H with ⟨Ho, Hst⟩
  ihave Hl := ((K (F := F)).ctx_levAts (EH := EH) (P := P Vs) κ) $$ Hctx
  have hw := wp_region (pdats V V) 0 (seg0 V) d Q
  rw [show (seg0 V).pre d = iprop(StableHlo.held (T d) (Pipeline.ucRefs τ sig) (V d) ∗ owesBelow (F := F) d 2) from rfl,
    show (seg0 V).post d = iprop(StableHlo.held (T d) (Pipeline.ucRefs τ sig) (Pipeline.afterRegion (dat2 V d) (V d)) ∗ owesBelow (F := F) d 2) from rfl] at hw
  iapply hw
  isplitl [Hst Hk]
  · iintro ⟨Hb, Hh, Ho⟩
    iapply Hk
    isplitl [Hst Ho]; · iapply Hst; iexact Ho
    isplitl [Hb]; · iexact Hb
    iexact Hh
  isplitl [Hb]; · iexact Hb
  isplitl [Hh Ho]
  · isplitl [Hh]; · iexact Hh
    iexact Ho
  isplitl [Hl]; · iexact Hl
  isplitl [Hc]; · iexact Hc
  iexact Ht

/-- The second half of the recurrence. -/
theorem wp_half1 (V : Val8 F) (κ : GSem nD τ sig → ℕ) (Vs : Fin 4 → Val8 F) (d : Dev nD) (Q : PUnit → sProp 𝕄) :
    iprop((K (F := F)).ctx EH (P Vs) κ (K (F := F)).lev ∗ (K (F := F)).tcSt EH d 3 ∗ boundary (T d) ∗ StableHlo.held (T d) (Pipeline.ucRefs τ sig) (V d)
        ∗ Pipeline.cellsGhost (Pipeline.pin (pcfgs (F := F)) adm) EP 1 d ∗ Pipeline.toksInit (Pipeline.pin (pcfgs (F := F)) adm) EP 1 d
        ∗ (((K (F := F)).tcSt EH d 3 ∗ boundary (T d) ∗ StableHlo.held (T d) (Pipeline.ucRefs τ sig) (Pipeline.afterRegion (dat4 V d) (V d))) -∗ Q ⟨⟩))
      ⊢ wp frame (wpE ((K (F := F)).defs (D (F := F))) 𝒱 (T d) none) Set.univ
          (Prog.lift (.customCall (SparseCore.inner (Pipeline.entry 1)) ())) Q := by
  iintro ⟨#Hctx, Hst, Hb, Hh, Hc, Ht, Hk⟩
  ihave H := (owes_out d 3) $$ Hst
  icases H with ⟨Ho, Hst⟩
  ihave Hl := ((K (F := F)).ctx_levAts (EH := EH) (P := P Vs) κ) $$ Hctx
  have hw := wp_region (pdats V V) 1 (seg1 V) d Q
  rw [show (seg1 V).pre d = iprop(StableHlo.held (T d) (Pipeline.ucRefs τ sig) (V d) ∗ owesBelow (F := F) d 3) from rfl,
    show (seg1 V).post d = iprop(StableHlo.held (T d) (Pipeline.ucRefs τ sig) (Pipeline.afterRegion (dat4 V d) (V d)) ∗ owesBelow (F := F) d 3) from rfl] at hw
  iapply hw
  isplitl [Hst Hk]
  · iintro ⟨Hb, Hh, Ho⟩
    iapply Hk
    isplitl [Hst Ho]; · iapply Hst; iexact Ho
    isplitl [Hb]; · iexact Hb
    iexact Hh
  isplitl [Hb]; · iexact Hb
  isplitl [Hh Ho]
  · isplitl [Hh]; · iexact Hh
    iexact Ho
  isplitl [Hl]; · iexact Hl
  isplitl [Hc]; · iexact Hc
  iexact Ht

theorem opsA_sub : (opsA : List (HloOp τ sig (Elt F))).Forall fun op => op.bufs ⊆ StableHlo.tcRefs τ sig := by simp [List.Forall]
theorem opsA_fresh : (opsA : List (HloOp τ sig (Elt F))).Forall fun op => op.fresh = ∅ := ⟨rfl, rfl, rfl, rfl, rfl, rfl, rfl, rfl, rfl, rfl, rfl, rfl, rfl, rfl, rfl, rfl, rfl, rfl, rfl⟩
theorem opsB_sub : (opsB : List (HloOp τ sig (Elt F))).Forall fun op => op.bufs ⊆ StableHlo.tcRefs τ sig := by simp [List.Forall]
theorem opsC_sub : (opsC : List (HloOp τ sig (Elt F))).Forall fun op => op.bufs ⊆ StableHlo.tcRefs τ sig := by simp [List.Forall]
theorem opsD_sub : (opsD : List (HloOp τ sig (Elt F))).Forall fun op => op.bufs ⊆ StableHlo.tcRefs τ sig := by simp [List.Forall]
theorem opsE_sub : (opsE : List (HloOp τ sig (Elt F))).Forall fun op => op.bufs ⊆ StableHlo.tcRefs τ sig := by simp [List.Forall]

/-- The main program, from the launch's arrays to the last valuation's. -/
theorem hmain (h : ∀ q d, CallOK (Vs m q d) q) (κ : GSem nD τ sig → ℕ) (d : Dev nD) :
    iprop((K (F := F)).ctx EH (P (Vs m)) κ (K (F := F)).lev ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 4 ∗ FIN m d ∗ (K (F := F)).tcEnd d) := by
  unfold SparseCore.Cfg.tcRes SparseCore.Cfg.tcEnd G
  rw [bigSep_univ_two, bigSep_univ_two, unscoped_eq, main_eq]
  simp only [wp_bind]
  iintro ⟨#Hctx, Hst, ⟨Hb, Hh, Hts, -⟩, ⟨Hc0, Hc1⟩, ⟨Ht0, Ht1⟩⟩
  iapply (wp_ops d opsA opsA_sub opsA_fresh _ _)
  isplitl [Hb]; · iexact Hb
  isplitl [Hh]; · iexact Hh
  iintro ⟨Hb, Hh⟩
  iapply (wp_call0 (Vs m) κ d _)
  isplitr; · iexact Hctx
  isplitl [Hst]; · iexact Hst
  isplitl [Hh]; · iexact Hh
  iintro ⟨Hst, Hh⟩
  iapply (wp_ops d opsB opsB_sub rfl _ _)
  isplitl [Hb]; · iexact Hb
  isplitl [Hh]; · iexact Hh
  iintro ⟨Hb, Hh⟩
  iapply (wp_call1 (Vs m) κ d _)
  isplitr; · iexact Hctx
  isplitl [Hst]; · iexact Hst
  isplitl [Hh]; · iexact Hh
  iintro ⟨Hst, Hh⟩
  iapply (wp_ops d opsC opsC_sub ⟨rfl, rfl, rfl, rfl, rfl⟩ _ _)
  isplitl [Hb]; · iexact Hb
  isplitl [Hh]; · iexact Hh
  iintro ⟨Hb, Hh⟩
  iapply (wp_half0 (X0 m) κ (Vs m) d _)
  isplitr; · iexact Hctx
  isplitl [Hst]; · iexact Hst
  isplitl [Hb]; · iexact Hb
  isplitl [Hh]; · iexact Hh
  isplitl [Hc0]; · iexact Hc0
  isplitl [Ht0]; · iexact Ht0
  iintro ⟨Hst, Hb, Hh⟩
  iapply (wp_ops d opsD opsD_sub rfl _ _)
  isplitl [Hb]; · iexact Hb
  isplitl [Hh]; · iexact Hh
  iintro ⟨Hb, Hh⟩
  iapply (wp_call2 (Vs m) κ d (h 2 d) _)
  isplitr; · iexact Hctx
  isplitl [Hst]; · iexact Hst
  isplitl [Hh]; · iexact Hh
  iintro ⟨Hst, Hh⟩
  iapply (wp_half1 (X1 m) κ (Vs m) d _)
  isplitr; · iexact Hctx
  isplitl [Hst]; · iexact Hst
  isplitl [Hb]; · iexact Hb
  isplitl [Hh]; · iexact Hh
  isplitl [Hc1]; · iexact Hc1
  isplitl [Ht1]; · iexact Ht1
  iintro ⟨Hst, Hb, Hh⟩
  iapply (wp_ops d opsE opsE_sub rfl _ _)
  isplitl [Hb]; · iexact Hb
  isplitl [Hh]; · iexact Hh
  iintro ⟨Hb, Hh⟩
  iapply (wp_call3 (Vs m) κ d (h 3 d) _)
  isplitr; · iexact Hctx
  isplitl [Hst]; · iexact Hst
  isplitl [Hh]; · iexact Hh
  iintro ⟨Hst, Hh⟩
  isplitl [Hst]; · iexact Hst
  isplitl [Hh]; · iexact Hh
  isplitl [Hb]; · iexact Hb
  iexact Hts

end Cert.Proof.KernelIdeal

end
-- ==== Proof.KernelIdeal.Run.lean ====
/-
  The kernel's run, in whatever number system: from a launch whose row numbers are in range and distinct, every array of
  the TensorCore ends at the last valuation, and every semaphore at zero.
-/
module

public import proofs.«01_k».proof.Proof.KernelIdeal.Main

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-- Every array of device `d`'s TensorCore at the last valuation. -/
def fq (d : Dev nD) (s' : Phys nD τ sig (Elt F)) : Prop := ∀ b : DevRef τ sig, b ∈ Pipeline.ucRefs τ sig → s'.mem.mem (d, b) = Wend m d b

theorem hfin (d : Dev nD) (s' : Phys nD τ sig (Elt F)) : iprop(FIN m d ∗ SI s') ⊢ (⌜fq m d s'⌝ : sProp 𝕄) := by
  unfold fq
  refine BIBase.Entails.trans (BIClass.forall_intro fun b => ?_) (Idealize.SL.BI.Laws.pure_forall (PROP := sProp 𝕄)).mpr
  by_cases hb : b ∈ Pipeline.ucRefs τ sig
  · have h : (FIN m d : sProp 𝕄) ⊢ ((d, b) : Loc nD τ sig) ↦{fullShare} Wend m d b := bigSep_elim hb
    iintro ⟨Hh, HSI⟩
    ihave Hp := h $$ Hh
    ihave H := (SI_pointsTo_agree (st := s') (ℓ := ((d, b) : Loc nD τ sig)) (I := Finset.univ) (q := fullShare) (f := Wend m d b)) $$ [HSI Hp]
    · isplitl [HSI] <;> iassumption
    icases H with %h1
    ipureintro; exact fun _ => funext fun i => h1 i (Finset.mem_univ i)
  · iintro -
    ipureintro; exact fun h => absurd h hb

/-- What a run ends with. -/
def QC : PUnit × MemSt nD τ sig (Elt F) → Prop := fun r =>
  (∀ (d : Dev nD) (b : DevRef τ sig), b ∈ Pipeline.ucRefs τ sig → r.2.mem (d, b) = Wend m d b) ∧ r.2.sem = fun _ => 0

theorem run_main [∀ e, Nonempty (Elt F e)] (h : ∀ q d, CallOK (Vs m q d) q) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Vs m)) (A := ∅) facts v₀
    (fun q hq => match q with | 0 => nomatch hq | 1 => nomatch hq | 2 => nomatch hq | 3 => nomatch hq)
    (fun q _ => match q with | 0 => tileObl0 (Vs m) (h 0) | 1 => tileObl1 (Vs m) (h 1) | 2 => tileObl2 (Vs m) (h 2) | 3 => tileObl3 (Vs m) (h 3))
    (fun q _ => vecSplit (Vs m) q)
    m ρ main (fun d => G (F := F) d) (FIN m) (u₀ (F := F)) (sep_elim_left.trans (hu₀ (Vs m))) (hmain m ρ h) (fq m) (hfin m) (QC m) (fun _ h hz => ⟨h, hz⟩)

end Cert.Proof.KernelIdeal

end
-- ==== Proof.KernelIdeal.Reads.lean ====
/-
  Reading the valuations: which arrays each step leaves alone, and the row numbers the four calls are given, as words of
  the permutations argument.
-/
module

public import proofs.«01_k».proof.Proof.KernelIdeal.Vals
public import Idealize.ShloMosaic.Lib.Pipeline.RegionArraysS
public import Idealize.ShloMosaic.Lib.StableHlo.RunRead
public import Idealize.ShloMosaic.Lib.ValueLayout
public import Idealize.ShloMosaic.Lib.Pointwise

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## What each step leaves alone -/

/-- What the first operations write, -/
def outsA : List (Ref sig .tc) := [main_v0, main_v1, main_v2, main_v3, main_v4, main_v5, main_v6, main_v7, main_cst, main_v8, main_v9, main_v10,
  main_v11, main_v12, main_v13, main_v14, main_v15, main_v16, main_v17]
/-- and those before the recurrence. -/
def outsC : List (Ref sig .tc) := [main_v21, main_cst_0, main_v22, main_cst_1, main_v23]

theorem keepA (V : Valuation τ sig (Elt F)) (r : Ref sig .tc) (h : r ∉ outsA) : rd (StableHlo.after opsA V) r = rd V r :=
  StableHlo.after_of_writes_sub opsA V (StableHlo.forall_writes_sub_of_map (W := outsA) rfl) h
theorem keepB (V : Valuation τ sig (Elt F)) (r : Ref sig .tc) (h : r ≠ main_v19) : rd (StableHlo.after opsB V) r = rd V r :=
  StableHlo.after_of_writes_sub opsB V (StableHlo.forall_writes_sub_of_map (W := [main_v19]) rfl) (by simpa using h)
theorem keepC (V : Valuation τ sig (Elt F)) (r : Ref sig .tc) (h : r ∉ outsC) : rd (StableHlo.after opsC V) r = rd V r :=
  StableHlo.after_of_writes_sub opsC V (StableHlo.forall_writes_sub_of_map (W := outsC) rfl) h
theorem keepD (V : Valuation τ sig (Elt F)) (r : Ref sig .tc) (h : r ≠ main_v25) : rd (StableHlo.after opsD V) r = rd V r :=
  StableHlo.after_of_writes_sub opsD V (StableHlo.forall_writes_sub_of_map (W := [main_v25]) rfl) (by simpa using h)
theorem keepE (V : Valuation τ sig (Elt F)) (r : Ref sig .tc) (h : r ≠ main_v28) : rd (StableHlo.after opsE V) r = rd V r :=
  StableHlo.after_of_writes_sub opsE V (StableHlo.forall_writes_sub_of_map (W := [main_v28]) rfl) (by simpa using h)
theorem keepU (V : Valuation τ sig (Elt F)) (o r : Ref sig .tc) (G : o.ty.Contents (Elt F)) (h : r ≠ o) :
    rd (Function.update V (Proc.devRef .tc o) G) r = rd V r := Function.update_of_ne (fun e => h (Proc.devRef_injective _ e)) _ _

theorem outs2 (r : Ref sig .tc) (h0 : r ≠ main_v24_0) (h1 : r ≠ main_v24_1) : ∀ w : Fin 8, Pipeline.arrRef spec2 w = r → (cfg2.win w).isOut = false := by
  intro w e
  subst e
  revert w
  decide
theorem outs4 (r : Ref sig .tc) (h0 : r ≠ main_v27_0) (h1 : r ≠ main_v27_1) : ∀ w : Fin 8, Pipeline.arrRef spec4 w = r → (cfg4.win w).isOut = false := by
  intro w e
  subst e
  revert w
  decide
theorem keep2 (V : Val8 F) (d : Dev nD) (r : Ref sig .tc) (h0 : r ≠ main_v24_0) (h1 : r ≠ main_v24_1) :
    rd (Pipeline.afterRegion (dat2 V d) (V d)) r = rd (V d) r :=
  Pipeline.afterRegion_keeps (dat2 V d) (V d) winFacts2.arr_inj (fun _ => rfl) r (outs2 r h0 h1)
theorem keep4 (V : Val8 F) (d : Dev nD) (r : Ref sig .tc) (h0 : r ≠ main_v27_0) (h1 : r ≠ main_v27_1) :
    rd (Pipeline.afterRegion (dat4 V d) (V d)) r = rd (V d) r :=
  Pipeline.afterRegion_keeps (dat4 V d) (V d) winFacts4.arr_inj (fun _ => rfl) r (outs4 r h0 h1)

/-! ## From point to point -/

variable (m : (ℓ : Loc nD τ sig) → Buf (Elt F) ℓ)

/-- What the steps from the first gather to the first half of the recurrence write. -/
def outsX : List (Ref sig .tc) := main_v18 :: main_v19 :: main_v20 :: outsC
/-- What those from there to the second half write. -/
def outsY : List (Ref sig .tc) := [main_v24_0, main_v24_1, main_v25, main_v23]

theorem X0_keep (d : Dev nD) (r : Ref sig .tc) (h : r ∉ outsX) : rd (X0 m d) r = rd (W0 m d) r := by
  simp only [outsX, List.mem_cons, not_or] at h
  unfold X0 W1' W1 W0'
  rw [keepC _ r h.2.2.2, keepU _ _ r _ h.2.2.1, keepB _ r h.2.1, keepU _ _ r _ h.1]
theorem W2_keep (d : Dev nD) (r : Ref sig .tc) (h : r ≠ main_v24_0 ∧ r ≠ main_v24_1 ∧ r ≠ main_v25) : rd (W2 m d) r = rd (X0 m d) r := by
  unfold W2 X0'
  rw [keepD _ r h.2.2, keep2 _ _ r h.1 h.2.1]
theorem X1_keep (d : Dev nD) (r : Ref sig .tc) (h : r ∉ outsY) : rd (X1 m d) r = rd (X0 m d) r := by
  simp only [outsY, List.mem_cons, not_or] at h
  unfold X1
  rw [keepU _ _ r _ h.2.2.2.1, W2_keep m d r ⟨h.1, h.2.1, h.2.2.1⟩]
theorem W3_keep (d : Dev nD) (r : Ref sig .tc) (h : r ≠ main_v27_0 ∧ r ≠ main_v27_1 ∧ r ≠ main_v28) : rd (W3 m d) r = rd (X1 m d) r := by
  unfold W3 X1'
  rw [keepE _ r h.2.2, keep4 _ _ r h.1 h.2.1]
theorem Wend_keep (d : Dev nD) (r : Ref sig .tc) (h0 : r ∉ outsA) (h1 : r ∉ outsX) (h2 : r ∉ outsY) (h3 : r ≠ main_v27_0 ∧ r ≠ main_v27_1 ∧ r ≠ main_v28) (h4 : r ≠ main_v23) :
    rd (Wend m d) r = m (d, Proc.devRef .tc r) := by
  unfold Wend
  rw [keepU _ _ r _ h4, W3_keep m d r h3, X1_keep m d r h2, X0_keep m d r h1]
  exact keepA _ r h0

/-! ## The row numbers -/

/-- Node `n` in the order the kernel visits them: example `n % 16` at step `n / 16`. -/
def permOf (d : Dev nD) (n : Fin 32768) : BitVec 32 :=
  m (d, Proc.devRef .tc main_arg1) (ix2 (⟨n.val % 16, Nat.mod_lt _ (by decide)⟩ : Fin 16) (⟨n.val / 16, by omega⟩ : Fin 4096))

theorem v4_eq (d : Dev nD) : rd (W0 m d) main_v4 = fun y => shapeCast S32x4x128 (extractStridedSlice S16384 ![0] (shapeCast S32768 (transpose S2048x16 [1, 0]
    (extractStridedSlice S16x2048 ![0, 0] (m (d, Proc.devRef .tc main_arg1)) slices_S16x4096_S16x2048_0_0) transposes_S16x2048_S2048x16_1_0) shapeCasts_S2048x16_S32768)
      slices_S32768_S16384_0) shapeCasts_S16384_S32x4x128 y := by
  unfold W0
  after_reads_simp
  rfl

theorem v6_eq (d : Dev nD) : rd (W0 m d) main_v6 = fun y => shapeCast S32x4x128 (extractStridedSlice S16384 ![16384] (shapeCast S32768 (transpose S2048x16 [1, 0]
    (extractStridedSlice S16x2048 ![0, 0] (m (d, Proc.devRef .tc main_arg1)) slices_S16x4096_S16x2048_0_0) transposes_S16x2048_S2048x16_1_0) shapeCasts_S2048x16_S32768)
      slices_S32768_S16384_16384) shapeCasts_S16384_S32x4x128 y := by
  unfold W0
  after_reads_simp
  rfl

/-- The first list names the first 16384 nodes, -/
theorem word4 (d : Dev nD) (n : Fin 16384) : wordAt (rd (W0 m d) main_v4) n = (permOf m d ⟨n.val, by omega⟩).toNat := by
  unfold wordAt permOf
  rw [v4_eq]
  pointwise
  refine congrArg (fun i => (m (d, Proc.devRef .tc main_arg1) i).toNat) ?_
  funext a
  match a with
  | 0 => exact Fin.ext (show (n.val / 512 * 512 + n.val % 512 / 128 * 128 + n.val % 128) % 16 = n.val % 16 by omega)
  | 1 => exact Fin.ext (show (n.val / 512 * 512 + n.val % 512 / 128 * 128 + n.val % 128) / 16 = n.val / 16 by omega)

/-- and the second the others. -/
theorem word6 (d : Dev nD) (n : Fin 16384) : wordAt (rd (W0 m d) main_v6) n = (permOf m d ⟨16384 + n.val, by omega⟩).toNat := by
  unfold wordAt permOf
  rw [v6_eq]
  pointwise
  refine congrArg (fun i => (m (d, Proc.devRef .tc main_arg1) i).toNat) ?_
  funext a
  match a with
  | 0 => exact Fin.ext (by first | (show (16384 + (n.val / 512 * 512 + n.val % 512 / 128 * 128 + n.val % 128)) % 16 = (16384 + n.val) % 16; omega) | (show (n.val / 512 * 512 + n.val % 512 / 128 * 128 + n.val % 128 + 16384) % 16 = (16384 + n.val) % 16; omega))
  | 1 => exact Fin.ext (by first | (show (16384 + (n.val / 512 * 512 + n.val % 512 / 128 * 128 + n.val % 128)) / 16 = (16384 + n.val) / 16; omega) | (show (n.val / 512 * 512 + n.val % 512 / 128 * 128 + n.val % 128 + 16384) / 16 = (16384 + n.val) / 16; omega))

/-- What is asked of the permutations: every node's number names a row of the table, and no two the same. -/
def PermOK : Prop := ∀ d : Dev nD, (∀ n, (permOf m d n).toNat < 32768) ∧ Function.Injective fun n => (permOf m d n).toNat

theorem inRange_of_word {I : S32x4x128.Idx → BitVec 32} (h : ∀ n, wordAt I n < 32768) : InRange I := by
  intro j
  obtain ⟨t, ht⟩ := wid_surj (j 0)
  have e : j = ix3 (wid t) (j 1) (j 2) := funext fun a => match a with | 0 => ht.symm | 1 => rfl | 2 => rfl
  rw [e]
  exact lt_of_eq_of_lt (wordAt_slot I t (j 1) (j 2)).symm (h _)

theorem ok4 (h : PermOK m) (d : Dev nD) : InRange (rd (W0 m d) main_v4) ∧ Function.Injective (wordAt (rd (W0 m d) main_v4)) := by
  refine ⟨inRange_of_word fun n => ?_, fun a b e => ?_⟩
  · rw [word4]; exact (h d).1 _
  · rw [word4, word4] at e
    exact Fin.ext (Fin.mk.inj ((h d).2 e))

theorem ok6 (h : PermOK m) (d : Dev nD) : InRange (rd (W0 m d) main_v6) ∧ Function.Injective (wordAt (rd (W0 m d) main_v6)) := by
  refine ⟨inRange_of_word fun n => ?_, fun a b e => ?_⟩
  · rw [word6]; exact (h d).1 _
  · rw [word6, word6] at e
    have e' := Fin.mk.inj ((h d).2 e)
    exact Fin.ext (by omega)

theorem W1_v6 (d : Dev nD) : rd (W1 m d) main_v6 = rd (W0 m d) main_v6 := by
  unfold W1 W0'
  rw [keepB _ _ (by decide), keepU _ _ _ _ (by decide)]
theorem W2_v4 (d : Dev nD) : rd (W2 m d) main_v4 = rd (W0 m d) main_v4 :=
  (W2_keep m d _ (by decide)).trans (X0_keep m d _ (by decide))
theorem W3_v6 (d : Dev nD) : rd (W3 m d) main_v6 = rd (W0 m d) main_v6 :=
  (W3_keep m d _ (by decide)).trans ((X1_keep m d _ (by decide)).trans (X0_keep m d _ (by decide)))

/-- Every call finds what it asks. -/
theorem callOK (h : PermOK m) : ∀ q d, CallOK (Vs m q d) q
  | 0, d => (ok4 m h d).1
  | 1, d => by show InRange (rd (W1 m d) main_v6); rw [W1_v6]; exact (ok6 m h d).1
  | 2, d => by show InRange (rd (W2 m d) main_v4) ∧ Function.Injective (wordAt (rd (W2 m d) main_v4)); rw [W2_v4]; exact ok4 m h d
  | 3, d => by show InRange (rd (W3 m d) main_v6) ∧ Function.Injective (wordAt (rd (W3 m d) main_v6)); rw [W3_v6]; exact ok6 m h d

/-- The arguments are what they were at the launch. -/
theorem args_end (d : Dev nD) : rd (Wend m d) main_arg0 = m (d, Proc.devRef .tc main_arg0) ∧ rd (Wend m d) main_arg1 = m (d, Proc.devRef .tc main_arg1)
    ∧ rd (Wend m d) main_arg2 = m (d, Proc.devRef .tc main_arg2) ∧ rd (Wend m d) main_arg3 = m (d, Proc.devRef .tc main_arg3)
    ∧ rd (Wend m d) main_arg4 = m (d, Proc.devRef .tc main_arg4) ∧ rd (Wend m d) main_arg5 = m (d, Proc.devRef .tc main_arg5)
    ∧ rd (Wend m d) main_arg6 = m (d, Proc.devRef .tc main_arg6) ∧ rd (Wend m d) main_arg7 = m (d, Proc.devRef .tc main_arg7) := by
  refine ⟨?_, ?_, ?_, ?_, ?_, ?_, ?_, ?_⟩ <;> exact Wend_keep m d _ (by decide) (by decide) (by decide) (by decide) (by decide)

end Cert.Proof.KernelIdeal

end
-- ==== Proof.KernelIdeal.Frame.lean ====
/-
  The precondition makes the row numbers good, so the kernel runs: what memory holds at the end, the arguments unchanged and
  every counter back at zero.
-/
module

public import proofs.«01_k».proof.Proof.KernelIdeal.Run
public import proofs.«01_k».proof.Proof.KernelIdeal.Reads
public import proofs.«01_k».proof.Proof.Pre

@[expose] public section

set_option maxRecDepth 16384

noncomputable section

namespace Cert.Proof.KernelIdeal

open Cert.KernelIdeal Cert.KernelIdeal.Gen
open Idealize.ShloMosaic Idealize.SL.Sem

variable {F : FTy → Type} [FloatOps F] [Cert.Pre_distinct_rows.Facts]
  (m : (ℓ : Loc nD τ sig) → Buf (Elt F) ℓ) (ρ : Dev nD → PrngReg)

/-- The precondition of every device's arguments. -/
def PreAll : Prop := ∀ c : Dev nD, Cert.Pre_distinct_rows.fn (F := F) (m (c.tc.loc main_arg0)) (m (c.tc.loc main_arg1)) (m (c.tc.loc main_arg2))
  (m (c.tc.loc main_arg3)) (m (c.tc.loc main_arg4)) (m (c.tc.loc main_arg5)) (m (c.tc.loc main_arg6)) (m (c.tc.loc main_arg7)) = fun _ => 1#1

theorem permOf_eq (d : Dev nD) (n : Fin 32768) : permOf m d n
    = m (d.tc.loc main_arg1) (Idealize.ShloMosaic.ix2 (⟨n.val % 16, Nat.mod_lt _ (by decide)⟩ : Fin 16) (⟨n.val / 16, by omega⟩ : Fin 4096)) :=
  congrArg (m (d.tc.loc main_arg1)) (funext fun a => match a with | 0 => rfl | 1 => rfl)

theorem permOK (h : PreAll m) : PermOK m := fun d => by
  refine ⟨fun n => ?_, fun n k e => ?_⟩
  · rw [permOf_eq]
    exact pre_range (h d) _ _ (show n.val / 16 < 2048 by omega)
  · dsimp only at e
    rw [permOf_eq, permOf_eq] at e
    obtain ⟨e1, e2⟩ := pre_inj (h d) _ _ _ _ (show n.val / 16 < 2048 by omega) (show k.val / 16 < 2048 by omega) e
    have := Fin.mk.inj e1
    have := Fin.mk.inj e2
    exact Fin.ext (by omega)

/-- Every run ends, with these contents, the arguments as they were, and every counter at zero. -/
theorem run_frame [∀ e, Nonempty (Elt F e)] (h : PreAll m) :
    θ_run (Cert.KernelIdeal.defs (F := F)) (Cert.KernelIdeal.threads (F := F)) ⟨m, fun _ => 0, ρ⟩ (fun r => (∀ c : Dev nD,
      r.2.mem (c.tc.loc main_v23) = Wend m c (Proc.devRef .tc main_v23)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7))
      ∧ r.2.sem = fun _ => 0) :=
  (θ_run Cert.KernelIdeal.defs _ _).mono (fun r hr => ⟨fun c => by
    obtain ⟨e0, e1, e2, e3, e4, e5, e6, e7⟩ := args_end m c
    have k : ∀ b : Ref sig .tc, b.isScoped = false → r.2.mem (c.tc.loc b) = Wend m c (Proc.devRef .tc b) :=
      fun b hb => hr.1 c (Proc.devRef .tc b) (Pipeline.devRef_mem_ucRefs hb)
    exact ⟨k _ rfl, (k _ rfl).trans e0, (k _ rfl).trans e1, (k _ rfl).trans e2, (k _ rfl).trans e3, (k _ rfl).trans e4, (k _ rfl).trans e5,
      (k _ rfl).trans e6, (k _ rfl).trans e7⟩, hr.2⟩) (run_main m ρ (callOK m (permOK m h)))

end Cert.Proof.KernelIdeal

end
-- ==== Proof.Reference.Frame.lean ====
/-
  The reference runs, leaves its arguments as they were, and every counter at zero: it has no counter.
-/
module

public import proofs.«01_k».proof.Proof.Gen.ReferenceIdeal
public import proofs.«01_k».proof.Proof.Gen.ReferenceIdeal.Run
public import Idealize.ShloMosaic.Lib.Quiescent

@[expose] public section

noncomputable section

namespace Cert.Proof.Reference

open Cert.ReferenceIdeal Cert.ReferenceIdeal.Gen
open Idealize.ShloMosaic Idealize.SL.Sem

variable {F : FTy → Type} [FloatOps F]

theorem no_counter (s : MemSt nD τ sig (Elt F)) : s.sem = fun _ => 0 := sem_eq_zero_of_no_sems rfl s

theorem run_frame (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7))
      ∧ r.2.sem = fun _ => 0) :=
  (θ_run Cert.ReferenceIdeal.defs _ _).mono (fun r hr => ⟨fun c => (hr c).2, no_counter r.2⟩) (Cert.ReferenceIdeal.Value.run m ρ)

end Cert.Proof.Reference

end
-- ==== Proof.Equation.Exit.lean ====
/-
  What the two halves of the recurrence leave in their arrays, whole: all the states, and the last of them; and the blocks they
  read, at an index.
-/
module

public import proofs.«01_k».proof.Proof.KernelIdeal.Vals
public import Idealize.ShloMosaic.Lib.Pipeline.ValueKit

@[expose] public section

set_option maxRecDepth 16384

noncomputable section

namespace Cert.Proof.Equation

open Cert.KernelIdeal Cert.KernelIdeal.Gen
open Cert.Proof.KernelIdeal hiding ix2 ix3
open Idealize.ShloMosaic

variable {F : FTy → Type} [FloatOps F] (V : Val8 F) (c : Dev nD)

/-- The point that does step `s`. -/
abbrev pt2 (s : Fin 1024) : Fin grid2.N := ⟨s.val / 512, by rw [N_2]; omega⟩
abbrev pt4 (s : Fin 1024) : Fin grid4.N := ⟨s.val / 512, by rw [N_4]; omega⟩

/-- The blocks of the steps: point `t` is on steps `512 t` and after. -/
theorem idx2_step : ∀ t : Fin grid2.N, (win2_0.index t 0 = t.val ∧ win2_0.index t 1 = 0 ∧ win2_0.index t 2 = 0)
    ∧ win2_6.index t 0 = t.val ∧ win2_6.index t 1 = 0 ∧ win2_6.index t 2 = 0 := by decide +kernel

/-- Every other operand is one block. -/
theorem idx2_whole : (∀ a, win2_1.index t2_0 a = 0) ∧ (∀ a, win2_2.index t2_0 a = 0) ∧ (∀ a, win2_3.index t2_0 a = 0)
    ∧ (∀ a, win2_4.index t2_0 a = 0) ∧ (∀ a, win2_5.index t2_0 a = 0) ∧ ∀ a, win2_7.index t2_1 a = 0 := by decide +kernel

theorem exit2 : (dat2 V c).arrAt 6 cfg2.N
    = fun y : S1024x16x128.Idx => ys2 V c (pt2 (y 0)) (ix3 (⟨(y 0).val % 512, by omega⟩ : Fin 512) (y 1) (y 2)) := by
  refine (dat2 V c).arrAt_eq_of_covers 6 _ (by decide +kernel) fun t hf y => ?_
  have h0 : (((win2_6.blk t).view.emb y 0 : Fin 1024) : ℕ) = t.val * 512 + (y 0).val := by blk_simp [(idx2_step t).2.1]
  have hy : (y 0).val < 512 := (y 0).isLt
  show ys2 V c t y = ys2 V c (pt2 ((win2_6.blk t).view.emb y 0)) _
  refine congr (congrArg (ys2 V c) (Fin.ext ?_)) ?_
  · show t.val = ((win2_6.blk t).view.emb y 0).val / 512
    omega
  · funext a
    match a with
    | 0 => exact Fin.ext (show (y 0).val = ((win2_6.blk t).view.emb y 0).val % 512 by omega)
    | 1 => exact Fin.ext (show (y 1).val = ((win2_6.blk t).view.emb y 1).val by blk_simp [(idx2_step t).2.2.1])
    | 2 => exact Fin.ext (show (y 2).val = ((win2_6.blk t).view.emb y 2).val by blk_simp [(idx2_step t).2.2.2])

theorem exit2_last : (dat2 V c).arrAt 7 cfg2.N = last2 V c t2_1 :=
  (dat2 V c).arrAt_eq_of_after_last 7 t2_1 (by decide +kernel) _ fun j => congrArg (last2 V c t2_1)
    (by blk_ext [idx2_whole.2.2.2.2.2])

theorem block2 (t : Fin grid2.N) (k : Fin 512) (e : Fin 16) (q : Fin 128) : blk2 V c 0 t (ix3 k e q)
    = V c (Proc.devRef .tc main_v19) (ix3 (⟨512 * t.val + k.val, by have := t.isLt; have := N_2; omega⟩ : Fin 1024) e q) := by
  show V c (Proc.devRef .tc main_v19) (((cfg2.win 0).blk t).view.emb (ix3 k e q)) = _
  refine congrArg _ ?_
  obtain ⟨h0, h1, h2⟩ := (idx2_step t).1
  blk_ext [h0, h1, h2]

theorem whole2 : blk2 V c 1 t2_0 = V c (Proc.devRef .tc main_v15) ∧ blk2 V c 2 t2_0 = V c (Proc.devRef .tc main_v17)
    ∧ blk2 V c 3 t2_0 = V c (Proc.devRef .tc main_v11) ∧ blk2 V c 4 t2_0 = V c (Proc.devRef .tc main_v13)
    ∧ blk2 V c 5 t2_0 = V c (Proc.devRef .tc main_v22) := by
  obtain ⟨h1, h2, h3, h4, h5, -⟩ := idx2_whole
  refine ⟨?_, ?_, ?_, ?_, ?_⟩ <;> (funext y; blk_ext [blk2, arr2, h1, h2, h3, h4, h5])

/-- The blocks of the steps: point `t` is on steps `512 t` and after. -/
theorem idx4_step : ∀ t : Fin grid4.N, (win4_0.index t 0 = t.val ∧ win4_0.index t 1 = 0 ∧ win4_0.index t 2 = 0)
    ∧ win4_6.index t 0 = t.val ∧ win4_6.index t 1 = 0 ∧ win4_6.index t 2 = 0 := by decide +kernel

/-- Every other operand is one block. -/
theorem idx4_whole : (∀ a, win4_1.index t4_0 a = 0) ∧ (∀ a, win4_2.index t4_0 a = 0) ∧ (∀ a, win4_3.index t4_0 a = 0)
    ∧ (∀ a, win4_4.index t4_0 a = 0) ∧ (∀ a, win4_5.index t4_0 a = 0) ∧ ∀ a, win4_7.index t4_1 a = 0 := by decide +kernel

theorem exit4 : (dat4 V c).arrAt 6 cfg4.N
    = fun y : S1024x16x128.Idx => ys4 V c (pt4 (y 0)) (ix3 (⟨(y 0).val % 512, by omega⟩ : Fin 512) (y 1) (y 2)) := by
  refine (dat4 V c).arrAt_eq_of_covers 6 _ (by decide +kernel) fun t hf y => ?_
  have h0 : (((win4_6.blk t).view.emb y 0 : Fin 1024) : ℕ) = t.val * 512 + (y 0).val := by blk_simp [(idx4_step t).2.1]
  have hy : (y 0).val < 512 := (y 0).isLt
  show ys4 V c t y = ys4 V c (pt4 ((win4_6.blk t).view.emb y 0)) _
  refine congr (congrArg (ys4 V c) (Fin.ext ?_)) ?_
  · show t.val = ((win4_6.blk t).view.emb y 0).val / 512
    omega
  · funext a
    match a with
    | 0 => exact Fin.ext (show (y 0).val = ((win4_6.blk t).view.emb y 0).val % 512 by omega)
    | 1 => exact Fin.ext (show (y 1).val = ((win4_6.blk t).view.emb y 1).val by blk_simp [(idx4_step t).2.2.1])
    | 2 => exact Fin.ext (show (y 2).val = ((win4_6.blk t).view.emb y 2).val by blk_simp [(idx4_step t).2.2.2])

theorem exit4_last : (dat4 V c).arrAt 7 cfg4.N = last4 V c t4_1 :=
  (dat4 V c).arrAt_eq_of_after_last 7 t4_1 (by decide +kernel) _ fun j => congrArg (last4 V c t4_1)
    (by blk_ext [idx4_whole.2.2.2.2.2])

theorem block4 (t : Fin grid4.N) (k : Fin 512) (e : Fin 16) (q : Fin 128) : blk4 V c 0 t (ix3 k e q)
    = V c (Proc.devRef .tc main_v21) (ix3 (⟨512 * t.val + k.val, by have := t.isLt; have := N_4; omega⟩ : Fin 1024) e q) := by
  show V c (Proc.devRef .tc main_v21) (((cfg4.win 0).blk t).view.emb (ix3 k e q)) = _
  refine congrArg _ ?_
  obtain ⟨h0, h1, h2⟩ := (idx4_step t).1
  blk_ext [h0, h1, h2]

theorem whole4 : blk4 V c 1 t4_0 = V c (Proc.devRef .tc main_v15) ∧ blk4 V c 2 t4_0 = V c (Proc.devRef .tc main_v17)
    ∧ blk4 V c 3 t4_0 = V c (Proc.devRef .tc main_v11) ∧ blk4 V c 4 t4_0 = V c (Proc.devRef .tc main_v13)
    ∧ blk4 V c 5 t4_0 = V c (Proc.devRef .tc main_v24_1) := by
  obtain ⟨h1, h2, h3, h4, h5, -⟩ := idx4_whole
  refine ⟨?_, ?_, ?_, ?_, ?_⟩ <;> (funext y; blk_ext [blk4, arr4, h1, h2, h3, h4, h5])

end Cert.Proof.Equation

end
-- ==== Proof.Equation.Step.lean ====
/-
  One step of a gated recurrent unit on one example, over the extended reals: as the problem writes it, as the kernel
  computes it, and that the two agree on a state that is real.
-/
module

public import Idealize.ShloMosaic.PureOps.Ideal
public import Idealize.ShloMosaic.PureOps.Ideal.Laws

@[expose] public section

noncomputable section

namespace Cert.Proof.Equation

open Idealize.ShloMosaic

/-- A row of a state, or of the input. -/
abbrev Row : Type := Fin 128 → EReal
/-- A row of the three gates. -/
abbrev Row3 : Type := Fin 384 → EReal

/-- Where the three gates of column `j` lie. -/
abbrev rAt (j : Fin 128) : Fin 384 := ⟨j.val, by omega⟩
abbrev zAt (j : Fin 128) : Fin 384 := ⟨128 + j.val, by omega⟩
abbrev nAt (j : Fin 128) : Fin 384 := ⟨256 + j.val, by omega⟩

/-- A row times the transposed weights. -/
def times (W : Fin 384 → Row) (x : Row) : Row3 := fun c => ∑ k, x k * W c k

/-- The problem's step: `g` is the input's half of the gates, bias and all. -/
def newGate (W : Fin 384 → Row) (b g : Row3) (h : Row) (j : Fin 128) : EReal :=
  Ideal.tanh (g (nAt j) + Ideal.logistic (g (rAt j) + (times W h (rAt j) + b (rAt j))) * (times W h (nAt j) + b (nAt j)))
def step (W : Fin 384 → Row) (b g : Row3) (h : Row) : Row := fun j =>
  (1 - Ideal.logistic (g (zAt j) + (times W h (zAt j) + b (zAt j)))) * newGate W b g h j
    + Ideal.logistic (g (zAt j) + (times W h (zAt j) + b (zAt j))) * h j

/-- One half, as the kernel writes it. -/
abbrev half : EReal := Ideal.ofBits .f32 1056964608#32

theorem half_eq : half = ((1 / 2 : ℝ) : EReal) := by
  simp [Ideal.ofBits, Ideal.ieee, -EReal.coe_mul]; norm_num

/-- The kernel's logistic function, by the hyperbolic tangent. -/
def gate (x : EReal) : EReal := half * (Ideal.tanh (half * x) + 1)

theorem gate_eq (x : EReal) : gate x = Ideal.logistic x := by
  unfold gate
  rw [half_eq]
  induction x with
  | bot =>
    rw [EReal.coe_mul_bot_of_pos (by norm_num), Ideal.tanh_bot, Ideal.logistic_bot, show (-1 : EReal) + 1 = 0 from by rw [← EReal.coe_one, ← EReal.coe_neg, ← EReal.coe_add]; norm_num, mul_zero]
  | top =>
    rw [EReal.coe_mul_top_of_pos (by norm_num), Ideal.tanh_top, Ideal.logistic_top, ← EReal.coe_one, ← EReal.coe_add, ← EReal.coe_mul]
    norm_num
  | coe r =>
    rw [Ideal.logistic_coe, ← EReal.coe_mul, Ideal.tanh_coe]
    norm_cast
    rw [Real.tanh_eq_sinh_div_cosh, Real.sinh_eq, Real.cosh_eq, show Real.exp (-r) = Real.exp (-(1 / 2 * r)) * Real.exp (-(1 / 2 * r)) by rw [← Real.exp_add]; congr 1; ring]
    have e : Real.exp (1 / 2 * r) = (Real.exp (-(1 / 2 * r)))⁻¹ := by rw [Real.exp_neg, inv_inv]
    rw [e]
    have p := Real.exp_pos (-(1 / 2 * r))
    field_simp
    ring

/-- The logistic function and the hyperbolic tangent are real everywhere. -/
theorem logistic_real (x : EReal) : ∃ r : ℝ, Ideal.logistic x = r := by
  induction x with
  | bot => exact ⟨0, by rw [Ideal.logistic_bot]; rfl⟩
  | top => exact ⟨1, by rw [Ideal.logistic_top]; rfl⟩
  | coe r => exact ⟨_, Ideal.logistic_coe r⟩
theorem tanh_real (x : EReal) : ∃ r : ℝ, Ideal.tanh x = r := by
  induction x with
  | bot => exact ⟨-1, by rw [Ideal.tanh_bot]; rfl⟩
  | top => exact ⟨1, by rw [Ideal.tanh_top]; rfl⟩
  | coe r => exact ⟨_, Ideal.tanh_coe r⟩

/-- A state that is real. -/
def IsReal (h : Row) : Prop := ∀ j, ∃ r : ℝ, h j = r

theorem step_real {W : Fin 384 → Row} {b g : Row3} {h : Row} (hh : IsReal h) : IsReal (step W b g h) := fun j => by
  obtain ⟨z, hz⟩ := logistic_real (g (zAt j) + (times W h (zAt j) + b (zAt j)))
  obtain ⟨n, hn⟩ := tanh_real (g (nAt j) + Ideal.logistic (g (rAt j) + (times W h (rAt j) + b (rAt j))) * (times W h (nAt j) + b (nAt j)))
  obtain ⟨x, hx⟩ := hh j
  refine ⟨(1 - z) * n + z * x, ?_⟩
  unfold step newGate
  rw [hz, hn, hx]
  norm_cast

/-- The kernel's step: the recurrent biases of the first two gates are in `g` already, and the third's is `b`. -/
def kernelNew (W : Fin 384 → Row) (b : Row) (g : Row3) (h : Row) (j : Fin 128) : EReal :=
  Ideal.tanh (g (nAt j) + gate (g (rAt j) + times W h (rAt j)) * (times W h (nAt j) + b j))
def kernelStep (W : Fin 384 → Row) (b : Row) (g : Row3) (h : Row) : Row := fun j =>
  kernelNew W b g h j + gate (g (zAt j) + times W h (zAt j)) * (h j - kernelNew W b g h j)

/-- The recurrent bias as the kernel folds it into the input's: of the first two gates. -/
def folded (b : Row3) : Row3 := fun c => if c.val < 256 then b c else 0

theorem kernelStep_eq (W : Fin 384 → Row) (b bi x : Row3) {h : Row} (hh : IsReal h) :
    kernelStep W (fun j => b (nAt j)) (fun c => x c + (bi c + folded b c)) h = step W b (fun c => x c + bi c) h := by
  have first : ∀ c : Fin 384, c.val < 256 → x c + (bi c + folded b c) + times W h c = x c + bi c + (times W h c + b c) := fun c hc => by
    rw [show folded b c = b c from if_pos hc]
    ac_rfl
  have third : ∀ j, kernelNew W (fun j => b (nAt j)) (fun c => x c + (bi c + folded b c)) h j = newGate W b (fun c => x c + bi c) h j := fun j => by
    unfold kernelNew newGate
    dsimp only
    rw [gate_eq, first _ (by show j.val < 256; omega), show folded b (nAt j) = 0 from if_neg (by show ¬(256 + j.val < 256); omega), add_zero]
  funext j
  unfold kernelStep step
  rw [third, gate_eq, first _ (by show 128 + j.val < 256; omega)]
  obtain ⟨z, hz⟩ := logistic_real (x (zAt j) + bi (zAt j) + (times W h (zAt j) + b (zAt j)))
  obtain ⟨n, hn⟩ : ∃ n : ℝ, newGate W b (fun c => x c + bi c) h j = n := tanh_real _
  obtain ⟨y, hy⟩ := hh j
  rw [hz, hn, hy]
  norm_cast
  ring

end Cert.Proof.Equation

end
-- ==== Proof.Equation.Payload.lean ====
/-
  What the kernel's recurrence computes over the extended reals, row by row: the input's gates of every step, the states after
  every step.
-/
module

public import proofs.«01_k».proof.Proof.Equation.Step
public import proofs.«01_k».proof.Proof.KernelIdeal.Gru
public import Idealize.ShloMosaic.Lib.Pointwise
public import Idealize.ShloMosaic.Lib.IdealHost

@[expose] public section

set_option maxRecDepth 16384

noncomputable section

namespace Cert.Proof.Equation

open Cert.KernelIdeal Cert.KernelIdeal.Gen
open Cert.Proof.KernelIdeal
open Idealize.ShloMosaic

/-- Row `e` of a state. -/
abbrev rowAt (h : Vec Ideal S16x128 .f32) (e : Fin 16) : Row := fun q => h (ix2 e q)
/-- Weights laid out with the gates along the rows. -/
abbrev weights (x : Vec Ideal S128x384 .bf16) : Fin 384 → Row := fun c q => x (ix2 q c)

theorem pay3_apply (x3 : Vec Ideal S128x384 .bf16) (b : Vec Ideal S1x128 .f32) (h : Vec Ideal S16x128 .f32) (r : Vec Ideal S1x16x384 .f32)
    (e : Fin 16) (j : Fin 128) : k2_pay3 x3 b h r (ix2 e j)
      = kernelStep (weights x3) (fun q => b (ix2 0 q)) (fun c => r (ix3 0 e c)) (rowAt h e) j := by
  unfold k2_pay3 kernelStep kernelNew gate times
  pointwise

theorem row384_apply (x : Vec Ideal S8x384 .f32) (c : Fin 384) : row384 x (ix2 0 c) = x (ix2 0 c) :=
  congrArg x (funext fun a => match a with | 0 => rfl | 1 => Fin.ext (show 0 + 1 * c.val = c.val by omega))
theorem row128_apply (x : Vec Ideal S8x128 .f32) (q : Fin 128) : row128 x (ix2 0 q) = x (ix2 0 q) :=
  congrArg x (funext fun a => match a with | 0 => rfl | 1 => Fin.ext (show 0 + 1 * q.val = q.val by omega))

theorem gi_apply (x1 : Vec Ideal S512x16x128 .f32) (x2 : Vec Ideal S128x384 .bf16) (x4 : Vec Ideal S8x384 .f32) (k : Fin 512) (e : Fin 16) (c : Fin 384) :
    giOf x1 x2 x4 (ix3 k e c) = times (weights x2) (fun q => x1 (ix3 k e q)) c + x4 (ix2 0 c) := by
  show k2_pay2 x1 x2 (row384 x4) (ix3 k e c) = _
  unfold k2_pay2
  pointwise
  rw [row384_apply]
  rfl

theorem stepRows_apply (g : Vec Ideal S512x16x384 .f32) (k : ℕ) (hk : k < 512) (e : Fin 16) (c : Fin 384) :
    stepRows g k (ix3 0 e c) = g (ix3 ⟨k, hk⟩ e c) := by
  rw [stepRows_eq g k hk]
  refine congrArg g (funext fun a => ?_)
  match a with
  | 0 => exact Fin.ext (show k + 0 = k from rfl)
  | 1 => exact Fin.ext (show 0 + 1 * e.val = e.val by omega)
  | 2 => exact Fin.ext (show 0 + 1 * c.val = c.val by omega)

/-- If step `s` of example `e` takes the state from `H e s` to `H e (s + 1)` by the gates `G e s`, then 512 steps of the kernel
    on the gates of `s0`, `s0 + 1`, … take it from `H e s0` on. -/
theorem hAt_eq (x3 : Vec Ideal S128x384 .bf16) (b : Vec Ideal S1x128 .f32) (g : Vec Ideal S512x16x384 .f32) (h0 : Vec Ideal S16x128 .f32)
    (G : Fin 16 → ℕ → Row3) (H : Fin 16 → ℕ → Row) (hH : ∀ e s, H e (s + 1) = kernelStep (weights x3) (fun q => b (ix2 0 q)) (G e s) (H e s)) (s0 : ℕ)
    (hg : ∀ (k : Fin 512) (e : Fin 16) (c : Fin 384), g (ix3 k e c) = G e (s0 + k.val) c) (h : ∀ e, rowAt h0 e = H e s0) :
    ∀ k ≤ 512, ∀ e, rowAt (hAt x3 b g h0 k) e = H e (s0 + k)
  | 0, _, e => h e
  | k + 1, hk, e => by
    have ih := hAt_eq x3 b g h0 G H hH s0 hg h k (by omega) e
    funext q
    show k2_pay3 x3 b (hAt x3 b g h0 k) (stepRows g k) (ix2 e q) = H e (s0 + k + 1) q
    rw [pay3_apply, ih, hH]
    refine congrArg (fun G => kernelStep _ _ G _ q) (funext fun c => ?_)
    rw [stepRows_apply g k (by omega), hg]

end Cert.Proof.Equation

end
-- ==== Proof.Equation.Halves.lean ====
/-
  The two halves of the recurrence, each 1024 steps of the kernel's own step on every example.
-/
module

public import proofs.«01_k».proof.Proof.Equation.Exit
public import proofs.«01_k».proof.Proof.Equation.Payload

@[expose] public section

set_option maxRecDepth 16384

noncomputable section

namespace Cert.Proof.Equation

open Cert.KernelIdeal Cert.KernelIdeal.Gen
open Cert.Proof.KernelIdeal hiding ix2 ix3
open Idealize.ShloMosaic

/-- Two points of 512 steps each, the second from what the first left. -/
theorem states (x3 : Vec Ideal S128x384 .bf16) (b : Vec Ideal S1x128 .f32) (h0 : Vec Ideal S16x128 .f32) (g : ℕ → Vec Ideal S512x16x384 .f32)
    (G : Fin 16 → ℕ → Row3) (H : Fin 16 → ℕ → Row) (hH : ∀ e s, H e (s + 1) = kernelStep (weights x3) (fun q => b (ix2 0 q)) (G e s) (H e s)) (s0 : ℕ)
    (hg : ∀ n < 2, ∀ (k : Fin 512) (e : Fin 16) (c : Fin 384), g n (ix3 k e c) = G e (s0 + 512 * n + k.val) c) (h : ∀ e, rowAt h0 e = H e s0)
    (n : ℕ) (hn : n < 2) (k : ℕ) (hk : k ≤ 512) (e : Fin 16) :
    rowAt (hAt x3 b (g n) (if n = 0 then h0 else hAt x3 b (g 0) h0 512) k) e = H e (s0 + 512 * n + k) := by
  have first := hAt_eq x3 b (g 0) h0 G H hH s0 (fun k e c => hg 0 (by omega) k e c) h
  obtain rfl | rfl : n = 0 ∨ n = 1 := by omega
  · exact first k hk e
  · rw [if_neg (by decide)]
    exact hAt_eq x3 b (g 1) _ G H hH (s0 + 512) (fun k e c => hg 1 (by omega) k e c) (first 512 le_rfl) k hk e

/-- What a half of the recurrence starts from: the inputs of its steps, the weights, the biases, and the state. -/
structure Meets (x : Vec Ideal S1024x16x128 .f32) (wi wh : Vec Ideal S128x384 .bf16) (bi : Vec Ideal S8x384 .f32) (bn : Vec Ideal S8x128 .f32)
    (h0 : Vec Ideal S16x128 .f32) (X : Fin 16 → ℕ → Row) (H : Fin 16 → ℕ → Row) (s0 : ℕ) : Prop where
  input : ∀ (s : Fin 1024) (e : Fin 16), (fun q => x (ix3 s e q)) = X e (s0 + s.val)
  start : ∀ e, rowAt h0 e = H e s0
  next : ∀ e s, H e (s + 1) = kernelStep (weights wh) (fun q => bn (ix2 0 q)) (fun c => times (weights wi) (X e s) c + bi (ix2 0 c)) (H e s)

/-- The states after the steps of the two points of a half. -/
theorem Meets.states {x : Vec Ideal S1024x16x128 .f32} {wi wh : Vec Ideal S128x384 .bf16} {bi : Vec Ideal S8x384 .f32} {bn : Vec Ideal S8x128 .f32}
    {h0 : Vec Ideal S16x128 .f32} {X H : Fin 16 → ℕ → Row} {s0 : ℕ} (h : Meets x wi wh bi bn h0 X H s0) (block : ℕ → Vec Ideal S512x16x128 .f32)
    (hb : ∀ n (_ : n < 2) (k : Fin 512) (e : Fin 16) (q : Fin 128), block n (ix3 k e q) = x (ix3 (⟨512 * n + k.val, by omega⟩ : Fin 1024) e q))
    (n : ℕ) (hn : n < 2) (k : ℕ) (hk : k ≤ 512) (e : Fin 16) :
    rowAt (hAt wh (row128 bn) (giOf (block n) wi bi) (if n = 0 then h0 else hAt wh (row128 bn) (giOf (block 0) wi bi) h0 512) k) e
      = H e (s0 + 512 * n + k) :=
  Equation.states wh (row128 bn) h0 (fun n => giOf (block n) wi bi) (fun e s c => times (weights wi) (X e s) c + bi (ix2 0 c)) H
    (fun e s => by
      rw [h.next]
      exact congrArg (fun b => kernelStep _ b _ _) (funext fun q => (row128_apply bn q).symm)) s0
    (fun n hn k e c => by
      rw [gi_apply]
      refine congrArg (fun r => times _ r c + _) ?_
      rw [show s0 + 512 * n + k.val = s0 + (512 * n + k.val) by omega, ← h.input ⟨512 * n + k.val, by omega⟩ e]
      exact funext fun q => hb n hn k e q) h.start n hn k hk e

section Half2

variable {V : Val8 Ideal} {c : Dev nD} {X H : Fin 16 → ℕ → Row} {s0 : ℕ}
  (h : Meets (V c (Proc.devRef .tc main_v19)) (V c (Proc.devRef .tc main_v15)) (V c (Proc.devRef .tc main_v17)) (V c (Proc.devRef .tc main_v11))
    (V c (Proc.devRef .tc main_v13)) (V c (Proc.devRef .tc main_v22)) X H s0)

include h

theorem half2_states (t : Fin grid2.N) (k : ℕ) (hk : k ≤ 512) (e : Fin 16) :
    rowAt (hAt (blk2 V c 2 t2_0) (row128 (blk2 V c 4 t2_0)) (gi2 V c t) (start2 V c t.val) k) e = H e (s0 + 512 * t.val + k) := by
  have N := N_2
  have ht := t.isLt
  have key := h.states (fun n => blk2 V c 0 ⟨n % 2, by omega⟩) (fun n hn k e q => by
    rw [block2]
    refine congrArg _ (congrArg (fun s => ix3 s e q) (Fin.ext ?_))
    show 512 * (n % 2) + k.val = 512 * n + k.val
    omega) t.val (by omega) k hk e
  rw [← key]
  obtain ⟨w1, w2, w3, w4, w5⟩ := whole2 V c
  rw [start2, gi2, mid2, gi2, w1, w2, w3, w4, w5]
  rw [show (⟨t.val % 2, by omega⟩ : Fin grid2.N) = t from Fin.ext (by show t.val % 2 = t.val; omega)]
  rfl

/-- At step `s` it leaves the state after that step, -/
theorem half2_all (s : Fin 1024) (e : Fin 16) (q : Fin 128) : (dat2 V c).arrAt 6 cfg2.N (ix3 s e q) = H e (s0 + s.val + 1) q := by
  rw [exit2]
  have := congrFun (half2_states h (pt2 s) (s.val % 512 + 1) (by omega) e) q
  rw [show s0 + s.val + 1 = s0 + 512 * (pt2 s).val + (s.val % 512 + 1) by show _ = s0 + 512 * (s.val / 512) + _; omega, ← this]
  refine congrArg (hAt _ _ _ _ _) (funext fun a => ?_)
  match a with | 0 => rfl | 1 => rfl

/-- and at the end the state after the last. -/
theorem half2_last (e : Fin 16) : rowAt ((dat2 V c).arrAt 7 cfg2.N) e = H e (s0 + 1024) := by
  rw [exit2_last]
  exact half2_states h t2_1 512 le_rfl e

end Half2

section Half4

variable {V : Val8 Ideal} {c : Dev nD} {X H : Fin 16 → ℕ → Row} {s0 : ℕ}
  (h : Meets (V c (Proc.devRef .tc main_v21)) (V c (Proc.devRef .tc main_v15)) (V c (Proc.devRef .tc main_v17)) (V c (Proc.devRef .tc main_v11))
    (V c (Proc.devRef .tc main_v13)) (V c (Proc.devRef .tc main_v24_1)) X H s0)

include h

theorem half4_states (t : Fin grid4.N) (k : ℕ) (hk : k ≤ 512) (e : Fin 16) :
    rowAt (hAt (blk4 V c 2 t4_0) (row128 (blk4 V c 4 t4_0)) (gi4 V c t) (start4 V c t.val) k) e = H e (s0 + 512 * t.val + k) := by
  have N := N_4
  have ht := t.isLt
  have key := h.states (fun n => blk4 V c 0 ⟨n % 2, by omega⟩) (fun n hn k e q => by
    rw [block4]
    refine congrArg _ (congrArg (fun s => ix3 s e q) (Fin.ext ?_))
    show 512 * (n % 2) + k.val = 512 * n + k.val
    omega) t.val (by omega) k hk e
  rw [← key]
  obtain ⟨w1, w2, w3, w4, w5⟩ := whole4 V c
  rw [start4, gi4, mid4, gi4, w1, w2, w3, w4, w5]
  rw [show (⟨t.val % 2, by omega⟩ : Fin grid4.N) = t from Fin.ext (by show t.val % 2 = t.val; omega)]
  rfl

/-- At step `s` it leaves the state after that step, -/
theorem half4_all (s : Fin 1024) (e : Fin 16) (q : Fin 128) : (dat4 V c).arrAt 6 cfg4.N (ix3 s e q) = H e (s0 + s.val + 1) q := by
  rw [exit4]
  have := congrFun (half4_states h (pt4 s) (s.val % 512 + 1) (by omega) e) q
  rw [show s0 + s.val + 1 = s0 + 512 * (pt4 s).val + (s.val % 512 + 1) by show _ = s0 + 512 * (s.val / 512) + _; omega, ← this]
  refine congrArg (hAt _ _ _ _ _) (funext fun a => ?_)
  match a with | 0 => rfl | 1 => rfl

/-- and at the end the state after the last. -/
theorem half4_last (e : Fin 16) : rowAt ((dat4 V c).arrAt 7 cfg4.N) e = H e (s0 + 1024) := by
  rw [exit4_last]
  exact half4_states h t4_1 512 le_rfl e

end Half4

end Cert.Proof.Equation

end
-- ==== Proof.Equation.Problem.lean ====
/-
  The problem over the extended reals: every example's states, from a state of zeros, one step for each node of its
  permutation.
-/
module

public import proofs.«01_k».proof.Proof.Equation.Step
public import Idealize.ShloMosaic.Lib.Pointwise

@[expose] public section

noncomputable section

namespace Cert.Proof.Equation

open Idealize.ShloMosaic

variable (x : FVec Ideal ⟨2, ![32768, 128]⟩ .f32) (perm : IVec ⟨2, ![16, 4096]⟩ 32) (wi wh : FVec Ideal ⟨2, ![384, 128]⟩ .f32)
  (bi bh : FVec Ideal ⟨1, ![384]⟩ .f32)

/-- The rows of a weight matrix, -/
def rowsOf (w : FVec Ideal ⟨2, ![384, 128]⟩ .f32) : Fin 384 → Row := fun c q => w (ix2 c q)
/-- and the entries of a bias. -/
def entries (b : FVec Ideal ⟨1, ![384]⟩ .f32) : Row3 := fun c => b (ix1 c)
/-- The row of the table an example reads at a step. -/
def node (e : Fin 16) (s : ℕ) : Fin 32768 :=
  ⟨(perm (ix2 e (⟨s % 4096, Nat.mod_lt _ (by decide)⟩ : Fin 4096))).toNat % 32768, Nat.mod_lt _ (by decide)⟩
/-- What it reads there. -/
def input (e : Fin 16) (s : ℕ) : Row := fun q => x (ix2 (node perm e s) q)

/-- The states of an example. -/
def state (e : Fin 16) : ℕ → Row
  | 0 => fun _ => 0
  | s + 1 => step (rowsOf wh) (entries bh) (fun c => times (rowsOf wi) (input x perm e s) c + entries bi c) (state e s)

theorem state_real (e : Fin 16) : ∀ s, IsReal (state x perm wi wh bi bh e s)
  | 0 => fun _ => ⟨0, rfl⟩
  | s + 1 => step_real (state_real e s)

/-- The kernel's step leads from each state to the next. -/
theorem state_next (e : Fin 16) (s : ℕ) : state x perm wi wh bi bh e (s + 1)
    = kernelStep (rowsOf wh) (fun j => entries bh (nAt j))
        (fun c => times (rowsOf wi) (input x perm e s) c + (entries bi c + folded (entries bh) c)) (state x perm wi wh bi bh e s) :=
  (kernelStep_eq _ _ _ _ (state_real x perm wi wh bi bh e s)).symm

end Cert.Proof.Equation

end
-- ==== Proof.Equation.Inputs.lean ====
/-
  What the two halves of the recurrence read: the rows the gathers bring, the weights and the biases the host lays out.
-/
module

public import proofs.«01_k».proof.Proof.Equation.Halves
public import proofs.«01_k».proof.Proof.Equation.Problem
public import proofs.«01_k».proof.Proof.KernelIdeal.Reads
public import Idealize.ShloMosaic.Lib.IdealHost

@[expose] public section

set_option maxRecDepth 16384

noncomputable section

namespace Cert.Proof.Equation

open Cert.KernelIdeal Cert.KernelIdeal.Gen
open Cert.Proof.KernelIdeal hiding ix2 ix3
open Idealize.ShloMosaic

variable (m : (ℓ : Loc nD τ sig) → Buf (Elt Ideal) ℓ) (d : Dev nD)

/-- The kernel's own arguments on a device. -/
abbrev arg0 : FVec Ideal S32768x128 .f32 := m (d, Proc.devRef .tc main_arg0)
abbrev arg1 : IVec S16x4096 32 := m (d, Proc.devRef .tc main_arg1)
abbrev arg4 : FVec Ideal S384x128 .f32 := m (d, Proc.devRef .tc main_arg4)
abbrev arg5 : FVec Ideal S384x128 .f32 := m (d, Proc.devRef .tc main_arg5)
abbrev arg6 : FVec Ideal S384 .f32 := m (d, Proc.devRef .tc main_arg6)
abbrev arg7 : FVec Ideal S384 .f32 := m (d, Proc.devRef .tc main_arg7)
/-- The states they lead to. -/
abbrev H : Fin 16 → ℕ → Row := state (arg0 m d) (arg1 m d) (arg4 m d) (arg5 m d) (arg6 m d) (arg7 m d)

theorem v15_eq : weights (rd (W0 m d) main_v15) = rowsOf (arg4 m d) := by
  have e : rd (W0 m d) main_v15 = fun y => truncf .bf16 (transpose S128x384 [1, 0] (arg4 m d) transposes_S384x128_S128x384_1_0) bitsLt_bf16_f32 y := by
    unfold W0
    after_reads_simp
  funext c q
  unfold weights rowsOf
  rw [e]
  pointwise

theorem v17_eq : weights (rd (W0 m d) main_v17) = rowsOf (arg5 m d) := by
  have e : rd (W0 m d) main_v17 = fun y => truncf .bf16 (transpose S128x384 [1, 0] (arg5 m d) transposes_S384x128_S128x384_1_0) bitsLt_bf16_f32 y := by
    unfold W0
    after_reads_simp
  funext c q
  unfold weights rowsOf
  rw [e]
  pointwise

theorem v13_eq (q : Fin 128) : rd (W0 m d) main_v13 (ix2 (0 : Fin 8) q) = entries (arg7 m d) (nAt q) := by
  have e : rd (W0 m d) main_v13 = fun y => broadcastInDim S8x128 ![1] bcast_S128_S8x128_1 (extractStridedSlice S128 ![256] (arg7 m d) slices_S384_S128_256) y := by
    unfold W0
    after_reads_simp
  unfold entries
  rw [e]
  pointwise

theorem v11_eq (c : Fin 384) : rd (W0 m d) main_v11 (ix2 (0 : Fin 8) c) = entries (arg6 m d) c + folded (entries (arg7 m d)) c := by
  have e : rd (W0 m d) main_v11 = fun y => broadcastInDim S8x384 ![1] bcast_S384_S8x384_1 (addf (arg6 m d)
      (concatenate S384 0 [⟨S256, extractStridedSlice S256 ![0] (arg7 m d) slices_S384_S256_0⟩,
        ⟨S128, broadcastInDim S128 ![] bcast_S_S128 (constant (F := Ideal) S_ .f32 0x00000000#32)⟩] concatenates_S256_S128_S384_d0)) y := by
    unfold W0
    after_reads_simp
    rfl
  unfold entries folded
  rw [e]
  pointwise
  split <;> rfl

/-- Node `16 s + e` of a half is example `e` at step `s`. -/
abbrev nodeAt (s : Fin 1024) (e : Fin 16) : Fin 16384 := ⟨16 * s.val + e.val, by omega⟩

theorem cast_rows (x : FVec Ideal S16384x128 .f32) (s : Fin 1024) (e : Fin 16) (q : Fin 128) :
    shapeCast S1024x16x128 x shapeCasts_S16384x128_S1024x16x128 (ix3 s e q) = x (ix2 (nodeAt s e) q) := by
  pointwise
  refine congrArg x (funext fun a => ?_)
  match a with
  | 0 => exact Fin.ext (show _ = 16 * s.val + e.val by pointwise; omega)
  | 1 => rfl

/-- Its row of the table. -/
theorem word_node (e : Fin 16) (s : ℕ) (hs : s < 2048) (n : Fin 32768) (hn : n.val = 16 * s + e.val) :
    permOf m d n = arg1 m d (ix2 e (⟨s % 4096, Nat.mod_lt _ (by decide)⟩ : Fin 4096)) :=
  congrArg (m (d, Proc.devRef .tc main_arg1)) (funext fun a => match a with
    | 0 => Fin.ext (show n.val % 16 = e.val by omega)
    | 1 => Fin.ext (show n.val / 16 = s % 4096 by omega))

/-- A gather of the nodes from step `s0` on reads every example's inputs. -/
theorem gather_rows (I : S32x4x128.Idx → BitVec 32) (s0 : ℕ) (h0 : s0 + 1024 ≤ 2048)
    (hI : ∀ n : Fin 16384, wordAt I n = (permOf m d ⟨16 * s0 + n.val, by omega⟩).toNat) (s : Fin 1024) (e : Fin 16) (q : Fin 128) :
    gatherOf I (arg0 m d) (ix2 (nodeAt s e) q) = input (arg0 m d) (arg1 m d) e (s0 + s.val) q := by
  refine congrArg (arg0 m d) (funext fun a => ?_)
  match a with
  | 0 =>
    refine Fin.ext (congrArg (· % 32768) ((hI (nodeAt s e)).trans (congrArg BitVec.toNat ?_)))
    exact word_node m d e (s0 + s.val) (by omega) _ (show 16 * s0 + (16 * s.val + e.val) = _ by omega)
  | 1 => rfl

theorem v19_eq (s : Fin 1024) (e : Fin 16) (q : Fin 128) : rd (X0 m d) main_v19 (ix3 s e q) = input (arg0 m d) (arg1 m d) e (0 + s.val) q := by
  have k : rd (X0 m d) main_v19 = rd (W1 m d) main_v19 := by
    unfold X0 W1'
    rw [keepC _ _ (by decide), keepU _ _ _ _ (by decide)]
  have r : rd (W1 m d) main_v19 = fun y => shapeCast S1024x16x128 (rd (W0' m d) main_v18) shapeCasts_S16384x128_S1024x16x128 y := by
    unfold W1
    after_reads_simp
    rfl
  have g : rd (W0' m d) main_v18 = gatherOf (rd (W0 m d) main_v4) (rd (W0 m d) main_arg0) := Function.update_self _ _ _
  have a : rd (W0 m d) main_arg0 = arg0 m d := keepA _ _ (by decide)
  rw [k, r, g, a]
  refine (cast_rows _ s e q).trans ?_
  exact gather_rows m d _ 0 (by omega) (fun n => (word4 m d n).trans (congrArg (fun n => (permOf m d n).toNat) (Fin.ext (show n.val = 16 * 0 + n.val by omega)))) s e q

theorem v21_eq (s : Fin 1024) (e : Fin 16) (q : Fin 128) : rd (X0 m d) main_v21 (ix3 s e q) = input (arg0 m d) (arg1 m d) e (1024 + s.val) q := by
  have r : rd (X0 m d) main_v21 = fun y => shapeCast S1024x16x128 (rd (W1' m d) main_v20) shapeCasts_S16384x128_S1024x16x128 y := by
    unfold X0
    after_reads_simp
    rfl
  have g : rd (W1' m d) main_v20 = gatherOf (rd (W1 m d) main_v6) (rd (W1 m d) main_arg0) := Function.update_self _ _ _
  have a : rd (W1 m d) main_arg0 = arg0 m d := by
    unfold W1 W0'
    rw [keepB _ _ (by decide), keepU _ _ _ _ (by decide)]
    exact keepA _ _ (by decide)
  rw [r, g, a, W1_v6]
  refine (cast_rows _ s e q).trans ?_
  exact gather_rows m d _ 1024 (by omega) (fun n => word6 m d n) s e q

theorem v22_eq (e : Fin 16) : rowAt (rd (X0 m d) main_v22) e = fun _ => 0 := by
  have r : rd (X0 m d) main_v22 = fun y => broadcastInDim S16x128 ![] bcast_S_S16x128 (constant (F := Ideal) S_ .f32 0x00000000#32) y := by
    unfold X0
    after_reads_simp
  funext q
  unfold rowAt
  rw [r]
  pointwise

/-- The kernel's step, in its own weights and biases, leads from each state to the next. -/
theorem next_eq (e : Fin 16) (s : ℕ) : H m d e (s + 1) = kernelStep (weights (rd (W0 m d) main_v17)) (fun q => rd (W0 m d) main_v13 (ix2 0 q))
    (fun c => times (weights (rd (W0 m d) main_v15)) (input (arg0 m d) (arg1 m d) e s) c + rd (W0 m d) main_v11 (ix2 0 c)) (H m d e s) := by
  rw [v17_eq, v15_eq, funext (v13_eq m d), show (fun c => times (rowsOf (arg4 m d)) (input (arg0 m d) (arg1 m d) e s) c + rd (W0 m d) main_v11 (ix2 0 c))
    = fun c => times (rowsOf (arg4 m d)) (input (arg0 m d) (arg1 m d) e s) c + (entries (arg6 m d) c + folded (entries (arg7 m d)) c) from
    funext fun c => congrArg (_ + ·) (v11_eq m d c)]
  exact state_next _ _ _ _ _ _ e s

theorem meets0 : Meets (X0 m d (Proc.devRef .tc main_v19)) (X0 m d (Proc.devRef .tc main_v15)) (X0 m d (Proc.devRef .tc main_v17))
    (X0 m d (Proc.devRef .tc main_v11)) (X0 m d (Proc.devRef .tc main_v13)) (X0 m d (Proc.devRef .tc main_v22))
    (input (arg0 m d) (arg1 m d)) (H m d) 0 where
  input s e := funext (v19_eq m d s e)
  start e := v22_eq m d e
  next e s := by
    have k := X0_keep m d
    rw [next_eq m d e s, ← k main_v17 (by decide), ← k main_v15 (by decide), ← k main_v13 (by decide), ← k main_v11 (by decide)]

/-- The first half leaves the states after steps 1 to 1024. -/
theorem v24_eq (s : Fin 1024) (e : Fin 16) (q : Fin 128) : rd (X0' m d) main_v24_0 (ix3 s e q) = H m d e (s.val + 1) q := by
  have r : rd (X0' m d) main_v24_0 = (dat2 (X0 m) d).arrAt 6 cfg2.N := Pipeline.afterRegion_arr (dat2 (X0 m) d) (X0 m d) winFacts2.arr_inj 6
  rw [r, half2_all (V := X0 m) (c := d) (meets0 m d) s e q, Nat.zero_add]

theorem v24_last (e : Fin 16) : rowAt (rd (X0' m d) main_v24_1) e = H m d e 1024 := by
  have r : rd (X0' m d) main_v24_1 = (dat2 (X0 m) d).arrAt 7 cfg2.N := Pipeline.afterRegion_arr (dat2 (X0 m) d) (X0 m d) winFacts2.arr_inj 7
  rw [r, half2_last (V := X0 m) (c := d) (meets0 m d) e]

theorem X1_v24 : rd (X1 m d) main_v24_1 = rd (X0' m d) main_v24_1 := by
  unfold X1 W2
  rw [keepU _ _ _ _ (by decide), keepD _ _ (by decide)]

theorem meets1 : Meets (X1 m d (Proc.devRef .tc main_v21)) (X1 m d (Proc.devRef .tc main_v15)) (X1 m d (Proc.devRef .tc main_v17))
    (X1 m d (Proc.devRef .tc main_v11)) (X1 m d (Proc.devRef .tc main_v13)) (X1 m d (Proc.devRef .tc main_v24_1))
    (input (arg0 m d) (arg1 m d)) (H m d) 1024 where
  input s e := funext fun q => (congrFun (X1_keep m d main_v21 (by decide)) _).trans (v21_eq m d s e q)
  start e := (congrArg (rowAt · e) (X1_v24 m d)).trans (v24_last m d e)
  next e s := by
    have k := fun r h h' => (X1_keep m d r h).trans (X0_keep m d r h')
    rw [next_eq m d e s, ← k main_v17 (by decide) (by decide), ← k main_v15 (by decide) (by decide), ← k main_v13 (by decide) (by decide),
      ← k main_v11 (by decide) (by decide)]

/-- The second half leaves those after steps 1025 to 2048. -/
theorem v27_eq (s : Fin 1024) (e : Fin 16) (q : Fin 128) : rd (X1' m d) main_v27_0 (ix3 s e q) = H m d e (1024 + s.val + 1) q := by
  have r : rd (X1' m d) main_v27_0 = (dat4 (X1 m) d).arrAt 6 cfg4.N := Pipeline.afterRegion_arr (dat4 (X1 m) d) (X1 m d) winFacts4.arr_inj 6
  rw [r, half4_all (V := X1 m) (c := d) (meets1 m d) s e q]

end Cert.Proof.Equation

end
-- ==== Proof.Equation.Output.lean ====
/-
  What the kernel's result holds: at the row an example reads at a step, the state after that step.
-/
module

public import proofs.«01_k».proof.Proof.Equation.Inputs

@[expose] public section

set_option maxRecDepth 16384

noncomputable section

namespace Cert.Proof.Equation

open Cert.KernelIdeal Cert.KernelIdeal.Gen
open Cert.Proof.KernelIdeal hiding ix2 ix3
open Idealize.ShloMosaic

variable (m : (ℓ : Loc nD τ sig) → Buf (Elt Ideal) ℓ) (d : Dev nD)

/-- The states of a half, laid end to end. -/
theorem flat_rows (y : FVec Ideal S1024x16x128 .f32) (s : Fin 1024) (e : Fin 16) (q : Fin 128) :
    shapeCast S16384x128 y shapeCasts_S1024x16x128_S16384x128 (ix2 (nodeAt s e) q) = y (ix3 s e q) := by
  pointwise
  refine congrArg y (funext fun a => ?_)
  match a with
  | 0 => exact Fin.ext (show (16 * s.val + e.val) / 16 = s.val by omega)
  | 1 => exact Fin.ext (show (16 * s.val + e.val) % 16 = e.val by omega)
  | 2 => rfl

theorem v25_eq (s : Fin 1024) (e : Fin 16) (q : Fin 128) : rd (W2 m d) main_v25 (ix2 (nodeAt s e) q) = H m d e (s.val + 1) q := by
  have r : rd (W2 m d) main_v25 = fun y => shapeCast S16384x128 (rd (X0' m d) main_v24_0) shapeCasts_S1024x16x128_S16384x128 y := by
    unfold W2
    after_reads_simp
    rfl
  rw [r]
  exact (flat_rows _ s e q).trans (v24_eq m d s e q)

theorem v28_eq (s : Fin 1024) (e : Fin 16) (q : Fin 128) : rd (W3 m d) main_v28 (ix2 (nodeAt s e) q) = H m d e (1024 + s.val + 1) q := by
  have r : rd (W3 m d) main_v28 = fun y => shapeCast S16384x128 (rd (X1' m d) main_v27_0) shapeCasts_S1024x16x128_S16384x128 y := by
    unfold W3
    after_reads_simp
    rfl
  rw [r]
  exact (flat_rows _ s e q).trans (v27_eq m d s e q)

/-- The result: the second scatter over the first. -/
theorem end_eq : rd (Wend m d) main_v23 = scatterOf (rd (W0 m d) main_v6) (rd (W3 m d) main_v28) (rd (W3 m d) main_v23) := by
  rw [← W3_v6]
  exact Function.update_self _ _ _

theorem mid_eq : rd (W3 m d) main_v23 = scatterOf (rd (W0 m d) main_v4) (rd (W2 m d) main_v25) (rd (W2 m d) main_v23) := by
  rw [← W2_v4]
  unfold W3 X1'
  rw [keepE _ _ (by decide), keep4 _ _ _ (by decide) (by decide)]
  exact Function.update_self _ _ _

variable (h : PermOK m)

include h

theorem node_eq (e : Fin 16) (s : ℕ) (hs : s < 2048) (n : Fin 32768) (hn : n.val = 16 * s + e.val) :
    (permOf m d n).toNat = (node (arg1 m d) e s).val := by
  rw [show (node (arg1 m d) e s).val = (permOf m d n).toNat % 32768 by rw [word_node m d e s hs n hn]; rfl]
  exact (Nat.mod_eq_of_lt ((h d).1 n)).symm

theorem kernel_value (e : Fin 16) (s : ℕ) (hs : s < 2048) (q : Fin 128) :
    rd (Wend m d) main_v23 (ix2 (node (arg1 m d) e s) q) = H m d e (s + 1) q := by
  rw [end_eq]
  by_cases c : s < 1024
  · rw [scatterOf_miss, mid_eq]
    · refine (scatterOf_hit (ok4 m h d).2 _ _ _ (nodeAt ⟨s, c⟩ e) ?_).trans (v25_eq m d ⟨s, c⟩ e q)
      exact (word4 m d _).trans (node_eq m d h e s hs _ rfl)
    · rintro ⟨n, hn⟩
      rw [word6, show ((ix2 (node (arg1 m d) e s) q : S32768x128.Idx) 0).val = (permOf m d ⟨16 * s + e.val, by omega⟩).toNat from
        (node_eq m d h e s hs _ rfl).symm] at hn
      have := Fin.mk.inj ((h d).2 hn)
      omega
  · obtain ⟨k, rfl⟩ : ∃ k, s = 1024 + k := ⟨s - 1024, by omega⟩
    refine (scatterOf_hit (ok6 m h d).2 _ _ _ (nodeAt ⟨k, by omega⟩ e) ?_).trans (v28_eq m d ⟨k, by omega⟩ e q)
    exact (word6 m d _).trans (node_eq m d h e _ hs _ (show 16384 + (16 * k + e.val) = 16 * (1024 + k) + e.val by omega))

end Cert.Proof.Equation

end
-- ==== Proof.Equation.Trip.lean ====
/-
  One trip of the reference's loop, read at an index: the problem's step on every example whose slot is valid.
-/
module

public import proofs.«01_k».proof.Proof.Equation.Problem
public import proofs.«01_k».proof.Proof.Gen.ReferenceIdeal.Run
public import Idealize.ShloMosaic.Lib.IdealHost

@[expose] public section

set_option maxRecDepth 16384

noncomputable section

namespace Cert.Proof.Equation

open Cert.ReferenceIdeal Cert.ReferenceIdeal.Gen Cert.ReferenceIdeal.Value
open Idealize.ShloMosaic

/-- A trip's number read as an integer. -/
theorem trip_toInt (k : Fin 4096) : (BitVec.ofNat 32 k.val).toInt = k.val := by
  rw [BitVec.toInt_eq_toNat_cond, BitVec.toNat_ofNat, Nat.mod_eq_of_lt (by omega), if_pos (by omega)]

/-- The slice of one step, -/
theorem slice_rows {α : Type} (k : Fin 4096) (X : S4096x16x128.Idx → α) (start : Fin 3 → Int) (h0 : start 0 = k.val) (h1 : start 1 = (0 : ℕ))
    (h2 : start 2 = (0 : ℕ)) : shapeCast S16x128 (Host.dynamicSlice S1x16x128 X start sliceFits_S4096x16x128_S1x16x128) shapeCasts_S1x16x128_S16x128
      = fun y => X (ix3 k (y 0) (y 1)) := by
  funext y
  rw [eq_ix2 y]
  pointwise
  refine congrArg X (funext fun a => ?_)
  match a with
  | 0 => exact Fin.ext (Host.clampedStart_of_le (s := S4096x16x128) (t := S1x16x128) rfl start 0 k.val h0 (Nat.succ_le_of_lt k.isLt))
  | 1 => exact Fin.ext ((congrArg (· + (y 0).val) (Host.clampedStart_of_le _ _ 1 0 h1 (by decide))).trans (Nat.zero_add _))
  | 2 => exact Fin.ext ((congrArg (· + (y 1).val) (Host.clampedStart_of_le _ _ 2 0 h2 (by decide))).trans (Nat.zero_add _))

/-- and of its mask. -/
theorem slice_mask {α : Type} (k : Fin 4096) (X : S4096x16.Idx → α) (start : Fin 2 → Int) (h0 : start 0 = k.val) (h1 : start 1 = (0 : ℕ)) :
    shapeCast S16 (Host.dynamicSlice S1x16 X start sliceFits_S4096x16_S1x16) shapeCasts_S1x16_S16 = fun y => X (ix2 k (y 0)) := by
  funext y
  rw [eq_ix1 y]
  pointwise
  refine congrArg X (funext fun a => ?_)
  match a with
  | 0 => exact Fin.ext (Host.clampedStart_of_le (s := S4096x16) (t := S1x16) rfl start 0 k.val h0 (Nat.succ_le_of_lt k.isLt))
  | 1 => exact Fin.ext ((congrArg (· + (y 0).val) (Host.clampedStart_of_le _ _ 1 0 h1 (by decide))).trans (Nat.zero_add _))

/-- The update of one step. -/
theorem update_rows {α : Type} (k : Fin 4096) (X : S4096x16x128.Idx → α) (U : S16x128.Idx → α) (start : Fin 3 → Int) (h0 : start 0 = k.val)
    (h1 : start 1 = (0 : ℕ)) (h2 : start 2 = (0 : ℕ)) (s : Fin 4096) (e : Fin 16) (q : Fin 128) :
    Host.dynamicUpdateSlice X (broadcastInDim S1x16x128 ![1, 2] bcast_S16x128_S1x16x128_1_2 U) start updateFits_S4096x16x128_S1x16x128 (ix3 s e q)
      = if s = k then U (ix2 e q) else X (ix3 s e q) := by
  have c0 := Host.clampedStart_of_le (s := S4096x16x128) (t := S1x16x128) rfl start 0 k.val h0 (Nat.succ_le_of_lt k.isLt)
  have c1 := Host.clampedStart_of_le (s := S4096x16x128) (t := S1x16x128) rfl start 1 0 h1 (by decide)
  have c2 := Host.clampedStart_of_le (s := S4096x16x128) (t := S1x16x128) rfl start 2 0 h2 (by decide)
  by_cases c : s = k
  · subst c
    rw [Host.dynamicUpdateSlice_apply, if_pos rfl, dif_pos fun a => match a with
      | 0 => ⟨c0.le, lt_of_lt_of_eq (Nat.lt_succ_self _) (congrArg (· + 1) c0.symm)⟩
      | 1 => ⟨c1.le.trans (Nat.zero_le _), lt_of_lt_of_eq e.isLt ((Nat.zero_add 16).symm.trans (congrArg (· + 16) c1.symm))⟩
      | 2 => ⟨c2.le.trans (Nat.zero_le _), lt_of_lt_of_eq q.isLt ((Nat.zero_add 128).symm.trans (congrArg (· + 128) c2.symm))⟩]
    pointwise
    refine congrArg U (funext fun a => ?_)
    match a with
    | 0 => exact Fin.ext (congrArg (e.val - ·) c1)
    | 1 => exact Fin.ext (congrArg (q.val - ·) c2)
  · rw [Host.dynamicUpdateSlice_apply, if_neg c, dif_neg fun g => c ?_]
    obtain ⟨g1, g2⟩ := g 0
    refine Fin.ext (Nat.le_antisymm (Nat.le_of_lt_succ ?_) (c0.symm.le.trans g1))
    exact lt_of_lt_of_eq g2 (congrArg (· + 1) c0)

variable (V : Valuation τ sig (Elt Ideal))

/-- What a reference holds. -/
abbrev at' (r : Ref sig .tc) : r.ty.Contents (Elt Ideal) := V (Proc.devRef .tc r)

/-- The input's half of the gates, -/
def gi (e : Fin 16) (c : Fin 384) : EReal := res_main_while0b_v37 V (ix2 e c)
/-- the state's half, -/
def gh (e : Fin 16) (c : Fin 384) : EReal := res_main_while0b_v42 V (ix2 e c)
/-- and the update gate. -/
def gz (e : Fin 16) (j : Fin 128) : EReal := res_main_while0b_v62 V (ix2 e j)

theorem trip_gh (e : Fin 16) (c : Fin 384) : gh V e c
    = times (rowsOf (at' V main_v13_4)) (fun q => at' V main_v13_7 (ix2 e q)) c + entries (at' V main_v13_5) c := by
  unfold gh res_main_while0b_v42 times rowsOf entries
  pointwise

theorem trip_z (e : Fin 16) (j : Fin 128) : gz V e j = Ideal.logistic (gi V e (zAt j) + gh V e (zAt j)) := by
  unfold gz res_main_while0b_v62 Ideal.logistic
  pointwise
  rfl

variable (k : Fin 4096) (hk : at' V main_v13_6 = fun _ => BitVec.ofNat 32 k.val)

include hk

theorem trip_gi (e : Fin 16) (c : Fin 384) : gi V e c
    = times (rowsOf (at' V main_v13_2)) (fun q => at' V main_v13_0 (ix3 k e q)) c + entries (at' V main_v13_3) c := by
  unfold gi res_main_while0b_v37 times rowsOf entries
  rw [show V (Proc.devRef .tc main_v13_6) = _ from hk, slice_rows k _ _ (trip_toInt k) rfl rfl]
  pointwise

theorem trip_h (e : Fin 16) (j : Fin 128) : res_main_while0b_v72 V (ix2 e j)
    = if at' V main_v13_1 (ix2 k e) = 1#1 then
        step (rowsOf (at' V main_v13_4)) (entries (at' V main_v13_5))
          (fun c => times (rowsOf (at' V main_v13_2)) (fun q => at' V main_v13_0 (ix3 k e q)) c + entries (at' V main_v13_3) c)
          (fun q => at' V main_v13_7 (ix2 e q)) j
      else at' V main_v13_7 (ix2 e j) := by
  simp only [step, newGate, ← trip_gi V k hk, ← trip_gh V, ← trip_z V]
  unfold res_main_while0b_v72 Ideal.logistic
  rw [show V (Proc.devRef .tc main_v13_6) = _ from hk, slice_mask k _ _ (trip_toInt k) rfl]
  pointwise
  rfl

/-- The states so far, with this trip's laid in its place. -/
theorem trip_ys (s : Fin 4096) (e : Fin 16) (q : Fin 128) : step_main_v13_8 V (ix3 s e q)
    = if s = k then res_main_while0b_v72 V (ix2 e q) else at' V main_v13_8 (ix3 s e q) := by
  unfold step_main_v13_8
  rw [show V (Proc.devRef .tc main_v13_6) = _ from hk]
  simp only [id_eq]
  exact update_rows k (at' V main_v13_8) (res_main_while0b_v72 V) _ (trip_toInt k) rfl rfl s e q

/-! ## All the trips -/

omit hk

theorem trips_keep (r : Ref sig .tc) (h6 : r ≠ main_v13_6) (h7 : r ≠ main_v13_7) (h8 : r ≠ main_v13_8) : ∀ n, at' (STEP^[n] V) r = at' V r
  | 0 => rfl
  | n + 1 => by
    rw [Function.iterate_succ_apply', at', STEP, Function.update_of_ne (fun e => h8 (Proc.devRef_injective _ e)), Function.update_of_ne (fun e => h7 (Proc.devRef_injective _ e)),
      Function.update_of_ne (fun e => h6 (Proc.devRef_injective _ e))]
    exact trips_keep r h6 h7 h8 n

theorem trips_counter (h : at' V main_v13_6 = fun _ => 0#32) : ∀ n, at' (STEP^[n] V) main_v13_6 = fun _ => BitVec.ofNat 32 n
  | 0 => h
  | n + 1 => by
    rw [Function.iterate_succ_apply', at', STEP_main_v13_6, step_main_v13_6, show (STEP^[n] V) (Proc.devRef .tc main_v13_6) = _ from trips_counter h n]
    funext y
    show BitVec.ofNat 32 n + 1#32 = BitVec.ofNat 32 (n + 1)
    rw [BitVec.ofNat_add]

/-- What the loop starts from. -/
structure Starts (x : FVec Ideal S32768x128 .f32) (perm : IVec S16x4096 32) (wi wh : FVec Ideal S384x128 .f32) (bi bh : FVec Ideal S384 .f32) : Prop where
  counter : at' V main_v13_6 = fun _ => 0#32
  input : ∀ (k : Fin 4096) (_ : k.val < 2048) (e : Fin 16), ((fun q => at' V main_v13_0 (ix3 k e q)) : Row) = input x perm e k.val
  mask : ∀ (k : Fin 4096) (_ : k.val < 2048) (e : Fin 16), at' V main_v13_1 (ix2 k e) = 1#1
  wi : at' V main_v13_2 = wi
  bi : at' V main_v13_3 = bi
  wh : at' V main_v13_4 = wh
  bh : at' V main_v13_5 = bh
  start : ∀ e : Fin 16, ((fun q => at' V main_v13_7 (ix2 e q)) : Row) = fun _ => (0 : EReal)

variable {V} {x : FVec Ideal S32768x128 .f32} {perm : IVec S16x4096 32} {wi wh : FVec Ideal S384x128 .f32} {bi bh : FVec Ideal S384 .f32}
  (h : Starts V x perm wi wh bi bh)

include h

/-- The state after each valid step. -/
theorem trips_state (e : Fin 16) : ∀ n ≤ 2048, ((fun q => at' (STEP^[n] V) main_v13_7 (ix2 e q)) : Row) = state x perm wi wh bi bh e n
  | 0, _ => h.start e
  | n + 1, hn => by
    have keep := fun r h6 h7 h8 => trips_keep V r h6 h7 h8 n
    funext q
    rw [Function.iterate_succ_apply', at', STEP_main_v13_7, step_main_v13_7, id_eq,
      trip_h (STEP^[n] V) ⟨n, by omega⟩ (trips_counter V h.counter n) e q, trips_state e n (by omega),
      keep main_v13_1 (by decide) (by decide) (by decide), keep main_v13_0 (by decide) (by decide) (by decide),
      keep main_v13_2 (by decide) (by decide) (by decide), keep main_v13_3 (by decide) (by decide) (by decide),
      keep main_v13_4 (by decide) (by decide) (by decide), keep main_v13_5 (by decide) (by decide) (by decide),
      h.mask ⟨n, by omega⟩ (show n < 2048 by omega) e, h.input ⟨n, by omega⟩ (show n < 2048 by omega) e, h.wi, h.bi, h.wh, h.bh, if_pos rfl]
    rfl

/-- What is laid at a valid step, once its trip is over. -/
theorem trips_ys (s : Fin 4096) (hs : s.val < 2048) (e : Fin 16) (q : Fin 128) : ∀ n, s.val < n → n ≤ 4096 →
    at' (STEP^[n] V) main_v13_8 (ix3 s e q) = state x perm wi wh bi bh e (s.val + 1) q
  | 0, h0, _ => absurd h0 (by omega)
  | n + 1, hn, hm => by
    rw [Function.iterate_succ_apply', at', STEP_main_v13_8, trip_ys (STEP^[n] V) ⟨n, by omega⟩ (trips_counter V h.counter n) s e q]
    by_cases c : s.val = n
    · rw [if_pos (Fin.ext c), ← trips_state h e (s.val + 1) (by omega), c, Function.iterate_succ_apply', at', STEP_main_v13_7]
      rfl
    · rw [if_neg fun e => c (congrArg Fin.val e)]
      exact trips_ys s hs e q n (by omega) (by omega)

end Cert.Proof.Equation

end
-- ==== Proof.Equation.Rows.lean ====
/-
  The reference's gather and scatter, row by row.
-/
module

public import proofs.«01_k».proof.Proof.Gen.ReferenceIdeal
public import Idealize.ShloMosaic.Lib.Pointwise
public import Idealize.ShloMosaic.Lib.Routing.OpsSet

@[expose] public section

set_option maxRecDepth 16384

noncomputable section

namespace Cert.Proof.Equation

open Cert.ReferenceIdeal Cert.ReferenceIdeal.Gen
open Idealize.ShloMosaic

/-- The gather brings to slot `k` of example `e` the row its index names. -/
theorem gather_at {α : Type} (x : S32768x128.Idx → α) (idx : IVec S16x4096x1 32) (e : Fin 16) (k : Fin 4096) (q : Fin 128) (n : Fin 32768)
    (h : (idx (ix3 e k 0)).toInt = n.val) : Host.gather gather_S32768x128_S16x4096x1_S16x4096x128_2_0_n_n_0_2_1128 x idx (ix3 e k q) = x (ix2 n q) := by
  unfold Host.gather
  refine congrArg x (funext fun a => Fin.ext ?_)
  match a with
  | 0 =>
    show GatherDims.start gather_S32768x128_S16x4096x1_S16x4096x128_2_0_n_n_0_2_1128 (ix3 e k q) idx 0 + GatherDims.batchCoord gather_S32768x128_S16x4096x1_S16x4096x128_2_0_n_n_0_2_1128 (ix3 e k q) 0 + GatherDims.offCoord gather_S32768x128_S16x4096x1_S16x4096x128_2_0_n_n_0_2_1128 (ix3 e k q) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32768x128_S16x4096x1_S16x4096x128_2_0_n_n_0_2_1128 from List.mem_singleton.mpr rfl)]
    have hsi : GatherDims.siIdx gather_S32768x128_S16x4096x1_S16x4096x128_2_0_n_n_0_2_1128 (ix3 e k q) ⟨List.idxOf (0 : Fin 2) (GatherDims.startIndexMap gather_S32768x128_S16x4096x1_S16x4096x128_2_0_n_n_0_2_1128),
        List.idxOf_lt_length_iff.2 (List.mem_singleton.mpr rfl)⟩ = ix3 e k 0 := by
      funext b; refine Fin.ext ?_
      match b with
      | 0 => rfl
      | 1 => rfl
      | 2 => rfl
    rw [hsi, h]
    show min ((n.val : Int)).toNat (32768 - 1) = n.val
    omega
  | 1 =>
    show GatherDims.start gather_S32768x128_S16x4096x1_S16x4096x128_2_0_n_n_0_2_1128 (ix3 e k q) idx 1 + GatherDims.batchCoord gather_S32768x128_S16x4096x1_S16x4096x128_2_0_n_n_0_2_1128 (ix3 e k q) 1 + GatherDims.offCoord gather_S32768x128_S16x4096x1_S16x4096x128_2_0_n_n_0_2_1128 (ix3 e k q) 1 = q.val
    rw [GatherDims.batchCoord_eq_zero _ _ _ List.not_mem_nil]
    unfold GatherDims.start
    rw [dif_neg (show (1 : Fin 2) ∉ GatherDims.startIndexMap gather_S32768x128_S16x4096x1_S16x4096x128_2_0_n_n_0_2_1128 by show (1 : Fin 2) ∉ [0]; decide)]
    show 0 + 0 + q.val = q.val
    omega

/-- Entry `(i, q')` of the updates lands at entry `(r, q)` exactly when slot `i` names row `r` and the columns are the same. -/
theorem lands_at (idx : IVec S65536x1 32) (i : Fin 65536) (q' : Fin 128) (r : Fin 32769) (q : Fin 128) :
    ScatterDims.resultIdx? scatter_S32769x128_S65536x1_S65536x128_1_0_0_1 (ix2 i q') idx = some (ix2 r q) ↔ (idx (ix2 i 0)).toInt = r.val ∧ q' = q := by
  have s0 : ScatterDims.start scatter_S32769x128_S65536x1_S65536x128_1_0_0_1 (ix2 i q') idx 0 = (idx (ix2 i 0)).toInt := by
    unfold ScatterDims.start
    rw [dif_pos (show (0 : Fin 2) ∈ ScatterDims.scatterDimsToOperandDims scatter_S32769x128_S65536x1_S65536x128_1_0_0_1 from List.mem_singleton.mpr rfl)]
    refine congrArg (fun j => (idx j).toInt) (funext fun b => Fin.ext ?_)
    match b with
    | 0 => rfl
    | 1 => rfl
  have s1 : ScatterDims.start scatter_S32769x128_S65536x1_S65536x128_1_0_0_1 (ix2 i q') idx 1 = 0 := by
    unfold ScatterDims.start
    rw [dif_neg (show (1 : Fin 2) ∉ ScatterDims.scatterDimsToOperandDims scatter_S32769x128_S65536x1_S65536x128_1_0_0_1 by show (1 : Fin 2) ∉ [0]; decide)]
  have w0 : ScatterDims.window scatter_S32769x128_S65536x1_S65536x128_1_0_0_1 (ix2 i q') 0 = 0 := rfl
  have w1 : ScatterDims.window scatter_S32769x128_S65536x1_S65536x128_1_0_0_1 (ix2 i q') 1 = q'.val := rfl
  rw [Routing.resultIdx?_eq_some]
  constructor
  · intro h
    have h0 := h 0
    have h1 := h 1
    rw [s0, w0] at h0
    rw [s1, w1] at h1
    have h0' : (idx (ix2 i 0)).toInt + ((0 : ℕ) : ℤ) = r.val := h0
    have h1' : (0 : ℤ) + q'.val = q.val := h1
    exact ⟨by omega, Fin.ext (by omega)⟩
  · rintro ⟨h0, rfl⟩ a
    match a with
    | 0 => rw [s0, w0, h0]; exact add_zero _
    | 1 => rw [s1, w1]; exact zero_add _

/-- A row that only one slot names holds that slot's update. -/
theorem scatter_at {α : Type} (x : S32769x128.Idx → α) (idx : IVec S65536x1 32) (u : S65536x128.Idx → α) (i : Fin 65536) (r : Fin 32769) (q : Fin 128)
    (h : (idx (ix2 i 0)).toInt = r.val) (only : ∀ j : Fin 65536, (idx (ix2 j 0)).toInt = r.val → j = i) :
    Host.scatter scatter_S32769x128_S65536x1_S65536x128_1_0_0_1 (fun _ b => b) x idx u (ix2 r q) = u (ix2 i q) := by
  refine Routing.scatter_set_hit scatter_S32769x128_S65536x1_S65536x128_1_0_0_1 x idx u (ix2 r q) _ (fun k hk => ?_) (ix2 i q) ((lands_at idx i q r q).2 ⟨h, rfl⟩)
  rw [eq_ix2 k] at hk ⊢
  obtain ⟨h0, h1⟩ := (lands_at idx (k 0) (k 1) r q).1 hk
  rw [only _ h0, h1]

end Cert.Proof.Equation

end
-- ==== Proof.Equation.Reference.lean ====
/-
  What the reference's result holds: at the row an example reads at a valid step, the state after that step.
-/
module

public import proofs.«01_k».proof.Proof.Equation.Trip
public import proofs.«01_k».proof.Proof.Equation.Rows
public import proofs.«01_k».proof.Proof.Pre
public import Idealize.ShloMosaic.Lib.StableHlo.RunRead

@[expose] public section

set_option maxRecDepth 16384

noncomputable section

namespace Cert.Proof.Equation.Reference

open Cert.ReferenceIdeal Cert.ReferenceIdeal.Gen Cert.ReferenceIdeal.Value
open Idealize.ShloMosaic Idealize.ShloMosaic.StableHlo

variable (m : (ℓ : Loc nD τ sig) → Buf (Elt Ideal) ℓ) (c : Dev nD)

/-- The reference's arguments on a device. -/
abbrev arg0 : FVec Ideal S32768x128 .f32 := m (c.tc.loc main_arg0)
abbrev arg1 : IVec S16x4096 32 := m (c.tc.loc main_arg1)
abbrev arg2 : IVec S16x4096 1 := m (c.tc.loc main_arg2)
abbrev arg3 : IVec S16 32 := m (c.tc.loc main_arg3)
abbrev arg4 : FVec Ideal S384x128 .f32 := m (c.tc.loc main_arg4)
abbrev arg5 : FVec Ideal S384x128 .f32 := m (c.tc.loc main_arg5)
abbrev arg6 : FVec Ideal S384 .f32 := m (c.tc.loc main_arg6)
abbrev arg7 : FVec Ideal S384 .f32 := m (c.tc.loc main_arg7)
/-- The states they lead to. -/
abbrev H : Fin 16 → ℕ → Row := state (arg0 m c) (arg1 m c) (arg4 m c) (arg5 m c) (arg6 m c) (arg7 m c)
/-- What the loop finds. -/
abbrev entry : Valuation τ sig (Elt Ideal) := entryContents preI m c

theorem entry_rows : at' (entry m c) main_v13_0 = fun y => transpose S4096x16x128 [1, 0, 2] (select
    (broadcastInDim S16x4096x128 ![0, 1, 2] bcast_S16x4096x1_S16x4096x128_0_1_2 (broadcastInDim S16x4096x1 ![0, 1] bcast_S16x4096_S16x4096x1_0_1 (arg2 m c)))
    (Host.gather gather_S32768x128_S16x4096x1_S16x4096x128_2_0_n_n_0_2_1128 (arg0 m c) (broadcastInDim S16x4096x1 ![0, 1] bcast_S16x4096_S16x4096x1_0_1
      (select (cmpi .slt (arg1 m c) (broadcastInDim S16x4096 ![] bcast_S_S16x4096 (constantI S_ 32 0#32)))
        (addi (arg1 m c) (broadcastInDim S16x4096 ![] bcast_S_S16x4096 (constantI S_ 32 32768#32))) (arg1 m c))))
    (broadcastInDim S16x4096x128 ![] bcast_S_S16x4096x128 (constant (F := Ideal) S_ .f32 0x00000000#32))) transposes_S16x4096x128_S4096x16x128_1_0_2 y := by
  simp only [at', entry, entryContents, afterL_cons, afterL_nil]
  after_reads_simp
  rfl

theorem entry_mask : at' (entry m c) main_v13_1 = fun y => transpose S4096x16 [1, 0] (arg2 m c) transposes_S16x4096_S4096x16_1_0 y := by
  simp only [at', entry, entryContents, afterL_cons, afterL_nil]
  after_reads_simp
  rfl

theorem entry_weights : at' (entry m c) main_v13_2 = arg4 m c ∧ at' (entry m c) main_v13_3 = arg6 m c ∧ at' (entry m c) main_v13_4 = arg5 m c
    ∧ at' (entry m c) main_v13_5 = arg7 m c := by
  refine ⟨?_, ?_, ?_, ?_⟩ <;>
  · simp only [at', entry, entryContents, afterL_cons, afterL_nil]
    after_reads_simp
    rfl

theorem entry_state : at' (entry m c) main_v13_7 = fun y => broadcastInDim S16x128 ![] bcast_S_S16x128 (constant (F := Ideal) S_ .f32 0x00000000#32) y := by
  simp only [at', entry, entryContents, afterL_cons, afterL_nil]
  after_reads_simp
  rfl

/-- A valid slot's mask as a number. -/
theorem valid_one : (FloatOps.uitofp .f32 (1#1 : BitVec 1) : Ideal .f32) = (1 : EReal) := by
  show (((1 : ℕ) : ℝ) : EReal) = 1
  norm_num

/-- The result is the scattered array without its last row. -/
theorem extract_row {α : Type} (X : S32769x128.Idx → α) (n : Fin 32768) (q : Fin 128) :
    extractStridedSlice S32768x128 ![0, 0] X slices_S32769x128_S32768x128_0_0 (ix2 n q) = X (ix2 (⟨n.val, by omega⟩ : Fin 32769) q) := by
  pointwise

variable [Cert.Pre_distinct_rows.Facts]
  (h : Cert.Pre_distinct_rows.fn (F := Ideal) (arg0 m c) (arg1 m c) (arg2 m c) (arg3 m c) (arg4 m c) (arg5 m c) (arg6 m c) (arg7 m c) = fun _ => 1#1)

include h

/-- A valid slot names its row, read either way. -/
theorem row_toNat (e : Fin 16) (s : Fin 4096) (hs : s.val < 2048) : (arg1 m c (ix2 e s)).toNat = (node (arg1 m c) e s.val).val := by
  have g : (arg1 m c (ix2 e s)).toNat < 32768 := pre_range h e s hs
  have k : (node (arg1 m c) e s.val).val = (arg1 m c (ix2 e (⟨s.val % 4096, Nat.mod_lt _ (by decide)⟩ : Fin 4096))).toNat % 32768 := rfl
  rw [k, show (⟨s.val % 4096, Nat.mod_lt _ (by decide)⟩ : Fin 4096) = s from Fin.ext (Nat.mod_eq_of_lt s.isLt), Nat.mod_eq_of_lt g]

theorem row_toInt (e : Fin 16) (s : Fin 4096) (hs : s.val < 2048) : (arg1 m c (ix2 e s)).toInt = (node (arg1 m c) e s.val).val
    ∧ (arg1 m c (ix2 e s)).toNat < 2 ^ (32 - 1) := by
  have g : (arg1 m c (ix2 e s)).toNat < 32768 := pre_range h e s hs
  refine ⟨?_, by omega⟩
  rw [BitVec.toInt_eq_toNat_cond, if_pos (by omega), row_toNat m c h e s hs]

theorem starts : Starts (entry m c) (arg0 m c) (arg1 m c) (arg4 m c) (arg5 m c) (arg6 m c) (arg7 m c) where
  counter := ctr_entry m c
  input k hk e := by
    funext q
    rw [entry_rows]
    pointwise
    rw [show arg2 m c (ix2 e k) = 1#1 from (pre_mask h e k).trans (if_pos hk)]
    refine (gather_at (arg0 m c) _ e k q (node (arg1 m c) e k.val) ?_)
    pointwise
    rw [Routing.wrap_of_lt _ _ (row_toInt m c h e k hk).2]
    exact (row_toInt m c h e k hk).1
  mask k hk e := by
    rw [entry_mask]
    pointwise
    exact (pre_mask h e k).trans (if_pos hk)
  wi := (entry_weights m c).1
  bi := (entry_weights m c).2.1
  wh := (entry_weights m c).2.2.1
  bh := (entry_weights m c).2.2.2
  start e := by
    funext q
    rw [entry_state]
    pointwise

/-- What the scatter reads of a slot: its row, where it is valid, and the row past the result elsewhere. -/
def slotRow : IVec S65536x1 32 := broadcastInDim S65536x1 ![0] bcast_S65536_S65536x1_0
  (let idx := shapeCast S65536 (select (arg2 m c) (arg1 m c) (broadcastInDim S16x4096 ![] bcast_S_S16x4096 (constantI S_ 32 32768#32))) shapeCasts_S16x4096_S65536
   select (cmpi .slt idx (broadcastInDim S65536 ![] bcast_S_S65536 (constantI S_ 32 0#32)))
    (addi idx (broadcastInDim S65536 ![] bcast_S_S65536 (constantI S_ 32 32769#32))) idx)

theorem slotRow_apply (i : Fin 65536) (e : Fin 16) (s : Fin 4096) (hi : i.val = 4096 * e.val + s.val) :
    (slotRow m c (ix2 i 0)).toInt = if s.val < 2048 then ((node (arg1 m c) e s.val).val : ℤ) else 32768 := by
  have e0 : (⟨i.val / 4096, by omega⟩ : Fin 16) = e := Fin.ext (show i.val / 4096 = e.val by omega)
  have s0 : (⟨i.val % 4096, by omega⟩ : Fin 4096) = s := Fin.ext (show i.val % 4096 = s.val by omega)
  unfold slotRow
  pointwise
  rw [e0, s0, pre_mask h e s]
  by_cases hs : s.val < 2048
  · rw [if_pos hs, if_pos hs, show ∀ a b : BitVec 32, Scalar.select 1#1 a b = a from fun _ _ => rfl, Routing.wrap_of_lt _ _ (row_toInt m c h e s hs).2]
    exact (row_toInt m c h e s hs).1
  · rw [if_neg hs, if_neg hs]
    rfl

theorem reference_value (e : Fin 16) (s : ℕ) (hs : s < 2048) (q : Fin 128) :
    out_main_v30 (STEP^[4096] (entry m c)) (ix2 (node (arg1 m c) e s) q) = H m c e (s + 1) q := by
  have lt := (node (arg1 m c) e s).isLt
  have sum : 4096 * e.val + s < 65536 := by omega
  unfold out_main_v30
  rw [iter_main_arg1, iter_main_arg2]
  refine (extract_row _ (node (arg1 m c) e s) q).trans ((scatter_at _ (slotRow m c) _ ⟨4096 * e.val + s, sum⟩ _ q ?_ fun j hj => ?_).trans ?_)
  · rw [slotRow_apply m c h _ e ⟨s, by omega⟩ rfl, if_pos hs]
  · rw [slotRow_apply m c h j ⟨j.val / 4096, by omega⟩ ⟨j.val % 4096, by omega⟩ (show j.val = 4096 * (j.val / 4096) + j.val % 4096 by omega)] at hj
    dsimp only at hj
    by_cases hm : j.val % 4096 < 2048
    · rw [if_pos hm] at hj
      obtain ⟨e1, e2⟩ := pre_inj h ⟨j.val / 4096, by omega⟩ e ⟨j.val % 4096, by omega⟩ ⟨s, by omega⟩ hm hs
        ((row_toNat m c h _ _ hm).trans ((Int.ofNat.inj hj).trans (row_toNat m c h e ⟨s, by omega⟩ hs).symm))
      have e1' := Fin.mk.inj (show (⟨j.val / 4096, by omega⟩ : Fin 16) = ⟨e.val, e.isLt⟩ from e1)
      have e2' := Fin.mk.inj e2
      exact Fin.ext (show j.val = 4096 * e.val + s by omega)
    · rw [if_neg hm] at hj
      have : (32768 : ℤ) = (node (arg1 m c) e s).val := hj
      omega
  · pointwise
    rw [show (⟨(4096 * e.val + s) % 4096, by omega⟩ : Fin 4096) = ⟨s, by omega⟩ from Fin.ext (show (4096 * e.val + s) % 4096 = s by omega),
      show (⟨(4096 * e.val + s) / 4096, by omega⟩ : Fin 16) = e from Fin.ext (show (4096 * e.val + s) / 4096 = e.val by omega),
      show m (c.tc.loc main_arg2) (ix2 e (⟨s, by omega⟩ : Fin 4096)) = 1#1 from (pre_mask h e ⟨s, by omega⟩).trans (if_pos hs),
      show STEP^[4096] (entry m c) (Proc.devRef .tc main_v13_8) (ix3 (⟨s, by omega⟩ : Fin 4096) e q) = H m c e (s + 1) q from
        trips_ys (starts m c h) ⟨s, by omega⟩ hs e q 4096 (show s < 4096 by omega) le_rfl, valid_one, mul_one]

end Cert.Proof.Equation.Reference

end
-- ==== Proof.Equation.Result.lean ====
/-
  From memories that agree on the arguments, the kernel and the reference leave the same result: every row is read by some
  example at some step, and both hold there the state after that step.
-/
module

public import proofs.«01_k».proof.Proof.Equation.Output
public import proofs.«01_k».proof.Proof.Equation.Reference
public import proofs.«01_k».proof.Proof.KernelIdeal.Frame

@[expose] public section

set_option maxRecDepth 16384

noncomputable section

namespace Cert.Proof.Equation

open Cert.Proof.KernelIdeal hiding ix2 ix3
open Idealize.ShloMosaic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every row is read. -/
theorem reached (h : PermOK m) (d : Dev Cert.KernelIdeal.nD) (r : Fin 32768) : ∃ (e : Fin 16) (s : ℕ), s < 2048 ∧ node (arg1 m d) e s = r := by
  have inj : Function.Injective fun n : Fin 32768 => (⟨(permOf m d n).toNat, (h d).1 n⟩ : Fin 32768) := fun a b e => (h d).2 (Fin.mk.inj e)
  obtain ⟨n, hn⟩ := Finite.injective_iff_surjective.1 inj r
  refine ⟨⟨n.val % 16, Nat.mod_lt _ (by decide)⟩, n.val / 16, by omega, Fin.ext ?_⟩
  rw [← node_eq m d h ⟨n.val % 16, Nat.mod_lt _ (by decide)⟩ (n.val / 16) (by omega) n (show n.val = 16 * (n.val / 16) + n.val % 16 by omega)]
  exact congrArg Fin.val hn

/-- The memories agree on a device's arguments. -/
structure Agree (c : Dev Cert.KernelIdeal.nD) : Prop where
  a0 : Reference.arg0 m' c = arg0 m c
  a1 : Reference.arg1 m' c = arg1 m c
  a2 : Reference.arg2 m' c = m (c.tc.loc Cert.KernelIdeal.main_arg2)
  a3 : Reference.arg3 m' c = m (c.tc.loc Cert.KernelIdeal.main_arg3)
  a4 : Reference.arg4 m' c = arg4 m c
  a5 : Reference.arg5 m' c = arg5 m c
  a6 : Reference.arg6 m' c = arg6 m c
  a7 : Reference.arg7 m' c = arg7 m c

variable [Cert.Pre_distinct_rows.Facts]

theorem result_eq (h : PreAll m) (c : Dev Cert.KernelIdeal.nD) (k : Agree m m' c) :
    Cert.ReferenceIdeal.Value.out_main_v30 (Cert.ReferenceIdeal.Value.STEP^[4096] (Reference.entry m' c))
      = rd (Wend m c) Cert.KernelIdeal.main_v23 := by
  have pre : Cert.Pre_distinct_rows.fn (F := Ideal) (Reference.arg0 m' c) (Reference.arg1 m' c) (Reference.arg2 m' c) (Reference.arg3 m' c)
      (Reference.arg4 m' c) (Reference.arg5 m' c) (Reference.arg6 m' c) (Reference.arg7 m' c) = fun _ => 1#1 := by
    rw [k.a0, k.a1, k.a2, k.a3, k.a4, k.a5, k.a6, k.a7]
    exact h c
  funext y
  obtain ⟨e, s, hs, hr⟩ := reached m (permOK m h) c (y 0)
  have hy : y = ix2 (node (arg1 m c) e s) (y 1) := by
    rw [hr]
    exact eq_ix2 y
  rw [hy]
  refine Eq.trans ?_ (kernel_value m c (permOK m h) e s hs (y 1)).symm
  have v := Reference.reference_value m' c pre e s hs (y 1)
  unfold Reference.H at v
  rw [k.a0, k.a1, k.a4, k.a5, k.a6, k.a7] at v
  exact v

end Cert.Proof.Equation

end
-- ==== Proof.lean ====
/-
  The claims, assembled. The kernel and its reading over the extended reals run, leave their arguments as they were and every
  counter at zero; so does the reference; the idealization rewrote nothing; and over the extended reals the kernel's result is the
  reference's.
-/
module

public import proofs.«01_k».proof.Defs
public import proofs.«01_k».proof.Proof.Kernel.Frame
public import proofs.«01_k».proof.Proof.KernelIdeal.Frame
public import proofs.«01_k».proof.Proof.Reference.Frame
public import proofs.«01_k».proof.Proof.Equation.Result

@[expose] public section

noncomputable section

namespace Cert.Proof

open Idealize.ShloMosaic Idealize.SL.Sem

theorem frame_kernel : Cert.quiescent_Kernel := fun m g h =>
  (θ_run Cert.Kernel.defs _ _).mono (fun _ hr => ⟨fun c => (hr.1 c).2, hr.2⟩) (Kernel.run_frame m g h)

theorem frame_kernelIdeal : Cert.quiescent_KernelIdeal := fun m g h =>
  (θ_run Cert.KernelIdeal.defs _ _).mono (fun _ hr => ⟨fun c => (hr.1 c).2, hr.2⟩) (KernelIdeal.run_frame m g h)

theorem frame_reference : Cert.quiescent_ReferenceIdeal := fun m g _ => Reference.run_frame m g

theorem frame_reference_pre : Cert.quiescent_ReferenceIdeal_pre_distinct_rows := fun m g _ => Reference.run_frame m g

theorem algebraic : Cert.algebraic_KernelIdeal_ReferenceIdeal := fun m g m' g' h same =>
  ⟨fun c => KernelIdeal.Wend m c (Proc.devRef .tc Cert.KernelIdeal.main_v23),
    (θ_run Cert.KernelIdeal.defs _ _).mono (fun _ hr => hr.1) (KernelIdeal.run_frame m g h),
    (θ_run Cert.ReferenceIdeal.defs _ _).mono
      (fun _ hr c => ⟨(hr c).1.trans (Equation.result_eq m m' h c
        (let ⟨e0, e1, e2, e3, e4, e5, e6, e7⟩ := same c; ⟨e0, e1, e2, e3, e4, e5, e6, e7⟩)), (hr c).2⟩)
      (Cert.ReferenceIdeal.Value.run m' g')⟩

theorem claim : Cert.Claim := ⟨Cert.Kernel.Gen.facts, Cert.KernelIdeal.Gen.facts, Cert.ReferenceIdeal.Gen.facts, Cert.Pre_distinct_rows.Gen.facts,
  frame_kernel, frame_kernelIdeal, frame_reference, frame_reference_pre, trivial, algebraic⟩

end Cert.Proof

end
